-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v247)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v247) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4 : Shape := ⟨2, ![2, 4]⟩
abbrev S128x1 : Shape := ⟨2, ![128, 1]⟩
abbrev S1x128 : Shape := ⟨2, ![1, 128]⟩
abbrev S_ : Shape := ⟨0, ![]⟩
abbrev S128x1x1 : Shape := ⟨3, ![128, 1, 1]⟩
abbrev S128x3x1 : Shape := ⟨3, ![128, 3, 1]⟩
abbrev S1x128x3x1 : Shape := ⟨4, ![1, 128, 3, 1]⟩
abbrev S2x1 : Shape := ⟨2, ![2, 1]⟩
abbrev S2 : Shape := ⟨1, ![2]⟩
abbrev S2x3 : Shape := ⟨2, ![2, 3]⟩
abbrev S2x1x3 : Shape := ⟨3, ![2, 1, 3]⟩
abbrev S2x3x3 : Shape := ⟨3, ![2, 3, 3]⟩
abbrev S128x1x3x1 : Shape := ⟨4, ![128, 1, 3, 1]⟩
abbrev S128x2x3x1 : Shape := ⟨4, ![128, 2, 3, 1]⟩
abbrev S256x3x1 : Shape := ⟨3, ![256, 3, 1]⟩
abbrev S2x1x3x3 : Shape := ⟨4, ![2, 1, 3, 3]⟩
abbrev S2x128x3x3 : Shape := ⟨4, ![2, 128, 3, 3]⟩
abbrev S256x3x3 : Shape := ⟨3, ![256, 3, 3]⟩
abbrev S2x128x3x1 : Shape := ⟨4, ![2, 128, 3, 1]⟩
abbrev S1x1x128x1 : Shape := ⟨4, ![1, 1, 128, 1]⟩
abbrev S2x1x128x1 : Shape := ⟨4, ![2, 1, 128, 1]⟩
abbrev S2x128x1x1 : Shape := ⟨4, ![2, 128, 1, 1]⟩
abbrev S2x128x1 : Shape := ⟨3, ![2, 128, 1]⟩
abbrev S256 : Shape := ⟨1, ![256]⟩
abbrev S7 : Shape := ⟨1, ![7]⟩
abbrev S7x1 : Shape := ⟨2, ![7, 1]⟩
abbrev S1x7 : Shape := ⟨2, ![1, 7]⟩
abbrev S7x7 : Shape := ⟨2, ![7, 7]⟩
abbrev S7x16 : Shape := ⟨2, ![7, 16]⟩
abbrev S112 : Shape := ⟨1, ![112]⟩
abbrev S16384 : Shape := ⟨1, ![16384]⟩
abbrev S128 : Shape := ⟨1, ![128]⟩
abbrev S2x262144 : Shape := ⟨2, ![2, 262144]⟩
abbrev S144 : Shape := ⟨1, ![144]⟩
abbrev S16 : Shape := ⟨1, ![16]⟩
abbrev S1 : Shape := ⟨1, ![1]⟩
abbrev S1x16384 : Shape := ⟨2, ![1, 16384]⟩
abbrev S2x1x512x512 : Shape := ⟨4, ![2, 1, 512, 512]⟩

abbrev nBuf : Table → Nat
  | .hbm => 308
  | .local .scVector .vmem => 5
  | _ => 0

abbrev hbmTy0_0 (i : Nat) : BufTy := match i % 128 with
  | 0 => ⟨S2x4, .f32⟩
  | 1 => ⟨S128x1, .f32⟩
  | 2 => ⟨S128x1, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S128x1, .f32⟩
  | 11 => ⟨S_, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S_, .f32⟩
  | 18 => ⟨S128x1, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x1, .f32⟩
  | 26 => ⟨S128x1x1, .f32⟩
  | 27 => ⟨S128x1x1, .f32⟩
  | 28 => ⟨S128x1, .f32⟩
  | 29 => ⟨S_, .f32⟩
  | 30 => ⟨S128x1, .f32⟩
  | 31 => ⟨S128x1, .f32⟩
  | 32 => ⟨S128x1, .f32⟩
  | 33 => ⟨S128x1, .f32⟩
  | 34 => ⟨S128x1x1, .f32⟩
  | 35 => ⟨S128x1x1, .f32⟩
  | 36 => ⟨S128x1, .f32⟩
  | 37 => ⟨S128x1x1, .f32⟩
  | 38 => ⟨S128x3x1, .f32⟩
  | 39 => ⟨S1x128x3x1, .f32⟩
  | 40 => ⟨S2x1, .f32⟩
  | 41 => ⟨S2, .f32⟩
  | 42 => ⟨S2x1, .f32⟩
  | 43 => ⟨S2, .f32⟩
  | 44 => ⟨S2x1, .f32⟩
  | 45 => ⟨S2, .f32⟩
  | 46 => ⟨S2x1, .f32⟩
  | 47 => ⟨S2, .f32⟩
  | 48 => ⟨S2, .f32⟩
  | 49 => ⟨S2, .f32⟩
  | 50 => ⟨S2, .f32⟩
  | 51 => ⟨S2, .f32⟩
  | 52 => ⟨S2, .f32⟩
  | 53 => ⟨S2, .f32⟩
  | 54 => ⟨S2, .f32⟩
  | 55 => ⟨S2, .f32⟩
  | 56 => ⟨S2, .f32⟩
  | 57 => ⟨S2, .f32⟩
  | 58 => ⟨S_, .f32⟩
  | 59 => ⟨S2, .f32⟩
  | 60 => ⟨S2, .f32⟩
  | 61 => ⟨S2, .f32⟩
  | 62 => ⟨S2, .f32⟩
  | 63 => ⟨S2, .f32⟩
  | 64 => ⟨S_, .f32⟩
  | 65 => ⟨S2, .f32⟩
  | 66 => ⟨S2, .f32⟩
  | 67 => ⟨S2, .f32⟩
  | 68 => ⟨S2, .f32⟩
  | 69 => ⟨S2, .f32⟩
  | 70 => ⟨S_, .f32⟩
  | 71 => ⟨S2, .f32⟩
  | 72 => ⟨S2, .f32⟩
  | 73 => ⟨S2, .f32⟩
  | 74 => ⟨S2, .f32⟩
  | 75 => ⟨S2, .f32⟩
  | 76 => ⟨S2, .f32⟩
  | 77 => ⟨S2, .f32⟩
  | 78 => ⟨S2, .f32⟩
  | 79 => ⟨S2, .f32⟩
  | 80 => ⟨S2, .f32⟩
  | 81 => ⟨S2, .f32⟩
  | 82 => ⟨S2, .f32⟩
  | 83 => ⟨S_, .f32⟩
  | 84 => ⟨S2, .f32⟩
  | 85 => ⟨S2, .f32⟩
  | 86 => ⟨S2, .f32⟩
  | 87 => ⟨S2, .f32⟩
  | 88 => ⟨S2, .f32⟩
  | 89 => ⟨S_, .f32⟩
  | 90 => ⟨S2, .f32⟩
  | 91 => ⟨S2, .f32⟩
  | 92 => ⟨S2, .f32⟩
  | 93 => ⟨S2, .f32⟩
  | 94 => ⟨S2, .f32⟩
  | 95 => ⟨S_, .f32⟩
  | 96 => ⟨S2, .f32⟩
  | 97 => ⟨S2, .f32⟩
  | 98 => ⟨S2, .f32⟩
  | 99 => ⟨S2, .f32⟩
  | 100 => ⟨S2, .f32⟩
  | 101 => ⟨S2, .f32⟩
  | 102 => ⟨S2, .f32⟩
  | 103 => ⟨S2, .f32⟩
  | 104 => ⟨S2, .f32⟩
  | 105 => ⟨S2x1, .f32⟩
  | 106 => ⟨S2x1, .f32⟩
  | 107 => ⟨S2x1, .f32⟩
  | 108 => ⟨S2x3, .f32⟩
  | 109 => ⟨S2x1, .f32⟩
  | 110 => ⟨S2x1, .f32⟩
  | 111 => ⟨S2x1, .f32⟩
  | 112 => ⟨S2x3, .f32⟩
  | 113 => ⟨S2x1, .f32⟩
  | 114 => ⟨S2x1, .f32⟩
  | 115 => ⟨S2x1, .f32⟩
  | 116 => ⟨S2x3, .f32⟩
  | 117 => ⟨S2x1x3, .f32⟩
  | 118 => ⟨S2x1x3, .f32⟩
  | 119 => ⟨S2x1x3, .f32⟩
  | 120 => ⟨S2x3x3, .f32⟩
  | 121 => ⟨S128x1x3x1, .f32⟩
  | 122 => ⟨S128x2x3x1, .f32⟩
  | 123 => ⟨S256x3x1, .f32⟩
  | 124 => ⟨S2x1x3x3, .f32⟩
  | 125 => ⟨S2x128x3x3, .f32⟩
  | 126 => ⟨S256x3x3, .f32⟩
  | 127 => ⟨S256x3x1, .f32⟩
  | _ => ⟨S2x4, .f32⟩

abbrev hbmTy0_1 (i : Nat) : BufTy := match i % 128 with
  | 0 => ⟨S2x128x3x1, .f32⟩
  | 1 => ⟨S1x1x128x1, .f32⟩
  | 2 => ⟨S2x1x128x1, .f32⟩
  | 3 => ⟨S2x128x1x1, .f32⟩
  | 4 => ⟨S2x128x1, .f32⟩
  | 5 => ⟨S2x128x1x1, .f32⟩
  | 6 => ⟨S2x128x1, .f32⟩
  | 7 => ⟨S2x128x1x1, .f32⟩
  | 8 => ⟨S2x128x1, .f32⟩
  | 9 => ⟨S2x128x1, .f32⟩
  | 10 => ⟨S2x128x1, .f32⟩
  | 11 => ⟨S2x128x1, .f32⟩
  | 12 => ⟨S2x128x1, .f32⟩
  | 13 => ⟨S2x128x1, .f32⟩
  | 14 => ⟨S2x128x1, .f32⟩
  | 15 => ⟨S2x128x1, .f32⟩
  | 16 => ⟨S2x128x1, .f32⟩
  | 17 => ⟨S2x128x1, .f32⟩
  | 18 => ⟨S2x128x1, .f32⟩
  | 19 => ⟨S2x128x1, .f32⟩
  | 20 => ⟨S2x128x1, .f32⟩
  | 21 => ⟨S2x128x1, .f32⟩
  | 22 => ⟨S_, .f32⟩
  | 23 => ⟨S2x128x1, .f32⟩
  | 24 => ⟨S2x128x1, .f32⟩
  | 25 => ⟨S_, .f32⟩
  | 26 => ⟨S2x128x1, .f32⟩
  | 27 => ⟨S2x128x1, .f32⟩
  | 28 => ⟨S2x128x1, .f32⟩
  | 29 => ⟨S_, .f32⟩
  | 30 => ⟨S2x128x1, .f32⟩
  | 31 => ⟨S2x128x1, .f32⟩
  | 32 => ⟨S_, .f32⟩
  | 33 => ⟨S2x128x1, .f32⟩
  | 34 => ⟨S2x128x1, .f32⟩
  | 35 => ⟨S_, .f32⟩
  | 36 => ⟨S2x128x1, .f32⟩
  | 37 => ⟨S2x128x1, .f32⟩
  | 38 => ⟨S2x128x1, .f32⟩
  | 39 => ⟨S_, .f32⟩
  | 40 => ⟨S2x128x1, .f32⟩
  | 41 => ⟨S2x128x1, .f32⟩
  | 42 => ⟨S2x128x1, .f32⟩
  | 43 => ⟨S_, .f32⟩
  | 44 => ⟨S2x128x1, .f32⟩
  | 45 => ⟨S2x128x1, .f32⟩
  | 46 => ⟨S_, .f32⟩
  | 47 => ⟨S2x128x1, .f32⟩
  | 48 => ⟨S2x128x1, .f32⟩
  | 49 => ⟨S_, .f32⟩
  | 50 => ⟨S2x128x1, .f32⟩
  | 51 => ⟨S2x128x1, .f32⟩
  | 52 => ⟨S2x128x1, .f32⟩
  | 53 => ⟨S_, .f32⟩
  | 54 => ⟨S2x128x1, .f32⟩
  | 55 => ⟨S2x128x1, .f32⟩
  | 56 => ⟨S_, .f32⟩
  | 57 => ⟨S2x128x1, .f32⟩
  | 58 => ⟨S2x128x1, .f32⟩
  | 59 => ⟨S_, .f32⟩
  | 60 => ⟨S2x128x1, .f32⟩
  | 61 => ⟨S2x128x1, .f32⟩
  | 62 => ⟨S2x128x1, .f32⟩
  | 63 => ⟨S_, .f32⟩
  | 64 => ⟨S2x128x1, .f32⟩
  | 65 => ⟨S2x128x1, .f32⟩
  | 66 => ⟨S2x128x1, .f32⟩
  | 67 => ⟨S_, .f32⟩
  | 68 => ⟨S2x128x1, .f32⟩
  | 69 => ⟨S2x128x1, .f32⟩
  | 70 => ⟨S2x128x1, .f32⟩
  | 71 => ⟨S_, .f32⟩
  | 72 => ⟨S2x128x1, .f32⟩
  | 73 => ⟨S2x128x1, .f32⟩
  | 74 => ⟨S2x128x1, .f32⟩
  | 75 => ⟨S2x128x1x1, .f32⟩
  | 76 => ⟨S_, .f32⟩
  | 77 => ⟨S_, .f32⟩
  | 78 => ⟨S2x128x1, .f32⟩
  | 79 => ⟨S2x128x1, .f32⟩
  | 80 => ⟨S_, .f32⟩
  | 81 => ⟨S2x128x1, .f32⟩
  | 82 => ⟨S2x128x1, .f32⟩
  | 83 => ⟨S_, .f32⟩
  | 84 => ⟨S_, .f32⟩
  | 85 => ⟨S2x128x1, .f32⟩
  | 86 => ⟨S2x128x1, .f32⟩
  | 87 => ⟨S_, .f32⟩
  | 88 => ⟨S2x128x1, .f32⟩
  | 89 => ⟨S2x128x1, .f32⟩
  | 90 => ⟨S_, .f32⟩
  | 91 => ⟨S2x128x1, .f32⟩
  | 92 => ⟨S2x128x1, .f32⟩
  | 93 => ⟨S_, .f32⟩
  | 94 => ⟨S2x128x1, .f32⟩
  | 95 => ⟨S2x128x1, .f32⟩
  | 96 => ⟨S256, .f32⟩
  | 97 => ⟨S256, .i32⟩
  | 98 => ⟨S_, .f32⟩
  | 99 => ⟨S2x128x1, .f32⟩
  | 100 => ⟨S2x128x1, .f32⟩
  | 101 => ⟨S_, .f32⟩
  | 102 => ⟨S2x128x1, .f32⟩
  | 103 => ⟨S2x128x1, .f32⟩
  | 104 => ⟨S256, .f32⟩
  | 105 => ⟨S256, .i32⟩
  | 106 => ⟨S_, .i32⟩
  | 107 => ⟨S256, .i32⟩
  | 108 => ⟨S256, .i1⟩
  | 109 => ⟨S256, .i32⟩
  | 110 => ⟨S256, .i32⟩
  | 111 => ⟨S_, .i32⟩
  | 112 => ⟨S256, .i32⟩
  | 113 => ⟨S256, .i1⟩
  | 114 => ⟨S256, .i32⟩
  | 115 => ⟨S_, .i32⟩
  | 116 => ⟨S256, .i32⟩
  | 117 => ⟨S256, .i32⟩
  | 118 => ⟨S256, .i32⟩
  | 119 => ⟨S256, .i32⟩
  | 120 => ⟨S_, .i32⟩
  | 121 => ⟨S256, .i32⟩
  | 122 => ⟨S256, .i1⟩
  | 123 => ⟨S256, .i32⟩
  | 124 => ⟨S256, .i32⟩
  | 125 => ⟨S_, .i32⟩
  | 126 => ⟨S256, .i32⟩
  | 127 => ⟨S256, .i1⟩
  | _ => ⟨S2x4, .f32⟩

abbrev hbmTy0_2 (i : Nat) : BufTy := match i % 128 with
  | 0 => ⟨S256, .i32⟩
  | 1 => ⟨S256, .i32⟩
  | 2 => ⟨S_, .i32⟩
  | 3 => ⟨S256, .i32⟩
  | 4 => ⟨S256, .i1⟩
  | 5 => ⟨S256, .i32⟩
  | 6 => ⟨S_, .i32⟩
  | 7 => ⟨S256, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S256, .i32⟩
  | 15 => ⟨S256, .i32⟩
  | 16 => ⟨S_, .i32⟩
  | 17 => ⟨S256, .i32⟩
  | 18 => ⟨S256, .i32⟩
  | 19 => ⟨S256, .i32⟩
  | 20 => ⟨S256, .f32⟩
  | 21 => ⟨S256, .f32⟩
  | 22 => ⟨S256, .f32⟩
  | 23 => ⟨S7, .f32⟩
  | 24 => ⟨S_, .f32⟩
  | 25 => ⟨S7, .f32⟩
  | 26 => ⟨S7, .f32⟩
  | 27 => ⟨S7, .f32⟩
  | 28 => ⟨S7, .f32⟩
  | 29 => ⟨S_, .f32⟩
  | 30 => ⟨S7, .f32⟩
  | 31 => ⟨S7, .f32⟩
  | 32 => ⟨S7, .f32⟩
  | 33 => ⟨S_, .f32⟩
  | 34 => ⟨S_, .f32⟩
  | 35 => ⟨S7, .f32⟩
  | 36 => ⟨S7, .f32⟩
  | 37 => ⟨S7x1, .f32⟩
  | 38 => ⟨S1x7, .f32⟩
  | 39 => ⟨S7x7, .f32⟩
  | 40 => ⟨S7x7, .f32⟩
  | 41 => ⟨S7x7, .f32⟩
  | 42 => ⟨S_, .i32⟩
  | 43 => ⟨S_, .f32⟩
  | 44 => ⟨S7x16, .f32⟩
  | 45 => ⟨S112, .f32⟩
  | 46 => ⟨S_, .f32⟩
  | 47 => ⟨S16384, .f32⟩
  | 48 => ⟨S128, .i32⟩
  | 49 => ⟨S128, .f32⟩
  | 50 => ⟨S2x262144, .f32⟩
  | 51 => ⟨S2x1x512x512, .f32⟩
  | _ => ⟨S2x4, .f32⟩

abbrev hbmTy (i : Nat) : BufTy := match i / 128 with
  | 0 => hbmTy0_0 i
  | 1 => hbmTy0_1 i
  | 2 => hbmTy0_2 i
  | _ => ⟨S2x4, .f32⟩

abbrev bufTy : (tb : Table) → Fin (nBuf tb) → BufTy
  | .hbm, ⟨i, _⟩ => hbmTy i
  | .local .scVector .vmem, ⟨0, _⟩ => ⟨S144, .i32⟩
  | .local .scVector .vmem, ⟨1, _⟩ => ⟨S144, .f32⟩
  | .local .scVector .vmem, ⟨2, _⟩ => ⟨S112, .f32⟩
  | .local .scVector .vmem, ⟨3, _⟩ => ⟨S16384, .f32⟩
  | .local .scVector .vmem, ⟨4, _⟩ => ⟨S16384, .f32⟩
  | _, _ => ⟨S2x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_11 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_12 : Ref sig .tc := ⟨.hbm, 150, rfl⟩
abbrev main_v133 : Ref sig .tc := ⟨.hbm, 151, rfl⟩
abbrev main_v134 : Ref sig .tc := ⟨.hbm, 152, rfl⟩
abbrev main_cst_13 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_14 : Ref sig .tc := ⟨.hbm, 157, rfl⟩
abbrev main_v138 : Ref sig .tc := ⟨.hbm, 158, rfl⟩
abbrev main_v139 : Ref sig .tc := ⟨.hbm, 159, rfl⟩
abbrev main_cst_15 : Ref sig .tc := ⟨.hbm, 160, rfl⟩
abbrev main_v140 : Ref sig .tc := ⟨.hbm, 161, rfl⟩
abbrev main_v141 : Ref sig .tc := ⟨.hbm, 162, rfl⟩
abbrev main_cst_16 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_17 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_cst_18 : Ref sig .tc := ⟨.hbm, 171, rfl⟩
abbrev main_v148 : Ref sig .tc := ⟨.hbm, 172, rfl⟩
abbrev main_v149 : Ref sig .tc := ⟨.hbm, 173, rfl⟩
abbrev main_cst_19 : Ref sig .tc := ⟨.hbm, 174, rfl⟩
abbrev main_v150 : Ref sig .tc := ⟨.hbm, 175, rfl⟩
abbrev main_v151 : Ref sig .tc := ⟨.hbm, 176, rfl⟩
abbrev main_cst_20 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_cst_21 : Ref sig .tc := ⟨.hbm, 181, rfl⟩
abbrev main_v155 : Ref sig .tc := ⟨.hbm, 182, rfl⟩
abbrev main_v156 : Ref sig .tc := ⟨.hbm, 183, rfl⟩
abbrev main_cst_22 : Ref sig .tc := ⟨.hbm, 184, rfl⟩
abbrev main_v157 : Ref sig .tc := ⟨.hbm, 185, rfl⟩
abbrev main_v158 : Ref sig .tc := ⟨.hbm, 186, rfl⟩
abbrev main_cst_23 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_cst_24 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_25 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_call0_cst : Ref sig .tc := ⟨.hbm, 199, rfl⟩
abbrev main_call0_v0 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_26 : Ref sig .tc := ⟨.hbm, 204, rfl⟩
abbrev main_call1_v0 : Ref sig .tc := ⟨.hbm, 205, rfl⟩
abbrev main_call1_v1 : Ref sig .tc := ⟨.hbm, 206, rfl⟩
abbrev main_v171 : Ref sig .tc := ⟨.hbm, 207, rfl⟩
abbrev main_cst_27 : Ref sig .tc := ⟨.hbm, 208, rfl⟩
abbrev main_v172 : Ref sig .tc := ⟨.hbm, 209, rfl⟩
abbrev main_v173 : Ref sig .tc := ⟨.hbm, 210, rfl⟩
abbrev main_cst_28 : Ref sig .tc := ⟨.hbm, 211, rfl⟩
abbrev main_call2_v0 : Ref sig .tc := ⟨.hbm, 212, rfl⟩
abbrev main_call2_v1 : Ref sig .tc := ⟨.hbm, 213, rfl⟩
abbrev main_v174 : Ref sig .tc := ⟨.hbm, 214, rfl⟩
abbrev main_cst_29 : Ref sig .tc := ⟨.hbm, 215, rfl⟩
abbrev main_v175 : Ref sig .tc := ⟨.hbm, 216, rfl⟩
abbrev main_v176 : Ref sig .tc := ⟨.hbm, 217, rfl⟩
abbrev main_cst_30 : Ref sig .tc := ⟨.hbm, 218, rfl⟩
abbrev main_v177 : Ref sig .tc := ⟨.hbm, 219, rfl⟩
abbrev main_v178 : Ref sig .tc := ⟨.hbm, 220, rfl⟩
abbrev main_cst_31 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_cst_32 : Ref sig .tc := ⟨.hbm, 226, rfl⟩
abbrev main_v183 : Ref sig .tc := ⟨.hbm, 227, rfl⟩
abbrev main_v184 : Ref sig .tc := ⟨.hbm, 228, rfl⟩
abbrev main_cst_33 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_c : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_c_34 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_c_35 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_c_36 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_c_37 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_c_38 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_c_39 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_c_40 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_c_41 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_cst_42 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_43 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_cst_44 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_c_45 : Ref sig .tc := ⟨.hbm, 298, rfl⟩
abbrev main_call3_v0 : Ref sig .tc := ⟨.hbm, 299, rfl⟩
abbrev main_v241 : Ref sig .tc := ⟨.hbm, 300, rfl⟩
abbrev main_v242 : Ref sig .tc := ⟨.hbm, 301, rfl⟩
abbrev main_cst_46 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v244_scv : Ref sig .scVector := ⟨.hbm, 304, rfl⟩
abbrev main_v245_scv : Ref sig .scVector := ⟨.hbm, 305, rfl⟩
abbrev main_v242_scv : Ref sig .scVector := ⟨.hbm, 301, rfl⟩
abbrev main_v243_scv : Ref sig .scVector := ⟨.hbm, 303, rfl⟩
abbrev main_v246_scv : Ref sig .scVector := ⟨.hbm, 306, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_8 : BitVec 32 := 0#32
  let c64_i32 : BitVec 32 := 64#32
  let v11 : BitVec 32 := Scalar.addi c0_i32_8 c64_i32
  let c1_i32 : BitVec 32 := 1#32
  ⟨c0_i32_8, v11, c1_i32⟩
def k0_off1 (k0_t1 : Fin k0_t1_loop.trips) : Fin 1 → Nat :=
  let c0_i32_8 : BitVec 32 := 0#32
  let c1_i32 : BitVec 32 := 1#32
  let arg15 : BitVec 32 := Scf.iv c0_i32_8 c1_i32 k0_t1
  let v15 : Index := Scalar.indexCast arg15
  ![v15.toNat]
def k0_off2 (k0_t1 : Fin k0_t1_loop.trips) : Fin 1 → Nat :=
  let c0_i32_8 : BitVec 32 := 0#32
  let c1_i32 : BitVec 32 := 1#32
  let arg15 : BitVec 32 := Scf.iv c0_i32_8 c1_i32 k0_t1
  let v122 : Index := Scalar.indexCast arg15
  ![v122.toNat]
def k0_cond1 (i : grid0.Coords) (v18 : BitVec 32) : BitVec 1 :=
  let c9_i32 : BitVec 32 := 9#32
  let v19 : BitVec 32 := Scalar.shrsi v18 c9_i32
  let c3_i32 : BitVec 32 := 3#32
  let v22 : BitVec 32 := Scalar.addi v19 c3_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v23 : BitVec 1 := Scalar.cmpi .sge v22 v2
  let c3_i32_18 : BitVec 32 := 3#32
  let v24 : BitVec 32 := Scalar.subi v19 c3_i32_18
  let c32_i32_19 : BitVec 32 := 32#32
  let v25 : BitVec 32 := Scalar.addi v2 c32_i32_19
  let v26 : BitVec 1 := Scalar.cmpi .slt v24 v25
  let v27 : BitVec 1 := Scalar.andi v23 v26
  let v28 : BitVec 32 := Scalar.extui v27
  let c0_i32_20 : BitVec 32 := 0#32
  let v29 : BitVec 1 := Scalar.cmpi .ne v28 c0_i32_20
  v29

def k0_cond2 (v117 : BitVec 32) : BitVec 1 :=
  let c0_i32_34 : BitVec 32 := 0#32
  let v118 : BitVec 1 := Scalar.cmpi .sge v117 c0_i32_34
  let v119 : BitVec 32 := Scalar.extui v118
  let c0_i32_35 : BitVec 32 := 0#32
  let v120 : BitVec 1 := Scalar.cmpi .ne v119 c0_i32_35
  v120

def k0_cond3 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_39 : BitVec 32 := 3#32
  let v137 : BitVec 32 := Scalar.subi v21 c3_i32_39
  let c0_i32_40 : BitVec 32 := 0#32
  let v138 : BitVec 32 := Scalar.addi v137 c0_i32_40
  let c0_i32_41 : BitVec 32 := 0#32
  let v139 : BitVec 1 := Scalar.cmpi .sge v138 c0_i32_41
  let c32_i32_42 : BitVec 32 := 32#32
  let v140 : BitVec 1 := Scalar.cmpi .slt v138 c32_i32_42
  let v141 : BitVec 1 := Scalar.andi v139 v140
  let v142 : BitVec 32 := Scalar.extui v141
  let c0_i32_43 : BitVec 32 := 0#32
  let v143 : BitVec 1 := Scalar.cmpi .ne v142 c0_i32_43
  v143

def k0_chk1 (i : grid0.Coords) (v18 : BitVec 32) (v117 : BitVec 32) (v193 : IVec S16 32) : Prop :=
  (∀ (k0_h1 : k0_cond1 i v18 = 1#1), ∀ (k0_h2 : k0_cond2 v117 = 1#1), ∀ (k0_h3 : k0_cond3 i v18 = 1#1), ∀ a x, ((![v193] : Fin 1 → IVec S16 32) a x).toNat < S16384.size a)
theorem k0_idx1_inb : ∀ (i : grid0.Coords) (v18 : BitVec 32) (v117 : BitVec 32) (v193 : IVec S16 32) (k0_hw1 : k0_chk1 i v18 v117 v193), ∀ (k0_h1 : k0_cond1 i v18 = 1#1), ∀ (k0_h2 : k0_cond2 v117 = 1#1), ∀ (k0_h3 : k0_cond3 i v18 = 1#1), ∀ a x, ((![v193] : Fin 1 → IVec S16 32) a x).toNat < S16384.size a := fun i v18 v117 v193 k0_hw1 k0_h1 k0_h2 k0_h3 => k0_hw1 k0_h1 k0_h2 k0_h3
def k0_cond4 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_44 : BitVec 32 := 3#32
  let v144 : BitVec 32 := Scalar.subi v21 c3_i32_44
  let c1_i32_45 : BitVec 32 := 1#32
  let v145 : BitVec 32 := Scalar.addi v144 c1_i32_45
  let c0_i32_46 : BitVec 32 := 0#32
  let v146 : BitVec 1 := Scalar.cmpi .sge v145 c0_i32_46
  let c32_i32_47 : BitVec 32 := 32#32
  let v147 : BitVec 1 := Scalar.cmpi .slt v145 c32_i32_47
  let v148 : BitVec 1 := Scalar.andi v146 v147
  let v149 : BitVec 32 := Scalar.extui v148
  let c0_i32_48 : BitVec 32 := 0#32
  let v150 : BitVec 1 := Scalar.cmpi .ne v149 c0_i32_48
  v150

def k0_chk2 (i : grid0.Coords) (v18 : BitVec 32) (v117 : BitVec 32) (v193 : IVec S16 32) : Prop :=
  (∀ (k0_h1 : k0_cond1 i v18 = 1#1), ∀ (k0_h2 : k0_cond2 v117 = 1#1), ∀ (k0_h4 : k0_cond4 i v18 = 1#1), ∀ a x, ((![v193] : Fin 1 → IVec S16 32) a x).toNat < S16384.size a)
theorem k0_idx2_inb : ∀ (i : grid0.Coords) (v18 : BitVec 32) (v117 : BitVec 32) (v193 : IVec S16 32) (k0_hw2 : k0_chk2 i v18 v117 v193), ∀ (k0_h1 : k0_cond1 i v18 = 1#1), ∀ (k0_h2 : k0_cond2 v117 = 1#1), ∀ (k0_h4 : k0_cond4 i v18 = 1#1), ∀ a x, ((![v193] : Fin 1 → IVec S16 32) a x).toNat < S16384.size a := fun i v18 v117 v193 k0_hw2 k0_h1 k0_h2 k0_h4 => k0_hw2 k0_h1 k0_h2 k0_h4
def k0_cond5 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_49 : BitVec 32 := 3#32
  let v151 : BitVec 32 := Scalar.subi v21 c3_i32_49
  let c2_i32 : BitVec 32 := 2#32
  let v152 : BitVec 32 := Scalar.addi v151 c2_i32
  let c0_i32_50 : BitVec 32 := 0#32
  let v153 : BitVec 1 := Scalar.cmpi .sge v152 c0_i32_50
  let c32_i32_51 : BitVec 32 := 32#32
  let v154 : BitVec 1 := Scalar.cmpi .slt v152 c32_i32_51
  let v155 : BitVec 1 := Scalar.andi v153 v154
  let v156 : BitVec 32 := Scalar.extui v155
  let c0_i32_52 : BitVec 32 := 0#32
  let v157 : BitVec 1 := Scalar.cmpi .ne v156 c0_i32_52
  v157

def k0_chk3 (i : grid0.Coords) (v18 : BitVec 32) (v117 : BitVec 32) (v193 : IVec S16 32) : Prop :=
  (∀ (k0_h1 : k0_cond1 i v18 = 1#1), ∀ (k0_h2 : k0_cond2 v117 = 1#1), ∀ (k0_h5 : k0_cond5 i v18 = 1#1), ∀ a x, ((![v193] : Fin 1 → IVec S16 32) a x).toNat < S16384.size a)
theorem k0_idx3_inb : ∀ (i : grid0.Coords) (v18 : BitVec 32) (v117 : BitVec 32) (v193 : IVec S16 32) (k0_hw3 : k0_chk3 i v18 v117 v193), ∀ (k0_h1 : k0_cond1 i v18 = 1#1), ∀ (k0_h2 : k0_cond2 v117 = 1#1), ∀ (k0_h5 : k0_cond5 i v18 = 1#1), ∀ a x, ((![v193] : Fin 1 → IVec S16 32) a x).toNat < S16384.size a := fun i v18 v117 v193 k0_hw3 k0_h1 k0_h2 k0_h5 => k0_hw3 k0_h1 k0_h2 k0_h5
def k0_cond6 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_53 : BitVec 32 := 3#32
  let v158 : BitVec 32 := Scalar.subi v21 c3_i32_53
  let c3_i32_54 : BitVec 32 := 3#32
  let v159 : BitVec 32 := Scalar.addi v158 c3_i32_54
  let c0_i32_55 : BitVec 32 := 0#32
  let v160 : BitVec 1 := Scalar.cmpi .sge v159 c0_i32_55
  let c32_i32_56 : BitVec 32 := 32#32
  let v161 : BitVec 1 := Scalar.cmpi .slt v159 c32_i32_56
  let v162 : BitVec 1 := Scalar.andi v160 v161
  let v163 : BitVec 32 := Scalar.extui v162
  let c0_i32_57 : BitVec 32 := 0#32
  let v164 : BitVec 1 := Scalar.cmpi .ne v163 c0_i32_57
  v164

def k0_chk4 (i : grid0.Coords) (v18 : BitVec 32) (v117 : BitVec 32) (v193 : IVec S16 32) : Prop :=
  (∀ (k0_h1 : k0_cond1 i v18 = 1#1), ∀ (k0_h2 : k0_cond2 v117 = 1#1), ∀ (k0_h6 : k0_cond6 i v18 = 1#1), ∀ a x, ((![v193] : Fin 1 → IVec S16 32) a x).toNat < S16384.size a)
theorem k0_idx4_inb : ∀ (i : grid0.Coords) (v18 : BitVec 32) (v117 : BitVec 32) (v193 : IVec S16 32) (k0_hw4 : k0_chk4 i v18 v117 v193), ∀ (k0_h1 : k0_cond1 i v18 = 1#1), ∀ (k0_h2 : k0_cond2 v117 = 1#1), ∀ (k0_h6 : k0_cond6 i v18 = 1#1), ∀ a x, ((![v193] : Fin 1 → IVec S16 32) a x).toNat < S16384.size a := fun i v18 v117 v193 k0_hw4 k0_h1 k0_h2 k0_h6 => k0_hw4 k0_h1 k0_h2 k0_h6
def k0_cond7 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_58 : BitVec 32 := 3#32
  let v165 : BitVec 32 := Scalar.subi v21 c3_i32_58
  let c4_i32 : BitVec 32 := 4#32
  let v166 : BitVec 32 := Scalar.addi v165 c4_i32
  let c0_i32_59 : BitVec 32 := 0#32
  let v167 : BitVec 1 := Scalar.cmpi .sge v166 c0_i32_59
  let c32_i32_60 : BitVec 32 := 32#32
  let v168 : BitVec 1 := Scalar.cmpi .slt v166 c32_i32_60
  let v169 : BitVec 1 := Scalar.andi v167 v168
  let v170 : BitVec 32 := Scalar.extui v169
  let c0_i32_61 : BitVec 32 := 0#32
  let v171 : BitVec 1 := Scalar.cmpi .ne v170 c0_i32_61
  v171

def k0_chk5 (i : grid0.Coords) (v18 : BitVec 32) (v117 : BitVec 32) (v193 : IVec S16 32) : Prop :=
  (∀ (k0_h1 : k0_cond1 i v18 = 1#1), ∀ (k0_h2 : k0_cond2 v117 = 1#1), ∀ (k0_h7 : k0_cond7 i v18 = 1#1), ∀ a x, ((![v193] : Fin 1 → IVec S16 32) a x).toNat < S16384.size a)
theorem k0_idx5_inb : ∀ (i : grid0.Coords) (v18 : BitVec 32) (v117 : BitVec 32) (v193 : IVec S16 32) (k0_hw5 : k0_chk5 i v18 v117 v193), ∀ (k0_h1 : k0_cond1 i v18 = 1#1), ∀ (k0_h2 : k0_cond2 v117 = 1#1), ∀ (k0_h7 : k0_cond7 i v18 = 1#1), ∀ a x, ((![v193] : Fin 1 → IVec S16 32) a x).toNat < S16384.size a := fun i v18 v117 v193 k0_hw5 k0_h1 k0_h2 k0_h7 => k0_hw5 k0_h1 k0_h2 k0_h7
def k0_cond8 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_62 : BitVec 32 := 3#32
  let v172 : BitVec 32 := Scalar.subi v21 c3_i32_62
  let c5_i32 : BitVec 32 := 5#32
  let v173 : BitVec 32 := Scalar.addi v172 c5_i32
  let c0_i32_63 : BitVec 32 := 0#32
  let v174 : BitVec 1 := Scalar.cmpi .sge v173 c0_i32_63
  let c32_i32_64 : BitVec 32 := 32#32
  let v175 : BitVec 1 := Scalar.cmpi .slt v173 c32_i32_64
  let v176 : BitVec 1 := Scalar.andi v174 v175
  let v177 : BitVec 32 := Scalar.extui v176
  let c0_i32_65 : BitVec 32 := 0#32
  let v178 : BitVec 1 := Scalar.cmpi .ne v177 c0_i32_65
  v178

def k0_chk6 (i : grid0.Coords) (v18 : BitVec 32) (v117 : BitVec 32) (v193 : IVec S16 32) : Prop :=
  (∀ (k0_h1 : k0_cond1 i v18 = 1#1), ∀ (k0_h2 : k0_cond2 v117 = 1#1), ∀ (k0_h8 : k0_cond8 i v18 = 1#1), ∀ a x, ((![v193] : Fin 1 → IVec S16 32) a x).toNat < S16384.size a)
theorem k0_idx6_inb : ∀ (i : grid0.Coords) (v18 : BitVec 32) (v117 : BitVec 32) (v193 : IVec S16 32) (k0_hw6 : k0_chk6 i v18 v117 v193), ∀ (k0_h1 : k0_cond1 i v18 = 1#1), ∀ (k0_h2 : k0_cond2 v117 = 1#1), ∀ (k0_h8 : k0_cond8 i v18 = 1#1), ∀ a x, ((![v193] : Fin 1 → IVec S16 32) a x).toNat < S16384.size a := fun i v18 v117 v193 k0_hw6 k0_h1 k0_h2 k0_h8 => k0_hw6 k0_h1 k0_h2 k0_h8
def k0_cond9 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_66 : BitVec 32 := 3#32
  let v179 : BitVec 32 := Scalar.subi v21 c3_i32_66
  let c6_i32_67 : BitVec 32 := 6#32
  let v180 : BitVec 32 := Scalar.addi v179 c6_i32_67
  let c0_i32_68 : BitVec 32 := 0#32
  let v181 : BitVec 1 := Scalar.cmpi .sge v180 c0_i32_68
  let c32_i32_69 : BitVec 32 := 32#32
  let v182 : BitVec 1 := Scalar.cmpi .slt v180 c32_i32_69
  let v183 : BitVec 1 := Scalar.andi v181 v182
  let v184 : BitVec 32 := Scalar.extui v183
  let c0_i32_70 : BitVec 32 := 0#32
  let v185 : BitVec 1 := Scalar.cmpi .ne v184 c0_i32_70
  v185

def k0_chk7 (i : grid0.Coords) (v18 : BitVec 32) (v117 : BitVec 32) (v193 : IVec S16 32) : Prop :=
  (∀ (k0_h1 : k0_cond1 i v18 = 1#1), ∀ (k0_h2 : k0_cond2 v117 = 1#1), ∀ (k0_h9 : k0_cond9 i v18 = 1#1), ∀ a x, ((![v193] : Fin 1 → IVec S16 32) a x).toNat < S16384.size a)
theorem k0_idx7_inb : ∀ (i : grid0.Coords) (v18 : BitVec 32) (v117 : BitVec 32) (v193 : IVec S16 32) (k0_hw7 : k0_chk7 i v18 v117 v193), ∀ (k0_h1 : k0_cond1 i v18 = 1#1), ∀ (k0_h2 : k0_cond2 v117 = 1#1), ∀ (k0_h9 : k0_cond9 i v18 = 1#1), ∀ a x, ((![v193] : Fin 1 → IVec S16 32) a x).toNat < S16384.size a := fun i v18 v117 v193 k0_hw7 k0_h1 k0_h2 k0_h9 => k0_hw7 k0_h1 k0_h2 k0_h9
@[reducible] def k0_t2_loop : Scf.Loop 32 :=
  let c64_i32_11 : BitVec 32 := 64#32
  let c64_i32_12 : BitVec 32 := 64#32
  let v12 : BitVec 32 := Scalar.addi c64_i32_11 c64_i32_12
  let c1_i32_13 : BitVec 32 := 1#32
  ⟨c64_i32_11, v12, c1_i32_13⟩
def k0_off3 (k0_t2 : Fin k0_t2_loop.trips) : Fin 1 → Nat :=
  let c64_i32_11 : BitVec 32 := 64#32
  let c1_i32_13 : BitVec 32 := 1#32
  let arg15 : BitVec 32 := Scf.iv c64_i32_11 c1_i32_13 k0_t2
  let v15 : Index := Scalar.indexCast arg15
  ![v15.toNat]
def k0_off4 (k0_t2 : Fin k0_t2_loop.trips) : Fin 1 → Nat :=
  let c64_i32_11 : BitVec 32 := 64#32
  let c1_i32_13 : BitVec 32 := 1#32
  let arg15 : BitVec 32 := Scf.iv c64_i32_11 c1_i32_13 k0_t2
  let v122 : Index := Scalar.indexCast arg15
  ![v122.toNat]
def k0_cond10 (i : grid0.Coords) (v18 : BitVec 32) : BitVec 1 :=
  let c9_i32 : BitVec 32 := 9#32
  let v19 : BitVec 32 := Scalar.shrsi v18 c9_i32
  let c3_i32 : BitVec 32 := 3#32
  let v22 : BitVec 32 := Scalar.addi v19 c3_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v23 : BitVec 1 := Scalar.cmpi .sge v22 v2
  let c3_i32_18 : BitVec 32 := 3#32
  let v24 : BitVec 32 := Scalar.subi v19 c3_i32_18
  let c32_i32_19 : BitVec 32 := 32#32
  let v25 : BitVec 32 := Scalar.addi v2 c32_i32_19
  let v26 : BitVec 1 := Scalar.cmpi .slt v24 v25
  let v27 : BitVec 1 := Scalar.andi v23 v26
  let v28 : BitVec 32 := Scalar.extui v27
  let c0_i32_20 : BitVec 32 := 0#32
  let v29 : BitVec 1 := Scalar.cmpi .ne v28 c0_i32_20
  v29

def k0_cond11 (v117 : BitVec 32) : BitVec 1 :=
  let c0_i32_34 : BitVec 32 := 0#32
  let v118 : BitVec 1 := Scalar.cmpi .sge v117 c0_i32_34
  let v119 : BitVec 32 := Scalar.extui v118
  let c0_i32_35 : BitVec 32 := 0#32
  let v120 : BitVec 1 := Scalar.cmpi .ne v119 c0_i32_35
  v120

def k0_cond12 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_39 : BitVec 32 := 3#32
  let v137 : BitVec 32 := Scalar.subi v21 c3_i32_39
  let c0_i32_40 : BitVec 32 := 0#32
  let v138 : BitVec 32 := Scalar.addi v137 c0_i32_40
  let c0_i32_41 : BitVec 32 := 0#32
  let v139 : BitVec 1 := Scalar.cmpi .sge v138 c0_i32_41
  let c32_i32_42 : BitVec 32 := 32#32
  let v140 : BitVec 1 := Scalar.cmpi .slt v138 c32_i32_42
  let v141 : BitVec 1 := Scalar.andi v139 v140
  let v142 : BitVec 32 := Scalar.extui v141
  let c0_i32_43 : BitVec 32 := 0#32
  let v143 : BitVec 1 := Scalar.cmpi .ne v142 c0_i32_43
  v143

def k0_chk8 (i : grid0.Coords) (v18 : BitVec 32) (v117 : BitVec 32) (v193 : IVec S16 32) : Prop :=
  (∀ (k0_h10 : k0_cond10 i v18 = 1#1), ∀ (k0_h11 : k0_cond11 v117 = 1#1), ∀ (k0_h12 : k0_cond12 i v18 = 1#1), ∀ a x, ((![v193] : Fin 1 → IVec S16 32) a x).toNat < S16384.size a)
theorem k0_idx8_inb : ∀ (i : grid0.Coords) (v18 : BitVec 32) (v117 : BitVec 32) (v193 : IVec S16 32) (k0_hw8 : k0_chk8 i v18 v117 v193), ∀ (k0_h10 : k0_cond10 i v18 = 1#1), ∀ (k0_h11 : k0_cond11 v117 = 1#1), ∀ (k0_h12 : k0_cond12 i v18 = 1#1), ∀ a x, ((![v193] : Fin 1 → IVec S16 32) a x).toNat < S16384.size a := fun i v18 v117 v193 k0_hw8 k0_h10 k0_h11 k0_h12 => k0_hw8 k0_h10 k0_h11 k0_h12
def k0_cond13 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_44 : BitVec 32 := 3#32
  let v144 : BitVec 32 := Scalar.subi v21 c3_i32_44
  let c1_i32_45 : BitVec 32 := 1#32
  let v145 : BitVec 32 := Scalar.addi v144 c1_i32_45
  let c0_i32_46 : BitVec 32 := 0#32
  let v146 : BitVec 1 := Scalar.cmpi .sge v145 c0_i32_46
  let c32_i32_47 : BitVec 32 := 32#32
  let v147 : BitVec 1 := Scalar.cmpi .slt v145 c32_i32_47
  let v148 : BitVec 1 := Scalar.andi v146 v147
  let v149 : BitVec 32 := Scalar.extui v148
  let c0_i32_48 : BitVec 32 := 0#32
  let v150 : BitVec 1 := Scalar.cmpi .ne v149 c0_i32_48
  v150

def k0_chk9 (i : grid0.Coords) (v18 : BitVec 32) (v117 : BitVec 32) (v193 : IVec S16 32) : Prop :=
  (∀ (k0_h10 : k0_cond10 i v18 = 1#1), ∀ (k0_h11 : k0_cond11 v117 = 1#1), ∀ (k0_h13 : k0_cond13 i v18 = 1#1), ∀ a x, ((![v193] : Fin 1 → IVec S16 32) a x).toNat < S16384.size a)
theorem k0_idx9_inb : ∀ (i : grid0.Coords) (v18 : BitVec 32) (v117 : BitVec 32) (v193 : IVec S16 32) (k0_hw9 : k0_chk9 i v18 v117 v193), ∀ (k0_h10 : k0_cond10 i v18 = 1#1), ∀ (k0_h11 : k0_cond11 v117 = 1#1), ∀ (k0_h13 : k0_cond13 i v18 = 1#1), ∀ a x, ((![v193] : Fin 1 → IVec S16 32) a x).toNat < S16384.size a := fun i v18 v117 v193 k0_hw9 k0_h10 k0_h11 k0_h13 => k0_hw9 k0_h10 k0_h11 k0_h13
def k0_cond14 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_49 : BitVec 32 := 3#32
  let v151 : BitVec 32 := Scalar.subi v21 c3_i32_49
  let c2_i32 : BitVec 32 := 2#32
  let v152 : BitVec 32 := Scalar.addi v151 c2_i32
  let c0_i32_50 : BitVec 32 := 0#32
  let v153 : BitVec 1 := Scalar.cmpi .sge v152 c0_i32_50
  let c32_i32_51 : BitVec 32 := 32#32
  let v154 : BitVec 1 := Scalar.cmpi .slt v152 c32_i32_51
  let v155 : BitVec 1 := Scalar.andi v153 v154
  let v156 : BitVec 32 := Scalar.extui v155
  let c0_i32_52 : BitVec 32 := 0#32
  let v157 : BitVec 1 := Scalar.cmpi .ne v156 c0_i32_52
  v157

def k0_chk10 (i : grid0.Coords) (v18 : BitVec 32) (v117 : BitVec 32) (v193 : IVec S16 32) : Prop :=
  (∀ (k0_h10 : k0_cond10 i v18 = 1#1), ∀ (k0_h11 : k0_cond11 v117 = 1#1), ∀ (k0_h14 : k0_cond14 i v18 = 1#1), ∀ a x, ((![v193] : Fin 1 → IVec S16 32) a x).toNat < S16384.size a)
theorem k0_idx10_inb : ∀ (i : grid0.Coords) (v18 : BitVec 32) (v117 : BitVec 32) (v193 : IVec S16 32) (k0_hw10 : k0_chk10 i v18 v117 v193), ∀ (k0_h10 : k0_cond10 i v18 = 1#1), ∀ (k0_h11 : k0_cond11 v117 = 1#1), ∀ (k0_h14 : k0_cond14 i v18 = 1#1), ∀ a x, ((![v193] : Fin 1 → IVec S16 32) a x).toNat < S16384.size a := fun i v18 v117 v193 k0_hw10 k0_h10 k0_h11 k0_h14 => k0_hw10 k0_h10 k0_h11 k0_h14
def k0_cond15 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_53 : BitVec 32 := 3#32
  let v158 : BitVec 32 := Scalar.subi v21 c3_i32_53
  let c3_i32_54 : BitVec 32 := 3#32
  let v159 : BitVec 32 := Scalar.addi v158 c3_i32_54
  let c0_i32_55 : BitVec 32 := 0#32
  let v160 : BitVec 1 := Scalar.cmpi .sge v159 c0_i32_55
  let c32_i32_56 : BitVec 32 := 32#32
  let v161 : BitVec 1 := Scalar.cmpi .slt v159 c32_i32_56
  let v162 : BitVec 1 := Scalar.andi v160 v161
  let v163 : BitVec 32 := Scalar.extui v162
  let c0_i32_57 : BitVec 32 := 0#32
  let v164 : BitVec 1 := Scalar.cmpi .ne v163 c0_i32_57
  v164

def k0_chk11 (i : grid0.Coords) (v18 : BitVec 32) (v117 : BitVec 32) (v193 : IVec S16 32) : Prop :=
  (∀ (k0_h10 : k0_cond10 i v18 = 1#1), ∀ (k0_h11 : k0_cond11 v117 = 1#1), ∀ (k0_h15 : k0_cond15 i v18 = 1#1), ∀ a x, ((![v193] : Fin 1 → IVec S16 32) a x).toNat < S16384.size a)
theorem k0_idx11_inb : ∀ (i : grid0.Coords) (v18 : BitVec 32) (v117 : BitVec 32) (v193 : IVec S16 32) (k0_hw11 : k0_chk11 i v18 v117 v193), ∀ (k0_h10 : k0_cond10 i v18 = 1#1), ∀ (k0_h11 : k0_cond11 v117 = 1#1), ∀ (k0_h15 : k0_cond15 i v18 = 1#1), ∀ a x, ((![v193] : Fin 1 → IVec S16 32) a x).toNat < S16384.size a := fun i v18 v117 v193 k0_hw11 k0_h10 k0_h11 k0_h15 => k0_hw11 k0_h10 k0_h11 k0_h15
def k0_cond16 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_58 : BitVec 32 := 3#32
  let v165 : BitVec 32 := Scalar.subi v21 c3_i32_58
  let c4_i32 : BitVec 32 := 4#32
  let v166 : BitVec 32 := Scalar.addi v165 c4_i32
  let c0_i32_59 : BitVec 32 := 0#32
  let v167 : BitVec 1 := Scalar.cmpi .sge v166 c0_i32_59
  let c32_i32_60 : BitVec 32 := 32#32
  let v168 : BitVec 1 := Scalar.cmpi .slt v166 c32_i32_60
  let v169 : BitVec 1 := Scalar.andi v167 v168
  let v170 : BitVec 32 := Scalar.extui v169
  let c0_i32_61 : BitVec 32 := 0#32
  let v171 : BitVec 1 := Scalar.cmpi .ne v170 c0_i32_61
  v171

def k0_chk12 (i : grid0.Coords) (v18 : BitVec 32) (v117 : BitVec 32) (v193 : IVec S16 32) : Prop :=
  (∀ (k0_h10 : k0_cond10 i v18 = 1#1), ∀ (k0_h11 : k0_cond11 v117 = 1#1), ∀ (k0_h16 : k0_cond16 i v18 = 1#1), ∀ a x, ((![v193] : Fin 1 → IVec S16 32) a x).toNat < S16384.size a)
theorem k0_idx12_inb : ∀ (i : grid0.Coords) (v18 : BitVec 32) (v117 : BitVec 32) (v193 : IVec S16 32) (k0_hw12 : k0_chk12 i v18 v117 v193), ∀ (k0_h10 : k0_cond10 i v18 = 1#1), ∀ (k0_h11 : k0_cond11 v117 = 1#1), ∀ (k0_h16 : k0_cond16 i v18 = 1#1), ∀ a x, ((![v193] : Fin 1 → IVec S16 32) a x).toNat < S16384.size a := fun i v18 v117 v193 k0_hw12 k0_h10 k0_h11 k0_h16 => k0_hw12 k0_h10 k0_h11 k0_h16
def k0_cond17 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_62 : BitVec 32 := 3#32
  let v172 : BitVec 32 := Scalar.subi v21 c3_i32_62
  let c5_i32 : BitVec 32 := 5#32
  let v173 : BitVec 32 := Scalar.addi v172 c5_i32
  let c0_i32_63 : BitVec 32 := 0#32
  let v174 : BitVec 1 := Scalar.cmpi .sge v173 c0_i32_63
  let c32_i32_64 : BitVec 32 := 32#32
  let v175 : BitVec 1 := Scalar.cmpi .slt v173 c32_i32_64
  let v176 : BitVec 1 := Scalar.andi v174 v175
  let v177 : BitVec 32 := Scalar.extui v176
  let c0_i32_65 : BitVec 32 := 0#32
  let v178 : BitVec 1 := Scalar.cmpi .ne v177 c0_i32_65
  v178

def k0_chk13 (i : grid0.Coords) (v18 : BitVec 32) (v117 : BitVec 32) (v193 : IVec S16 32) : Prop :=
  (∀ (k0_h10 : k0_cond10 i v18 = 1#1), ∀ (k0_h11 : k0_cond11 v117 = 1#1), ∀ (k0_h17 : k0_cond17 i v18 = 1#1), ∀ a x, ((![v193] : Fin 1 → IVec S16 32) a x).toNat < S16384.size a)
theorem k0_idx13_inb : ∀ (i : grid0.Coords) (v18 : BitVec 32) (v117 : BitVec 32) (v193 : IVec S16 32) (k0_hw13 : k0_chk13 i v18 v117 v193), ∀ (k0_h10 : k0_cond10 i v18 = 1#1), ∀ (k0_h11 : k0_cond11 v117 = 1#1), ∀ (k0_h17 : k0_cond17 i v18 = 1#1), ∀ a x, ((![v193] : Fin 1 → IVec S16 32) a x).toNat < S16384.size a := fun i v18 v117 v193 k0_hw13 k0_h10 k0_h11 k0_h17 => k0_hw13 k0_h10 k0_h11 k0_h17
def k0_cond18 (i : grid0.Coords) (v18 : BitVec 32) : BitVec 1 :=
  let c9_i32 : BitVec 32 := 9#32
  let v19 : BitVec 32 := Scalar.shrsi v18 c9_i32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let v21 : BitVec 32 := Scalar.subi v19 v2
  let c3_i32_66 : BitVec 32 := 3#32
  let v179 : BitVec 32 := Scalar.subi v21 c3_i32_66
  let c6_i32_67 : BitVec 32 := 6#32
  let v180 : BitVec 32 := Scalar.addi v179 c6_i32_67
  let c0_i32_68 : BitVec 32 := 0#32
  let v181 : BitVec 1 := Scalar.cmpi .sge v180 c0_i32_68
  let c32_i32_69 : BitVec 32 := 32#32
  let v182 : BitVec 1 := Scalar.cmpi .slt v180 c32_i32_69
  let v183 : BitVec 1 := Scalar.andi v181 v182
  let v184 : BitVec 32 := Scalar.extui v183
  let c0_i32_70 : BitVec 32 := 0#32
  let v185 : BitVec 1 := Scalar.cmpi .ne v184 c0_i32_70
  v185

def k0_chk14 (i : grid0.Coords) (v18 : BitVec 32) (v117 : BitVec 32) (v193 : IVec S16 32) : Prop :=
  (∀ (k0_h10 : k0_cond10 i v18 = 1#1), ∀ (k0_h11 : k0_cond11 v117 = 1#1), ∀ (k0_h18 : k0_cond18 i v18 = 1#1), ∀ a x, ((![v193] : Fin 1 → IVec S16 32) a x).toNat < S16384.size a)
theorem k0_idx14_inb : ∀ (i : grid0.Coords) (v18 : BitVec 32) (v117 : BitVec 32) (v193 : IVec S16 32) (k0_hw14 : k0_chk14 i v18 v117 v193), ∀ (k0_h10 : k0_cond10 i v18 = 1#1), ∀ (k0_h11 : k0_cond11 v117 = 1#1), ∀ (k0_h18 : k0_cond18 i v18 = 1#1), ∀ a x, ((![v193] : Fin 1 → IVec S16 32) a x).toNat < S16384.size a := fun i v18 v117 v193 k0_hw14 k0_h10 k0_h11 k0_h18 => k0_hw14 k0_h10 k0_h11 k0_h18
def k0_off5 (i : grid0.Coords) : Fin 2 → Nat :=
  let c0_i32_15 : BitVec 32 := 0#32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let c512_i32 : BitVec 32 := 512#32
  let v13 : BitVec 32 := Scalar.muli v2 c512_i32
  ![0, v13.toNat]
def k0_off6 (i : grid0.Coords) : Fin 2 → Nat :=
  let c1_i32_17 : BitVec 32 := 1#32
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c32_i32 : BitVec 32 := 32#32
  let v2 : BitVec 32 := Scalar.muli v1 c32_i32
  let c512_i32_16 : BitVec 32 := 512#32
  let v14 : BitVec 32 := Scalar.muli v2 c512_i32_16
  ![1, v14.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4 : Shape := ⟨2, ![2, 4]⟩
abbrev S128x1 : Shape := ⟨2, ![128, 1]⟩
abbrev S1x128 : Shape := ⟨2, ![1, 128]⟩
abbrev S_ : Shape := ⟨0, ![]⟩
abbrev S128x1x1 : Shape := ⟨3, ![128, 1, 1]⟩
abbrev S128x3x1 : Shape := ⟨3, ![128, 3, 1]⟩
abbrev S1x128x3x1 : Shape := ⟨4, ![1, 128, 3, 1]⟩
abbrev S2x1 : Shape := ⟨2, ![2, 1]⟩
abbrev S2 : Shape := ⟨1, ![2]⟩
abbrev S2x3 : Shape := ⟨2, ![2, 3]⟩
abbrev S2x1x3 : Shape := ⟨3, ![2, 1, 3]⟩
abbrev S2x3x3 : Shape := ⟨3, ![2, 3, 3]⟩
abbrev S128x1x3x1 : Shape := ⟨4, ![128, 1, 3, 1]⟩
abbrev S128x2x3x1 : Shape := ⟨4, ![128, 2, 3, 1]⟩
abbrev S256x3x1 : Shape := ⟨3, ![256, 3, 1]⟩
abbrev S2x1x3x3 : Shape := ⟨4, ![2, 1, 3, 3]⟩
abbrev S2x128x3x3 : Shape := ⟨4, ![2, 128, 3, 3]⟩
abbrev S256x3x3 : Shape := ⟨3, ![256, 3, 3]⟩
abbrev S2x128x3x1 : Shape := ⟨4, ![2, 128, 3, 1]⟩
abbrev S1x1x128x1 : Shape := ⟨4, ![1, 1, 128, 1]⟩
abbrev S2x1x128x1 : Shape := ⟨4, ![2, 1, 128, 1]⟩
abbrev S2x128x1x1 : Shape := ⟨4, ![2, 128, 1, 1]⟩
abbrev S2x128x1 : Shape := ⟨3, ![2, 128, 1]⟩
abbrev S256 : Shape := ⟨1, ![256]⟩
abbrev S256x256 : Shape := ⟨2, ![256, 256]⟩
abbrev S256x1 : Shape := ⟨2, ![256, 1]⟩
abbrev S256x512x512 : Shape := ⟨3, ![256, 512, 512]⟩
abbrev S256x2 : Shape := ⟨2, ![256, 2]⟩
abbrev S2x128x512x512 : Shape := ⟨4, ![2, 128, 512, 512]⟩
abbrev S2x512x512 : Shape := ⟨3, ![2, 512, 512]⟩
abbrev S2x1x512x512 : Shape := ⟨4, ![2, 1, 512, 512]⟩
abbrev S7 : Shape := ⟨1, ![7]⟩
abbrev S7x1 : Shape := ⟨2, ![7, 1]⟩
abbrev S1x7 : Shape := ⟨2, ![1, 7]⟩
abbrev S7x7 : Shape := ⟨2, ![7, 7]⟩
abbrev S2x518x518 : Shape := ⟨3, ![2, 518, 518]⟩
abbrev S512 : Shape := ⟨1, ![512]⟩
abbrev S512x1 : Shape := ⟨2, ![512, 1]⟩
abbrev S512x7 : Shape := ⟨2, ![512, 7]⟩
abbrev S512x7x1 : Shape := ⟨3, ![512, 7, 1]⟩
abbrev S2x512x7x518 : Shape := ⟨4, ![2, 512, 7, 518]⟩
abbrev S2x512x7x512x7 : Shape := ⟨5, ![2, 512, 7, 512, 7]⟩
abbrev S1x1x7x1x7 : Shape := ⟨5, ![1, 1, 7, 1, 7]⟩

abbrev nBuf : Space → Nat
  | .hbm => 366
  | .vmem => 0
  | .smem => 0
  | _ => 0

abbrev hbmTy0_0 (i : Nat) : BufTy := match i % 128 with
  | 0 => ⟨S2x4, .f32⟩
  | 1 => ⟨S128x1, .f32⟩
  | 2 => ⟨S128x1, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S128x1, .f32⟩
  | 11 => ⟨S_, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S_, .f32⟩
  | 18 => ⟨S128x1, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x1, .f32⟩
  | 26 => ⟨S128x1x1, .f32⟩
  | 27 => ⟨S128x1x1, .f32⟩
  | 28 => ⟨S128x1, .f32⟩
  | 29 => ⟨S_, .f32⟩
  | 30 => ⟨S128x1, .f32⟩
  | 31 => ⟨S128x1, .f32⟩
  | 32 => ⟨S128x1, .f32⟩
  | 33 => ⟨S128x1, .f32⟩
  | 34 => ⟨S128x1x1, .f32⟩
  | 35 => ⟨S128x1x1, .f32⟩
  | 36 => ⟨S128x1, .f32⟩
  | 37 => ⟨S128x1x1, .f32⟩
  | 38 => ⟨S128x3x1, .f32⟩
  | 39 => ⟨S1x128x3x1, .f32⟩
  | 40 => ⟨S2x1, .f32⟩
  | 41 => ⟨S2, .f32⟩
  | 42 => ⟨S2x1, .f32⟩
  | 43 => ⟨S2, .f32⟩
  | 44 => ⟨S2x1, .f32⟩
  | 45 => ⟨S2, .f32⟩
  | 46 => ⟨S2x1, .f32⟩
  | 47 => ⟨S2, .f32⟩
  | 48 => ⟨S2, .f32⟩
  | 49 => ⟨S2, .f32⟩
  | 50 => ⟨S2, .f32⟩
  | 51 => ⟨S2, .f32⟩
  | 52 => ⟨S2, .f32⟩
  | 53 => ⟨S2, .f32⟩
  | 54 => ⟨S2, .f32⟩
  | 55 => ⟨S2, .f32⟩
  | 56 => ⟨S2, .f32⟩
  | 57 => ⟨S2, .f32⟩
  | 58 => ⟨S_, .f32⟩
  | 59 => ⟨S2, .f32⟩
  | 60 => ⟨S2, .f32⟩
  | 61 => ⟨S2, .f32⟩
  | 62 => ⟨S2, .f32⟩
  | 63 => ⟨S2, .f32⟩
  | 64 => ⟨S_, .f32⟩
  | 65 => ⟨S2, .f32⟩
  | 66 => ⟨S2, .f32⟩
  | 67 => ⟨S2, .f32⟩
  | 68 => ⟨S2, .f32⟩
  | 69 => ⟨S2, .f32⟩
  | 70 => ⟨S_, .f32⟩
  | 71 => ⟨S2, .f32⟩
  | 72 => ⟨S2, .f32⟩
  | 73 => ⟨S2, .f32⟩
  | 74 => ⟨S2, .f32⟩
  | 75 => ⟨S2, .f32⟩
  | 76 => ⟨S2, .f32⟩
  | 77 => ⟨S2, .f32⟩
  | 78 => ⟨S2, .f32⟩
  | 79 => ⟨S2, .f32⟩
  | 80 => ⟨S2, .f32⟩
  | 81 => ⟨S2, .f32⟩
  | 82 => ⟨S2, .f32⟩
  | 83 => ⟨S_, .f32⟩
  | 84 => ⟨S2, .f32⟩
  | 85 => ⟨S2, .f32⟩
  | 86 => ⟨S2, .f32⟩
  | 87 => ⟨S2, .f32⟩
  | 88 => ⟨S2, .f32⟩
  | 89 => ⟨S_, .f32⟩
  | 90 => ⟨S2, .f32⟩
  | 91 => ⟨S2, .f32⟩
  | 92 => ⟨S2, .f32⟩
  | 93 => ⟨S2, .f32⟩
  | 94 => ⟨S2, .f32⟩
  | 95 => ⟨S_, .f32⟩
  | 96 => ⟨S2, .f32⟩
  | 97 => ⟨S2, .f32⟩
  | 98 => ⟨S2, .f32⟩
  | 99 => ⟨S2, .f32⟩
  | 100 => ⟨S2, .f32⟩
  | 101 => ⟨S2, .f32⟩
  | 102 => ⟨S2, .f32⟩
  | 103 => ⟨S2, .f32⟩
  | 104 => ⟨S2, .f32⟩
  | 105 => ⟨S2x1, .f32⟩
  | 106 => ⟨S2x1, .f32⟩
  | 107 => ⟨S2x1, .f32⟩
  | 108 => ⟨S2x3, .f32⟩
  | 109 => ⟨S2x1, .f32⟩
  | 110 => ⟨S2x1, .f32⟩
  | 111 => ⟨S2x1, .f32⟩
  | 112 => ⟨S2x3, .f32⟩
  | 113 => ⟨S2x1, .f32⟩
  | 114 => ⟨S2x1, .f32⟩
  | 115 => ⟨S2x1, .f32⟩
  | 116 => ⟨S2x3, .f32⟩
  | 117 => ⟨S2x1x3, .f32⟩
  | 118 => ⟨S2x1x3, .f32⟩
  | 119 => ⟨S2x1x3, .f32⟩
  | 120 => ⟨S2x3x3, .f32⟩
  | 121 => ⟨S128x1x3x1, .f32⟩
  | 122 => ⟨S128x2x3x1, .f32⟩
  | 123 => ⟨S256x3x1, .f32⟩
  | 124 => ⟨S2x1x3x3, .f32⟩
  | 125 => ⟨S2x128x3x3, .f32⟩
  | 126 => ⟨S256x3x3, .f32⟩
  | 127 => ⟨S256x3x1, .f32⟩
  | _ => ⟨S2x4, .f32⟩

abbrev hbmTy0_1 (i : Nat) : BufTy := match i % 128 with
  | 0 => ⟨S2x128x3x1, .f32⟩
  | 1 => ⟨S1x1x128x1, .f32⟩
  | 2 => ⟨S2x1x128x1, .f32⟩
  | 3 => ⟨S2x128x1x1, .f32⟩
  | 4 => ⟨S2x128x1, .f32⟩
  | 5 => ⟨S2x128x1x1, .f32⟩
  | 6 => ⟨S2x128x1, .f32⟩
  | 7 => ⟨S2x128x1x1, .f32⟩
  | 8 => ⟨S2x128x1, .f32⟩
  | 9 => ⟨S2x128x1, .f32⟩
  | 10 => ⟨S2x128x1, .f32⟩
  | 11 => ⟨S2x128x1, .f32⟩
  | 12 => ⟨S2x128x1, .f32⟩
  | 13 => ⟨S2x128x1, .f32⟩
  | 14 => ⟨S2x128x1, .f32⟩
  | 15 => ⟨S2x128x1, .f32⟩
  | 16 => ⟨S2x128x1, .f32⟩
  | 17 => ⟨S2x128x1, .f32⟩
  | 18 => ⟨S2x128x1, .f32⟩
  | 19 => ⟨S2x128x1, .f32⟩
  | 20 => ⟨S2x128x1, .f32⟩
  | 21 => ⟨S2x128x1, .f32⟩
  | 22 => ⟨S_, .f32⟩
  | 23 => ⟨S2x128x1, .f32⟩
  | 24 => ⟨S2x128x1, .f32⟩
  | 25 => ⟨S_, .f32⟩
  | 26 => ⟨S2x128x1, .f32⟩
  | 27 => ⟨S2x128x1, .f32⟩
  | 28 => ⟨S2x128x1, .f32⟩
  | 29 => ⟨S_, .f32⟩
  | 30 => ⟨S2x128x1, .f32⟩
  | 31 => ⟨S2x128x1, .f32⟩
  | 32 => ⟨S_, .f32⟩
  | 33 => ⟨S2x128x1, .f32⟩
  | 34 => ⟨S2x128x1, .f32⟩
  | 35 => ⟨S_, .f32⟩
  | 36 => ⟨S2x128x1, .f32⟩
  | 37 => ⟨S2x128x1, .f32⟩
  | 38 => ⟨S2x128x1, .f32⟩
  | 39 => ⟨S_, .f32⟩
  | 40 => ⟨S2x128x1, .f32⟩
  | 41 => ⟨S2x128x1, .f32⟩
  | 42 => ⟨S2x128x1, .f32⟩
  | 43 => ⟨S_, .f32⟩
  | 44 => ⟨S2x128x1, .f32⟩
  | 45 => ⟨S2x128x1, .f32⟩
  | 46 => ⟨S_, .f32⟩
  | 47 => ⟨S2x128x1, .f32⟩
  | 48 => ⟨S2x128x1, .f32⟩
  | 49 => ⟨S_, .f32⟩
  | 50 => ⟨S2x128x1, .f32⟩
  | 51 => ⟨S2x128x1, .f32⟩
  | 52 => ⟨S2x128x1, .f32⟩
  | 53 => ⟨S_, .f32⟩
  | 54 => ⟨S2x128x1, .f32⟩
  | 55 => ⟨S2x128x1, .f32⟩
  | 56 => ⟨S_, .f32⟩
  | 57 => ⟨S2x128x1, .f32⟩
  | 58 => ⟨S2x128x1, .f32⟩
  | 59 => ⟨S_, .f32⟩
  | 60 => ⟨S2x128x1, .f32⟩
  | 61 => ⟨S2x128x1, .f32⟩
  | 62 => ⟨S2x128x1, .f32⟩
  | 63 => ⟨S_, .f32⟩
  | 64 => ⟨S2x128x1, .f32⟩
  | 65 => ⟨S2x128x1, .f32⟩
  | 66 => ⟨S2x128x1, .f32⟩
  | 67 => ⟨S_, .f32⟩
  | 68 => ⟨S2x128x1, .f32⟩
  | 69 => ⟨S2x128x1, .f32⟩
  | 70 => ⟨S2x128x1, .f32⟩
  | 71 => ⟨S_, .f32⟩
  | 72 => ⟨S2x128x1, .f32⟩
  | 73 => ⟨S2x128x1, .f32⟩
  | 74 => ⟨S2x128x1, .f32⟩
  | 75 => ⟨S2x128x1x1, .f32⟩
  | 76 => ⟨S_, .f32⟩
  | 77 => ⟨S_, .f32⟩
  | 78 => ⟨S2x128x1, .f32⟩
  | 79 => ⟨S2x128x1, .f32⟩
  | 80 => ⟨S_, .f32⟩
  | 81 => ⟨S2x128x1, .f32⟩
  | 82 => ⟨S2x128x1, .f32⟩
  | 83 => ⟨S_, .f32⟩
  | 84 => ⟨S2x128x1, .f32⟩
  | 85 => ⟨S2x128x1, .f32⟩
  | 86 => ⟨S_, .f32⟩
  | 87 => ⟨S2x128x1, .f32⟩
  | 88 => ⟨S2x128x1, .f32⟩
  | 89 => ⟨S256, .f32⟩
  | 90 => ⟨S256, .i32⟩
  | 91 => ⟨S_, .f32⟩
  | 92 => ⟨S_, .f32⟩
  | 93 => ⟨S2x128x1, .f32⟩
  | 94 => ⟨S2x128x1, .f32⟩
  | 95 => ⟨S_, .f32⟩
  | 96 => ⟨S2x128x1, .f32⟩
  | 97 => ⟨S2x128x1, .f32⟩
  | 98 => ⟨S_, .f32⟩
  | 99 => ⟨S2x128x1, .f32⟩
  | 100 => ⟨S2x128x1, .f32⟩
  | 101 => ⟨S_, .f32⟩
  | 102 => ⟨S2x128x1, .f32⟩
  | 103 => ⟨S2x128x1, .f32⟩
  | 104 => ⟨S256, .f32⟩
  | 105 => ⟨S256, .i32⟩
  | 106 => ⟨S_, .i32⟩
  | 107 => ⟨S256, .i32⟩
  | 108 => ⟨S256, .i1⟩
  | 109 => ⟨S256, .i32⟩
  | 110 => ⟨S256, .i32⟩
  | 111 => ⟨S_, .i32⟩
  | 112 => ⟨S256, .i32⟩
  | 113 => ⟨S256, .i1⟩
  | 114 => ⟨S256, .i32⟩
  | 115 => ⟨S_, .i32⟩
  | 116 => ⟨S256, .i32⟩
  | 117 => ⟨S256, .i32⟩
  | 118 => ⟨S256, .i32⟩
  | 119 => ⟨S256, .i32⟩
  | 120 => ⟨S_, .i32⟩
  | 121 => ⟨S256, .i32⟩
  | 122 => ⟨S256, .i1⟩
  | 123 => ⟨S256, .i32⟩
  | 124 => ⟨S256, .i32⟩
  | 125 => ⟨S_, .i32⟩
  | 126 => ⟨S256, .i32⟩
  | 127 => ⟨S256, .i1⟩
  | _ => ⟨S2x4, .f32⟩

abbrev hbmTy0_2 (i : Nat) : BufTy := match i % 128 with
  | 0 => ⟨S256, .i32⟩
  | 1 => ⟨S256, .i32⟩
  | 2 => ⟨S_, .i32⟩
  | 3 => ⟨S256, .i32⟩
  | 4 => ⟨S256, .i1⟩
  | 5 => ⟨S256, .i32⟩
  | 6 => ⟨S_, .i32⟩
  | 7 => ⟨S256, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S256, .i32⟩
  | 15 => ⟨S256, .i32⟩
  | 16 => ⟨S256, .f32⟩
  | 17 => ⟨S_, .f32⟩
  | 18 => ⟨S256, .f32⟩
  | 19 => ⟨S256x256, .i32⟩
  | 20 => ⟨S256x256, .i32⟩
  | 21 => ⟨S_, .i32⟩
  | 22 => ⟨S256x256, .i32⟩
  | 23 => ⟨S256x256, .i32⟩
  | 24 => ⟨S256x256, .i1⟩
  | 25 => ⟨S256x1, .f32⟩
  | 26 => ⟨S_, .f32⟩
  | 27 => ⟨S256x256, .f32⟩
  | 28 => ⟨S256x256, .f32⟩
  | 29 => ⟨S256x256, .f32⟩
  | 30 => ⟨S_, .f32⟩
  | 31 => ⟨S256x512x512, .f32⟩
  | 32 => ⟨S_, .i32⟩
  | 33 => ⟨S256, .i32⟩
  | 34 => ⟨S256, .i1⟩
  | 35 => ⟨S_, .i32⟩
  | 36 => ⟨S256, .i32⟩
  | 37 => ⟨S256, .i32⟩
  | 38 => ⟨S256, .i32⟩
  | 39 => ⟨S_, .i32⟩
  | 40 => ⟨S256, .i32⟩
  | 41 => ⟨S256, .i1⟩
  | 42 => ⟨S_, .i32⟩
  | 43 => ⟨S256, .i32⟩
  | 44 => ⟨S256, .i32⟩
  | 45 => ⟨S256, .i32⟩
  | 46 => ⟨S256x1, .i32⟩
  | 47 => ⟨S256x1, .i32⟩
  | 48 => ⟨S256x2, .i32⟩
  | 49 => ⟨S256x512x512, .f32⟩
  | 50 => ⟨S2x128x512x512, .f32⟩
  | 51 => ⟨S2x128x512x512, .f32⟩
  | 52 => ⟨S2x128x512x512, .f32⟩
  | 53 => ⟨S_, .f32⟩
  | 54 => ⟨S2x512x512, .f32⟩
  | 55 => ⟨S2x1x512x512, .f32⟩
  | 56 => ⟨S7, .f32⟩
  | 57 => ⟨S_, .f32⟩
  | 58 => ⟨S7, .f32⟩
  | 59 => ⟨S7, .f32⟩
  | 60 => ⟨S7, .f32⟩
  | 61 => ⟨S7, .f32⟩
  | 62 => ⟨S_, .f32⟩
  | 63 => ⟨S7, .f32⟩
  | 64 => ⟨S7, .f32⟩
  | 65 => ⟨S7, .f32⟩
  | 66 => ⟨S_, .f32⟩
  | 67 => ⟨S_, .f32⟩
  | 68 => ⟨S7, .f32⟩
  | 69 => ⟨S7, .f32⟩
  | 70 => ⟨S7x1, .f32⟩
  | 71 => ⟨S1x7, .f32⟩
  | 72 => ⟨S7x7, .f32⟩
  | 73 => ⟨S7x7, .f32⟩
  | 74 => ⟨S7x7, .f32⟩
  | 75 => ⟨S2x512x512, .f32⟩
  | 76 => ⟨S_, .i32⟩
  | 77 => ⟨S_, .f32⟩
  | 78 => ⟨S2x518x518, .f32⟩
  | 79 => ⟨S512, .i32⟩
  | 80 => ⟨S512x1, .i32⟩
  | 81 => ⟨S7, .i32⟩
  | 82 => ⟨S1x7, .i32⟩
  | 83 => ⟨S512x7, .i32⟩
  | 84 => ⟨S512x7, .i32⟩
  | 85 => ⟨S512x7, .i32⟩
  | 86 => ⟨S_, .i32⟩
  | 87 => ⟨S512x7, .i32⟩
  | 88 => ⟨S512x7, .i1⟩
  | 89 => ⟨S_, .i32⟩
  | 90 => ⟨S512x7, .i32⟩
  | 91 => ⟨S512x7, .i32⟩
  | 92 => ⟨S512x7, .i32⟩
  | 93 => ⟨S512x7x1, .i32⟩
  | 94 => ⟨S2x512x7x518, .f32⟩
  | 95 => ⟨S_, .i32⟩
  | 96 => ⟨S512x7, .i32⟩
  | 97 => ⟨S512x7, .i1⟩
  | 98 => ⟨S_, .i32⟩
  | 99 => ⟨S512x7, .i32⟩
  | 100 => ⟨S512x7, .i32⟩
  | 101 => ⟨S512x7, .i32⟩
  | 102 => ⟨S512x7x1, .i32⟩
  | 103 => ⟨S2x512x7x512x7, .f32⟩
  | 104 => ⟨S1x1x7x1x7, .f32⟩
  | 105 => ⟨S2x512x7x512x7, .f32⟩
  | 106 => ⟨S2x512x7x512x7, .f32⟩
  | 107 => ⟨S_, .f32⟩
  | 108 => ⟨S2x512x512, .f32⟩
  | 109 => ⟨S2x1x512x512, .f32⟩
  | _ => ⟨S2x4, .f32⟩

abbrev hbmTy (i : Nat) : BufTy := match i / 128 with
  | 0 => hbmTy0_0 i
  | 1 => hbmTy0_1 i
  | 2 => hbmTy0_2 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_11 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_12 : Ref sig .tc := ⟨.hbm, 150, rfl⟩
abbrev main_v133 : Ref sig .tc := ⟨.hbm, 151, rfl⟩
abbrev main_v134 : Ref sig .tc := ⟨.hbm, 152, rfl⟩
abbrev main_cst_13 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_14 : Ref sig .tc := ⟨.hbm, 157, rfl⟩
abbrev main_v138 : Ref sig .tc := ⟨.hbm, 158, rfl⟩
abbrev main_v139 : Ref sig .tc := ⟨.hbm, 159, rfl⟩
abbrev main_cst_15 : Ref sig .tc := ⟨.hbm, 160, rfl⟩
abbrev main_v140 : Ref sig .tc := ⟨.hbm, 161, rfl⟩
abbrev main_v141 : Ref sig .tc := ⟨.hbm, 162, rfl⟩
abbrev main_cst_16 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_17 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_cst_18 : Ref sig .tc := ⟨.hbm, 171, rfl⟩
abbrev main_v148 : Ref sig .tc := ⟨.hbm, 172, rfl⟩
abbrev main_v149 : Ref sig .tc := ⟨.hbm, 173, rfl⟩
abbrev main_cst_19 : Ref sig .tc := ⟨.hbm, 174, rfl⟩
abbrev main_v150 : Ref sig .tc := ⟨.hbm, 175, rfl⟩
abbrev main_v151 : Ref sig .tc := ⟨.hbm, 176, rfl⟩
abbrev main_cst_20 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_cst_21 : Ref sig .tc := ⟨.hbm, 181, rfl⟩
abbrev main_v155 : Ref sig .tc := ⟨.hbm, 182, rfl⟩
abbrev main_v156 : Ref sig .tc := ⟨.hbm, 183, rfl⟩
abbrev main_cst_22 : Ref sig .tc := ⟨.hbm, 184, rfl⟩
abbrev main_v157 : Ref sig .tc := ⟨.hbm, 185, rfl⟩
abbrev main_v158 : Ref sig .tc := ⟨.hbm, 186, rfl⟩
abbrev main_cst_23 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_cst_24 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_25 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_call0_cst : Ref sig .tc := ⟨.hbm, 199, rfl⟩
abbrev main_call0_v0 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_26 : Ref sig .tc := ⟨.hbm, 204, rfl⟩
abbrev main_call1_v0 : Ref sig .tc := ⟨.hbm, 205, rfl⟩
abbrev main_call1_v1 : Ref sig .tc := ⟨.hbm, 206, rfl⟩
abbrev main_v171 : Ref sig .tc := ⟨.hbm, 207, rfl⟩
abbrev main_cst_27 : Ref sig .tc := ⟨.hbm, 208, rfl⟩
abbrev main_v172 : Ref sig .tc := ⟨.hbm, 209, rfl⟩
abbrev main_v173 : Ref sig .tc := ⟨.hbm, 210, rfl⟩
abbrev main_cst_28 : Ref sig .tc := ⟨.hbm, 211, rfl⟩
abbrev main_v174 : Ref sig .tc := ⟨.hbm, 212, rfl⟩
abbrev main_v175 : Ref sig .tc := ⟨.hbm, 213, rfl⟩
abbrev main_cst_29 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_cst_30 : Ref sig .tc := ⟨.hbm, 219, rfl⟩
abbrev main_call2_v0 : Ref sig .tc := ⟨.hbm, 220, rfl⟩
abbrev main_call2_v1 : Ref sig .tc := ⟨.hbm, 221, rfl⟩
abbrev main_v180 : Ref sig .tc := ⟨.hbm, 222, rfl⟩
abbrev main_cst_31 : Ref sig .tc := ⟨.hbm, 223, rfl⟩
abbrev main_v181 : Ref sig .tc := ⟨.hbm, 224, rfl⟩
abbrev main_v182 : Ref sig .tc := ⟨.hbm, 225, rfl⟩
abbrev main_cst_32 : Ref sig .tc := ⟨.hbm, 226, rfl⟩
abbrev main_v183 : Ref sig .tc := ⟨.hbm, 227, rfl⟩
abbrev main_v184 : Ref sig .tc := ⟨.hbm, 228, rfl⟩
abbrev main_cst_33 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_c : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_c_34 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_c_35 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_c_36 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_c_37 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_c_38 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_c_39 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_c_40 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_call3_cst : Ref sig .tc := ⟨.hbm, 273, rfl⟩
abbrev main_call3_v0 : Ref sig .tc := ⟨.hbm, 274, rfl⟩
abbrev main_call3_v1 : Ref sig .tc := ⟨.hbm, 275, rfl⟩
abbrev main_call3_v2 : Ref sig .tc := ⟨.hbm, 276, rfl⟩
abbrev main_call3_c : Ref sig .tc := ⟨.hbm, 277, rfl⟩
abbrev main_call3_v3 : Ref sig .tc := ⟨.hbm, 278, rfl⟩
abbrev main_call3_v4 : Ref sig .tc := ⟨.hbm, 279, rfl⟩
abbrev main_call3_v5 : Ref sig .tc := ⟨.hbm, 280, rfl⟩
abbrev main_call3_v6 : Ref sig .tc := ⟨.hbm, 281, rfl⟩
abbrev main_call3_cst_0 : Ref sig .tc := ⟨.hbm, 282, rfl⟩
abbrev main_call3_call0_v0 : Ref sig .tc := ⟨.hbm, 283, rfl⟩
abbrev main_call3_call0_v1 : Ref sig .tc := ⟨.hbm, 284, rfl⟩
abbrev main_v220 : Ref sig .tc := ⟨.hbm, 285, rfl⟩
abbrev main_cst_41 : Ref sig .tc := ⟨.hbm, 286, rfl⟩
abbrev main_v221 : Ref sig .tc := ⟨.hbm, 287, rfl⟩
abbrev main_c_42 : Ref sig .tc := ⟨.hbm, 288, rfl⟩
abbrev main_v222 : Ref sig .tc := ⟨.hbm, 289, rfl⟩
abbrev main_v223 : Ref sig .tc := ⟨.hbm, 290, rfl⟩
abbrev main_c_43 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_c_44 : Ref sig .tc := ⟨.hbm, 295, rfl⟩
abbrev main_v227 : Ref sig .tc := ⟨.hbm, 296, rfl⟩
abbrev main_v228 : Ref sig .tc := ⟨.hbm, 297, rfl⟩
abbrev main_c_45 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_cst_46 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_cst_47 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_cst_48 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_cst_49 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_c_50 : Ref sig .tc := ⟨.hbm, 332, rfl⟩
abbrev main_call4_v0 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_c_51 : Ref sig .tc := ⟨.hbm, 342, rfl⟩
abbrev main_v266 : Ref sig .tc := ⟨.hbm, 343, rfl⟩
abbrev main_v267 : Ref sig .tc := ⟨.hbm, 344, rfl⟩
abbrev main_c_52 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_c_53 : Ref sig .tc := ⟨.hbm, 351, rfl⟩
abbrev main_v273 : Ref sig .tc := ⟨.hbm, 352, rfl⟩
abbrev main_v274 : Ref sig .tc := ⟨.hbm, 353, rfl⟩
abbrev main_c_54 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_cst_55 : Ref sig .tc := ⟨.hbm, 363, rfl⟩
abbrev main_v283 : Ref sig .tc := ⟨.hbm, 364, rfl⟩
abbrev main_v284 : Ref sig .tc := ⟨.hbm, 365, rfl⟩

abbrev nD : Nat := 1
abbrev τ : Topo := Topo.v7x

variable {F : FTy → Type} [FloatOps F]
-- ==== Proof.Base.lean ====
/-
  What the launch of the sky kernel is to the library: its configuration, its facts, the resource algebra (the
  handshakes' rounds beside the transfers' counters), and the memrefs a task's body is called at.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Sky

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's calls. -/
abbrev ΛP : Labels := Pipeline.Sig Λ₀ (Fin 0) fun p => (pcfgs (F := F) p).Adm
/-- The configuration of the one SparseCore call. -/
abbrev K : SparseCore.Cfg τ sig (ΛP (F := F)) 1 := sc (F := F)
/-- The call runs on 16 subcores. -/
theorem nSub_zero : (K (F := F)).nSub 0 = 16 := rfl
/-- The definitions of the program. -/
abbrev D [FloatOps F] : Defs nD τ sig (Elt F) (ΛP (F := F)) := Pipeline.defs pcfgs defs₀
/-- No loop needs a variant. -/
abbrev 𝒱₀ : Variants := Variants.none
abbrev 𝒱 : Variants := 𝒱₀.lift
abbrev v₀ : 𝒱.V := Sum.inl none

/-- The call's semaphores are apart and not scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The ghost state of the call's handshakes. -/
abbrev UH : Type := URounds (GSem nD τ sig) ℕ
/-- The ghost state of the whole proof. -/
abbrev UU : Type := UH × Counters

local notation "𝕄" => MT nD τ sig (HIx 1) (Elt F) ℕ UU ℕ

/-- The handshakes' rounds, the left factor; the transfers' counters are found by instance in the right. -/
abbrev EH : Emb UH (MT nD τ sig (HIx 1) (Elt F) ℕ UU ℕ) := embL

/-! ## The task's coordinates -/

/-- The coordinates of the task on SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The SparseCore and the subcore of a task's coordinates. -/
abbrev cV (i : grid0.Coords) : Fin τ.nSC := (i 0).castLE hcore0
abbrev jV (i : grid0.Coords) : Fin τ.nSub := (i 1).castLE hsub0
/-- A task's thread on device `d`. -/
abbrev thr (d : Dev nD) (i : grid0.Coords) : Thread nD τ := V d (cV i) (jV i)

end Cert.Sky

end
-- ==== Proof.Body.lean ====
/-
  The star loops' body, written once for the two loops: both are `starBody`, at the first or the second stripe. Each of the
  seven guarded rows of the patch is `block`, a conditional store in continuation form.
-/
module

public import proofs.«01_k».proof.Proof.Base

@[expose] public section

noncomputable section

namespace Cert.Sky

open Cert.KernelIdeal Cert.KernelIdeal.Gen

open Idealize.ShloMosaic
open Idealize.ShloMosaic.SparseCore (S V T)
open Idealize.SL Idealize.SL.RA Idealize.SL.BI Idealize.SL.Sem

variable {F : FTy → Type} [FloatOps F]

/-- The programs of the task at coordinates `i`. -/
abbrev TProg (F : FTy → Type) (i : grid0.Coords) : Type → Type 1 :=
  Prog (TpuEff nD τ sig (Elt F) Λ₀ (.scVector ((i 0).castLE hcore0) ((i 1).castLE hsub0)))

/-- The first row of the image the task at `i` owns, as a word. -/
def baseW (i : grid0.Coords) : BitVec 32 :=
  Scalar.muli (Scalar.addi (BitVec.ofNat 32 (i 1).val) (Scalar.muli (BitVec.ofNat 32 (i 0).val) 16#32)) 32#32

/-- The row of the task's stripe that row `d` of the patch of the star at `key` falls on, as a word. -/
def rowW (i : grid0.Coords) (key d : BitVec 32) : BitVec 32 :=
  Scalar.addi (Scalar.subi (Scalar.subi (Scalar.shrsi key 9#32) (baseW i)) 3#32) d

/-- The sixteen indices of the stripe that row `d` of the patch is stored at; zero where the lane is masked. -/
def skyIdx (i : grid0.Coords) (key d : BitVec 32) : IVec S16 32 :=
  select (k0_pay3 (Scalar.andi key 511#32))
    (addi (broadcast S16 (Scalar.muli (rowW i key d) 512#32)) (k0_pay2 (Scalar.andi key 511#32))) (broadcast S16 0#32)

/-- One guarded row of the patch, followed by `k`: the row of the patch is read, scaled, and added into the stripe. -/
def block {α : Type} (i : grid0.Coords) (aG : Memref sig .scVector .vmem S112 .f32) (aS : Memref sig .scVector .vmem S16384 .f32)
    (hs : (aS.access (.whole S16384)).Stores Finset.univ) (c : Prop) [Decidable c] (chk : Prop) (dec : Decidable chk)
    (off : Fin 1 → Nat) (hoff : ∀ a, off a + S16.size a ≤ S112.size a) (idx : IVec S16 32) (w : F .f32) (mask : IVec S16 1)
    (hin : chk → c → ∀ a x, ((![idx] : Fin 1 → IVec S16 32) a x).toNat < S16384.size a) (k : TProg F i α) : TProg F i α :=
  if h : c then do
    let v : Vec F S16 .f32 ← Prog.lift (.load aG (Rect.unit (s := S112) off S16.size hoff).toLoadRect (View.loadsAt_vmem h_S16))
    let u ← Prog.lift (TpuEff.assume chk dec)
    SparseCore.vectorStoreIdx aS ![idx] (mulf (broadcast S16 w) v) mask true (hin u.down h) hs
    k
  else k

/-- A bind after a block goes into its continuation. -/
theorem block_bind {α β : Type} (i : grid0.Coords) (aG : Memref sig .scVector .vmem S112 .f32) (aS : Memref sig .scVector .vmem S16384 .f32)
    (hs : (aS.access (.whole S16384)).Stores Finset.univ) (c : Prop) [Decidable c] (chk : Prop) (dec : Decidable chk)
    (off : Fin 1 → Nat) (hoff : ∀ a, off a + S16.size a ≤ S112.size a) (idx : IVec S16 32) (w : F .f32) (mask : IVec S16 1)
    (hin : chk → c → ∀ a x, ((![idx] : Fin 1 → IVec S16 32) a x).toNat < S16384.size a) (k : TProg F i α) (q : α → TProg F i β) :
    block i aG aS hs c chk dec off hoff idx w mask hin k >>= q = block i aG aS hs c chk dec off hoff idx w mask hin (k >>= q) := by
  unfold block
  by_cases h : c
  · rw [dif_pos h, dif_pos h]; rfl
  · rw [dif_neg h, dif_neg h]

/-- The word the liveness test reads: the least, over the lanes, of the or of `j - jp` at the stars of the same key. -/
def deadW (j key : BitVec 32) (c0 c1 c2 c3 c4 c5 c6 c7 : Vec F S16 .i32) : BitVec 32 :=
  extractAt ![15] (k0_pay12 j key (iota .scVector S16 32 [0] iota_S16_d0_w32_scVector) (k0_pay10 j key c0 c1 c2 c3) c4 k0_pay11 c5 c6 c7) inpos_S16_p15

/-- The seven rows of the patch of the star at `key`, one block after another. -/
def rows (i : grid0.Coords) (aG : Memref sig .scVector .vmem S112 .f32) (aS : Memref sig .scVector .vmem S16384 .f32)
    (hs : (aS.access (.whole S16384)).Stores Finset.univ) (key dead : BitVec 32) (h1 : k0_cond1 i key = 1#1) (h2 : k0_cond2 dead = 1#1)
    (w : F .f32) : TProg F i PUnit :=
  block i aG aS hs (k0_cond3 i key = 1#1) (k0_chk1 i key dead (skyIdx i key 0#32)) (k0_chk1.dec i key dead (skyIdx i key 0#32)) ![0] inb_S112_S16_0 (skyIdx i key 0#32) w
      (k0_pay3 (Scalar.andi key 511#32)) (fun hw h => hw h1 h2 h) <|
  block i aG aS hs (k0_cond4 i key = 1#1) (k0_chk2 i key dead (skyIdx i key 1#32)) (k0_chk2.dec i key dead (skyIdx i key 1#32)) ![16] inb_S112_S16_16 (skyIdx i key 1#32) w
      (k0_pay3 (Scalar.andi key 511#32)) (fun hw h => hw h1 h2 h) <|
  block i aG aS hs (k0_cond5 i key = 1#1) (k0_chk3 i key dead (skyIdx i key 2#32)) (k0_chk3.dec i key dead (skyIdx i key 2#32)) ![32] inb_S112_S16_32 (skyIdx i key 2#32) w
      (k0_pay3 (Scalar.andi key 511#32)) (fun hw h => hw h1 h2 h) <|
  block i aG aS hs (k0_cond6 i key = 1#1) (k0_chk4 i key dead (skyIdx i key 3#32)) (k0_chk4.dec i key dead (skyIdx i key 3#32)) ![48] inb_S112_S16_48 (skyIdx i key 3#32) w
      (k0_pay3 (Scalar.andi key 511#32)) (fun hw h => hw h1 h2 h) <|
  block i aG aS hs (k0_cond7 i key = 1#1) (k0_chk5 i key dead (skyIdx i key 4#32)) (k0_chk5.dec i key dead (skyIdx i key 4#32)) ![64] inb_S112_S16_64 (skyIdx i key 4#32) w
      (k0_pay3 (Scalar.andi key 511#32)) (fun hw h => hw h1 h2 h) <|
  block i aG aS hs (k0_cond8 i key = 1#1) (k0_chk6 i key dead (skyIdx i key 5#32)) (k0_chk6.dec i key dead (skyIdx i key 5#32)) ![80] inb_S112_S16_80 (skyIdx i key 5#32) w
      (k0_pay3 (Scalar.andi key 511#32)) (fun hw h => hw h1 h2 h) <|
  block i aG aS hs (k0_cond9 i key = 1#1) (k0_chk7 i key dead (skyIdx i key 6#32)) (k0_chk7.dec i key dead (skyIdx i key 6#32)) ![96] inb_S112_S16_96 (skyIdx i key 6#32) w
      (k0_pay3 (Scalar.andi key 511#32)) (fun hw h => hw h1 h2 h) <|
  pure ⟨⟩

/-- A star's weight is read and the first three rows of its patch stored, followed by `k` of the weight read. -/
def first3 {α : Type} (i : grid0.Coords) (aF : Memref sig .scVector .vmem S144 .f32) (aG : Memref sig .scVector .vmem S112 .f32) (aS : Memref sig .scVector .vmem S16384 .f32)
    (hs : (aS.access (.whole S16384)).Stores Finset.univ) (key dead : BitVec 32) (h1 : k0_cond1 i key = 1#1) (h2 : k0_cond2 dead = 1#1)
    (off' : Fin 1 → Nat) (hoff' : ∀ a, off' a + S16.size a ≤ S144.size a) (k : Vec F S16 .f32 → TProg F i α) : TProg F i α := do
  let v : Vec F S16 .f32 ← Prog.lift (.load aF (Rect.unit (s := S144) off' S16.size hoff').toLoadRect (View.loadsAt_vmem h_S16))
  block i aG aS hs (k0_cond3 i key = 1#1) (k0_chk1 i key dead (skyIdx i key 0#32)) (k0_chk1.dec i key dead (skyIdx i key 0#32)) ![0] inb_S112_S16_0 (skyIdx i key 0#32) (k0_pay1 v)
      (k0_pay3 (Scalar.andi key 511#32)) (fun hw h => hw h1 h2 h) <|
  block i aG aS hs (k0_cond4 i key = 1#1) (k0_chk2 i key dead (skyIdx i key 1#32)) (k0_chk2.dec i key dead (skyIdx i key 1#32)) ![16] inb_S112_S16_16 (skyIdx i key 1#32) (k0_pay1 v)
      (k0_pay3 (Scalar.andi key 511#32)) (fun hw h => hw h1 h2 h) <|
  block i aG aS hs (k0_cond5 i key = 1#1) (k0_chk3 i key dead (skyIdx i key 2#32)) (k0_chk3.dec i key dead (skyIdx i key 2#32)) ![32] inb_S112_S16_32 (skyIdx i key 2#32) (k0_pay1 v)
      (k0_pay3 (Scalar.andi key 511#32)) (fun hw h => hw h1 h2 h) <|
  k v

/-- A bind after the first three rows goes into their continuation. -/
theorem first3_bind {α β : Type} (i : grid0.Coords) (aF : Memref sig .scVector .vmem S144 .f32) (aG : Memref sig .scVector .vmem S112 .f32) (aS : Memref sig .scVector .vmem S16384 .f32)
    (hs : (aS.access (.whole S16384)).Stores Finset.univ) (key dead : BitVec 32) (h1 : k0_cond1 i key = 1#1) (h2 : k0_cond2 dead = 1#1)
    (off' : Fin 1 → Nat) (hoff' : ∀ a, off' a + S16.size a ≤ S144.size a) (k : Vec F S16 .f32 → TProg F i α) (q : α → TProg F i β) :
    first3 i aF aG aS hs key dead h1 h2 off' hoff' k >>= q = first3 i aF aG aS hs key dead h1 h2 off' hoff' (fun v => k v >>= q) := by
  unfold first3
  simp only [← block_bind]
  rfl

/-- One star's trip: its key is read; if its patch can meet the stripe, the liveness test over the 128 keys; if it is alive,
    its weight is read and its seven rows stored. `j` is the star's number as a word, `off` the same as an offset. -/
def starBody (i : grid0.Coords) (aK : Memref sig .scVector .vmem S144 .i32) (aF : Memref sig .scVector .vmem S144 .f32)
    (aG : Memref sig .scVector .vmem S112 .f32) (aS : Memref sig .scVector .vmem S16384 .f32) (hs : (aS.access (.whole S16384)).Stores Finset.univ)
    (j : BitVec 32) (off : Fin 1 → Nat) (hoff : ∀ a, off a + S16.size a ≤ S144.size a)
    (off' : Fin 1 → Nat) (hoff' : ∀ a, off' a + S16.size a ≤ S144.size a) : TProg F i Unit := do
  let v16 : Vec F S16 .i32 ← Prog.lift (.load aK (Rect.unit (s := S144) off S16.size hoff).toLoadRect (View.loadsAt_vmem h_S16))
  let key : BitVec 32 := extractAt ![0] (k0_pay25 v16) inpos_S1_p0
  if h1 : k0_cond1 i key = 1#1 then do
    let c0 : Vec F S16 .i32 ← Prog.lift (.load aK (Rect.unit (s := S144) ![0] S16.size inb_S144_S16_0).toLoadRect (View.loadsAt_vmem h_S16))
    let c1 : Vec F S16 .i32 ← Prog.lift (.load aK (Rect.unit (s := S144) ![16] S16.size inb_S144_S16_16).toLoadRect (View.loadsAt_vmem h_S16))
    let c2 : Vec F S16 .i32 ← Prog.lift (.load aK (Rect.unit (s := S144) ![32] S16.size inb_S144_S16_32).toLoadRect (View.loadsAt_vmem h_S16))
    let c3 : Vec F S16 .i32 ← Prog.lift (.load aK (Rect.unit (s := S144) ![48] S16.size inb_S144_S16_48).toLoadRect (View.loadsAt_vmem h_S16))
    let c4 : Vec F S16 .i32 ← Prog.lift (.load aK (Rect.unit (s := S144) ![64] S16.size inb_S144_S16_64).toLoadRect (View.loadsAt_vmem h_S16))
    let c5 : Vec F S16 .i32 ← Prog.lift (.load aK (Rect.unit (s := S144) ![80] S16.size inb_S144_S16_80).toLoadRect (View.loadsAt_vmem h_S16))
    let c6 : Vec F S16 .i32 ← Prog.lift (.load aK (Rect.unit (s := S144) ![96] S16.size inb_S144_S16_96).toLoadRect (View.loadsAt_vmem h_S16))
    let c7 : Vec F S16 .i32 ← Prog.lift (.load aK (Rect.unit (s := S144) ![112] S16.size inb_S144_S16_112).toLoadRect (View.loadsAt_vmem h_S16))
    if h2 : k0_cond2 (deadW j key c0 c1 c2 c3 c4 c5 c6 c7) = 1#1 then do
      let v123 : Vec F S16 .f32 ← Prog.lift (.load aF (Rect.unit (s := S144) off' S16.size hoff').toLoadRect (View.loadsAt_vmem h_S16))
      rows i aG aS hs key (deadW j key c0 c1 c2 c3 c4 c5 c6 c7) h1 h2 (k0_pay1 v123)
    else pure ⟨⟩
  else pure ⟨⟩

section Eq

variable (i : grid0.Coords) (arg2 : Memref sig .scVector .hbm S128 .i32) (harg2 : arg2.IsWhole) (arg3 : Memref sig .scVector .hbm S128 .f32) (harg3 : arg3.IsWhole) (arg4 : Memref sig .scVector .hbm S112 .f32) (harg4 : arg4.IsWhole) (arg5 : Memref sig .scVector .hbm S16384 .f32) (harg5 : arg5.IsWhole) (arg6 : Memref sig .scVector .hbm S2x262144 .f32) (harg6 : arg6.IsWhole) (arg7 : Memref sig .scVector .vmem S144 .i32) (harg7 : arg7.IsWhole) (arg8 : Memref sig .scVector .vmem S144 .f32) (harg8 : arg8.IsWhole) (arg9 : Memref sig .scVector .vmem S112 .f32) (harg9 : arg9.IsWhole) (arg10 : Memref sig .scVector .vmem S16384 .f32) (harg10 : arg10.IsWhole) (arg11 : Memref sig .scVector .vmem S16384 .f32) (harg11 : arg11.IsWhole) (arg12 arg13 arg14 v15_r0 v15_r1 : DmaSems sig S_)

/-- The first three rows of the first loop's body as three blocks. -/
theorem t1_first_eq (t : Fin k0_t1_loop.trips) (j key dead : BitVec 32) (h1 : k0_cond1 i key = 1#1) (h2 : k0_cond2 dead = 1#1) :
    k0_part1 (F := F) i arg2 harg2 arg3 harg3 arg4 harg4 arg5 harg5 arg6 harg6 arg7 harg7 arg8 harg8 arg9 harg9 arg10 harg10 arg11 harg11 arg12 arg13 arg14 v15_r0 v15_r1 t j key (Scalar.andi key 511#32) (Scalar.subi (Scalar.shrsi key 9#32) (baseW i)) h1 dead h2
      = first3 i arg8 arg9 arg10 (View.stores_vmem_bits_univ h_S16384 rfl) key dead h1 h2 (k0_off2 t) (k0_off2_inb t) (fun v =>
          pure ⟨k0_pay1 v, k0_pay2 (Scalar.andi key 511#32), k0_pay3 (Scalar.andi key 511#32), 3#32⟩) := rfl

/-- The first loop's body is `starBody` at the first stripe. -/
theorem t1_body_eq (t : Fin k0_t1_loop.trips) (u : Unit) :
    k0_t1_body (F := F) i arg2 harg2 arg3 harg3 arg4 harg4 arg5 harg5 arg6 harg6 arg7 harg7 arg8 harg8 arg9 harg9 arg10 harg10 arg11 harg11 arg12 arg13 arg14 v15_r0 v15_r1 (baseW i) t u
      = starBody i arg7 arg8 arg9 arg10 (View.stores_vmem_bits_univ h_S16384 rfl) (Scf.iv 0#32 1#32 t) (k0_off1 t) (k0_off1_inb t) (k0_off2 t) (k0_off2_inb t) := by
  unfold k0_t1_body starBody
  simp only [k0_part2_eq_skeleton, k0_part3_eq_skeleton]
  refine congrArg _ (funext fun v16 => ?_)
  refine dite_congr rfl (fun h1 => ?_) (fun _ => rfl)
  refine congrArg (Prog.op _) (funext fun c0 => ?_)
  refine congrArg (Prog.op _) (funext fun c1 => ?_)
  refine congrArg (Prog.op _) (funext fun c2 => ?_)
  refine congrArg (Prog.op _) (funext fun c3 => ?_)
  refine congrArg (Prog.op _) (funext fun c4 => ?_)
  refine congrArg (Prog.op _) (funext fun c5 => ?_)
  refine congrArg (Prog.op _) (funext fun c6 => ?_)
  refine congrArg (Prog.op _) (funext fun c7 => ?_)
  refine dite_congr rfl (fun h2 => ?_) (fun _ => rfl)
  refine (congrArg (· >>= _) (t1_first_eq i arg2 harg2 arg3 harg3 arg4 harg4 arg5 harg5 arg6 harg6 arg7 harg7 arg8 harg8 arg9 harg9 arg10 harg10 arg11 harg11 arg12 arg13 arg14 v15_r0 v15_r1 t _ _ _ h1 h2)).trans ?_
  rw [first3_bind]
  rfl

/-- The first three rows of the second loop's body as three blocks. -/
theorem t2_first_eq (t : Fin k0_t2_loop.trips) (j key dead : BitVec 32) (h1 : k0_cond1 i key = 1#1) (h2 : k0_cond2 dead = 1#1) :
    k0_part4 (F := F) i arg2 harg2 arg3 harg3 arg4 harg4 arg5 harg5 arg6 harg6 arg7 harg7 arg8 harg8 arg9 harg9 arg10 harg10 arg11 harg11 arg12 arg13 arg14 v15_r0 v15_r1 t j key (Scalar.andi key 511#32) (Scalar.subi (Scalar.shrsi key 9#32) (baseW i)) h1 dead h2
      = first3 i arg8 arg9 arg11 (View.stores_vmem_bits_univ h_S16384 rfl) key dead h1 h2 (k0_off4 t) (k0_off4_inb t) (fun v =>
          pure ⟨k0_pay1 v, k0_pay2 (Scalar.andi key 511#32), k0_pay3 (Scalar.andi key 511#32), 3#32⟩) := rfl

/-- The second loop's body is `starBody` at the second stripe. -/
theorem t2_body_eq (t : Fin k0_t2_loop.trips) (u : Unit) :
    k0_t2_body (F := F) i arg2 harg2 arg3 harg3 arg4 harg4 arg5 harg5 arg6 harg6 arg7 harg7 arg8 harg8 arg9 harg9 arg10 harg10 arg11 harg11 arg12 arg13 arg14 v15_r0 v15_r1 (baseW i) t u
      = starBody i arg7 arg8 arg9 arg11 (View.stores_vmem_bits_univ h_S16384 rfl) (Scf.iv 64#32 1#32 t) (k0_off3 t) (k0_off3_inb t) (k0_off4 t) (k0_off4_inb t) := by
  unfold k0_t2_body starBody
  simp only [k0_part5_eq_skeleton, k0_part6_eq_skeleton]
  refine congrArg _ (funext fun v16 => ?_)
  refine dite_congr rfl (fun h1 => ?_) (fun _ => rfl)
  refine congrArg (Prog.op _) (funext fun c0 => ?_)
  refine congrArg (Prog.op _) (funext fun c1 => ?_)
  refine congrArg (Prog.op _) (funext fun c2 => ?_)
  refine congrArg (Prog.op _) (funext fun c3 => ?_)
  refine congrArg (Prog.op _) (funext fun c4 => ?_)
  refine congrArg (Prog.op _) (funext fun c5 => ?_)
  refine congrArg (Prog.op _) (funext fun c6 => ?_)
  refine congrArg (Prog.op _) (funext fun c7 => ?_)
  refine dite_congr rfl (fun h2 => ?_) (fun _ => rfl)
  refine (congrArg (· >>= _) (t2_first_eq i arg2 harg2 arg3 harg3 arg4 harg4 arg5 harg5 arg6 harg6 arg7 harg7 arg8 harg8 arg9 harg9 arg10 harg10 arg11 harg11 arg12 arg13 arg14 v15_r0 v15_r1 t _ _ _ h1 h2)).trans ?_
  rw [first3_bind]
  rfl

end Eq

end Cert.Sky

end
-- ==== Proof.Star.lean ====
/-
  What one star's trip does to a stripe, as a function: the words it computes, the rows it stores, and their values.
-/
module

public import proofs.«01_k».proof.Proof.Body
public import Idealize.ShloMosaic.Lib.WordCmp

@[expose] public section

noncomputable section

namespace Cert.Sky

open Cert.KernelIdeal Cert.KernelIdeal.Gen

open Idealize.ShloMosaic

variable {F : FTy → Type} [FloatOps F]

/-! ## The words -/

/-- Row `d` of the patch of the star at `key` falls on the stripe, as the kernel tests it. -/
def rowC (i : grid0.Coords) (key d : BitVec 32) : BitVec 1 :=
  Scalar.cmpi .ne (Scalar.extui (Scalar.andi (Scalar.cmpi .sge (rowW i key d) 0#32) (Scalar.cmpi .slt (rowW i key d) 32#32))) 0#32

/-- The test of the patch's row 0. -/
theorem cond3_eq (i : grid0.Coords) (key : BitVec 32) : k0_cond3 i key = rowC i key 0#32 := rfl
/-- The test of row 1. -/
theorem cond4_eq (i : grid0.Coords) (key : BitVec 32) : k0_cond4 i key = rowC i key 1#32 := rfl
/-- The test of row 2. -/
theorem cond5_eq (i : grid0.Coords) (key : BitVec 32) : k0_cond5 i key = rowC i key 2#32 := rfl
/-- The test of row 3. -/
theorem cond6_eq (i : grid0.Coords) (key : BitVec 32) : k0_cond6 i key = rowC i key 3#32 := rfl
/-- The test of row 4. -/
theorem cond7_eq (i : grid0.Coords) (key : BitVec 32) : k0_cond7 i key = rowC i key 4#32 := rfl
/-- The test of row 5. -/
theorem cond8_eq (i : grid0.Coords) (key : BitVec 32) : k0_cond8 i key = rowC i key 5#32 := rfl
/-- The test of row 6. -/
theorem cond9_eq (i : grid0.Coords) (key : BitVec 32) : k0_cond9 i key = rowC i key 6#32 := rfl

/-- A bit widened and compared with zero is the bit. -/
theorem ne_extui (b : BitVec 1) : Scalar.cmpi .ne (Scalar.extui b) 0#32 = b := by revert b; decide

/-- The row test is that the row, read unsigned, is below 32. -/
theorem rowC_eq_one (i : grid0.Coords) (key d : BitVec 32) : rowC i key d = 1#1 ↔ (rowW i key d).toNat < 32 := by
  unfold rowC
  rw [ne_extui]
  generalize rowW i key d = r
  show IntOp.andi (IntOp.cmpi .sge r 0#32) (IntOp.cmpi .slt r 32#32) = 1#1 ↔ _
  rw [show (32#32 : BitVec 32) = BitVec.ofNat 32 32 from rfl, WordCmp.andi_sge_zero_slt_ofNat (by norm_num) r, WordCmp.ofBool_decide_eq_one_iff]

/-- The lane number of an index of a sixteen-lane vector, as a word. -/
theorem iota_apply (x : S16.Idx) : (iota .scVector S16 32 [0] iota_S16_d0_w32_scVector) x = BitVec.ofNat 32 (x 0).val := by
  simp [iota]

/-- The columns of the 16 lanes: from three left of the star on. -/
theorem pay2_apply (c : BitVec 32) (x : S16.Idx) : k0_pay2 c x = c - 3#32 + BitVec.ofNat 32 (x 0).val := by
  show (c - 3#32) + (iota .scVector S16 32 [0] iota_S16_d0_w32_scVector) x = _
  rw [iota_apply]

/-- A lane's number is less than 16. -/
theorem lane_lt (x : S16.Idx) : (x 0).val < 16 := (x 0).isLt

/-- A lane of the patch is stored when it is one of the seven and its column is inside the image. -/
theorem pay3_eq_one (c : BitVec 32) (hc : c.toNat < 512) (x : S16.Idx) :
    k0_pay3 c x = 1#1 ↔ (x 0).val ≤ 6 ∧ 3 ≤ c.toNat + (x 0).val ∧ c.toNat + (x 0).val < 515 := by
  have hx := lane_lt x
  have e : k0_pay3 c x = IntOp.cmpi .sge ((k0_pay2 c x ||| (511#32 - k0_pay2 c x)) ||| (6#32 - (iota .scVector S16 32 [0] iota_S16_d0_w32_scVector) x)) 0#32 := rfl
  rw [e, WordCmp.cmpi_sge_zero, WordCmp.ofBool_decide_eq_one_iff, pay2_apply, iota_apply]
  generalize (x 0).val = l at hx
  have hm : ∀ a : BitVec 32, a.toNat < 2 ^ 31 ↔ a.msb = false := fun a => by
    rw [BitVec.msb_eq_decide]; simp
  rw [show (32 - 1 : ℕ) = 31 from rfl, hm, BitVec.msb_or, BitVec.msb_or, Bool.or_eq_false_iff, Bool.or_eq_false_iff, ← hm, ← hm, ← hm]
  have h1 : (c - 3#32 + BitVec.ofNat 32 l).toNat = (c.toNat + l + (2 ^ 32 - 3)) % 2 ^ 32 := by
    simp only [BitVec.toNat_add, BitVec.toNat_sub, BitVec.toNat_ofNat]; omega
  have h2 : (511#32 - (c - 3#32 + BitVec.ofNat 32 l)).toNat = (511 + (2 ^ 32 - (c.toNat + l + (2 ^ 32 - 3)) % 2 ^ 32)) % 2 ^ 32 := by
    rw [BitVec.toNat_sub, h1]; simp only [BitVec.toNat_ofNat]; omega
  have h3 : (6#32 - BitVec.ofNat 32 l).toNat = (6 + (2 ^ 32 - l)) % 2 ^ 32 := by
    simp only [BitVec.toNat_sub, BitVec.toNat_ofNat]; omega
  rw [h1, h2, h3]
  omega

/-- A star's column is less than 512. -/
theorem col_lt (key : BitVec 32) : (Scalar.andi key 511#32).toNat < 512 := by
  show (key &&& 511#32).toNat < 512
  rw [BitVec.toNat_and]
  exact lt_of_le_of_lt Nat.and_le_right (by norm_num)

/-- The index a stored lane is stored at: the row times 512 plus the column. -/
theorem skyIdx_toNat (i : grid0.Coords) (key d : BitVec 32) (h : rowC i key d = 1#1) (x : S16.Idx)
    (hm : k0_pay3 (Scalar.andi key 511#32) x = 1#1) :
    (skyIdx i key d x).toNat = (rowW i key d).toNat * 512 + ((Scalar.andi key 511#32).toNat + (x 0).val - 3) := by
  have hr := (rowC_eq_one i key d).1 h
  have hl := (pay3_eq_one _ (col_lt key) x).1 hm
  have hx := lane_lt x
  have e : skyIdx i key d x = rowW i key d * 512#32 + k0_pay2 (Scalar.andi key 511#32) x := by
    show (if k0_pay3 (Scalar.andi key 511#32) x = 1#1 then _ else _) = _
    rw [if_pos hm]; rfl
  rw [e, pay2_apply]
  have hc := col_lt key
  generalize Scalar.andi key 511#32 = c at *
  generalize rowW i key d = r at *
  simp only [BitVec.toNat_add, BitVec.toNat_sub, BitVec.toNat_mul, BitVec.toNat_ofNat]
  omega

/-- Every index of a row that is stored is inside the stripe. -/
theorem skyIdx_lt (i : grid0.Coords) (key d : BitVec 32) (h : rowC i key d = 1#1) :
    ∀ a x, ((![skyIdx i key d] : Fin 1 → IVec S16 32) a x).toNat < S16384.size a := by
  intro a x
  have ha : a = 0 := Subsingleton.elim _ _
  subst ha
  show (skyIdx i key d x).toNat < 16384
  by_cases hm : k0_pay3 (Scalar.andi key 511#32) x = 1#1
  · rw [skyIdx_toNat i key d h x hm]
    have hr := (rowC_eq_one i key d).1 h
    have hl := (pay3_eq_one _ (col_lt key) x).1 hm
    omega
  · have e : skyIdx i key d x = 0#32 := by
      show (if k0_pay3 (Scalar.andi key 511#32) x = 1#1 then _ else _) = _
      rw [if_neg hm]; rfl
    rw [e]; decide

/-! ## The values -/

/-- Words `b … b + 15` of a vector of 128, as sixteen lanes. -/
def chunk {e : EltTy} (b : ℕ) (v : Vec F S128 e) : Vec F S16 e :=
  fun x => v (fun a => ⟨(b + (x 0).val) % 128, by have := Subsingleton.elim a 0; subst this; exact Nat.mod_lt _ (by norm_num)⟩)

/-- Row `d` of the patch (words `16 * d … 16 * d + 15`). -/
def patchRow (d : ℕ) (gg : Vec F S112 .f32) : Vec F S16 .f32 :=
  fun x => gg (fun a => ⟨(16 * d + (x 0).val) % 112, by have := Subsingleton.elim a 0; subst this; exact Nat.mod_lt _ (by norm_num)⟩)

/-- Row `d` of the patch stored into a stripe holding `f`, where it falls on the stripe. -/
def rowVal (i : grid0.Coords) (key : BitVec 32) (d : ℕ) (w : F .f32) (gg : Vec F S112 .f32) (f : Vec F S16384 .f32) : Vec F S16384 .f32 :=
  if h : rowC i key (BitVec.ofNat 32 d) = 1#1 then
    storeIdx f ![skyIdx i key (BitVec.ofNat 32 d)] (mulf (broadcast S16 w) (patchRow d gg)) (k0_pay3 (Scalar.andi key 511#32)) true
      (skyIdx_lt i key _ h)
  else f

/-- The seven rows of the patch stored one after another. -/
def rowsVal (i : grid0.Coords) (key : BitVec 32) (w : F .f32) (gg : Vec F S112 .f32) (f : Vec F S16384 .f32) : Vec F S16384 .f32 :=
  rowVal i key 6 w gg <| rowVal i key 5 w gg <| rowVal i key 4 w gg <| rowVal i key 3 w gg <| rowVal i key 2 w gg <|
    rowVal i key 1 w gg <| rowVal i key 0 w gg f

/-- Number `n` as an index of a vector of 128. -/
def ix128 (n : ℕ) : S128.Idx := fun a => ⟨n % 128, by have := Subsingleton.elim a 0; subst this; exact Nat.mod_lt _ (by norm_num)⟩

/-- The word the liveness test of star `n` reads, of the 128 keys. -/
def deadOf (n : ℕ) (kk : Vec F S128 .i32) : BitVec 32 :=
  deadW (F := F) (BitVec.ofNat 32 n) (kk (ix128 n)) (chunk 0 kk) (chunk 16 kk) (chunk 32 kk) (chunk 48 kk) (chunk 64 kk) (chunk 80 kk)
    (chunk 96 kk) (chunk 112 kk)

/-- A stripe after the trip of star `n`. -/
def starVal (i : grid0.Coords) (kk : Vec F S128 .i32) (ff : Vec F S128 .f32) (gg : Vec F S112 .f32) (n : ℕ) (f : Vec F S16384 .f32) :
    Vec F S16384 .f32 :=
  if k0_cond1 i (kk (ix128 n)) = 1#1 then
    if k0_cond2 (deadOf n kk) = 1#1 then rowsVal i (kk (ix128 n)) (ff (ix128 n)) gg f else f
  else f

/-- A stripe after the trips of the `k` stars from star `b` on. -/
def starsVal (i : grid0.Coords) (kk : Vec F S128 .i32) (ff : Vec F S128 .f32) (gg : Vec F S112 .f32) (b : ℕ) (f : Vec F S16384 .f32) : ℕ → Vec F S16384 .f32
  | 0 => f
  | k + 1 => starVal i kk ff gg (b + k) (starsVal i kk ff gg b f k)

end Cert.Sky

end
-- ==== Proof.Trip.lean ====
/-
  One star's trip as a run: holding the key, weight and patch tables and a stripe, the trip ends holding them, the stripe
  at `starVal`. Written once, over how the stripe is held (`P`, with the rule its scatter obeys).
-/
module

public import proofs.«01_k».proof.Proof.Star
public import Idealize.ShloMosaic.Lib.SparseCore.Ops

@[expose] public section

noncomputable section

namespace Cert.Sky

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "aK" => (Memref.whole cc0_scratch0 : Memref sig Kind.scVector Space.vmem S144 EltTy.i32)
local notation "aF" => (Memref.whole cc0_scratch1 : Memref sig Kind.scVector Space.vmem S144 EltTy.f32)
local notation "aG" => (Memref.whole cc0_scratch2 : Memref sig Kind.scVector Space.vmem S112 EltTy.f32)

/-! ## What the loads read -/

section Reads

variable (d : Dev nD) (i : grid0.Coords)

/-- Number `n` as an index of a vector of 144. -/
def ix144 (n : ℕ) : S144.Idx := fun a => ⟨n % 144, by have := Subsingleton.elim a 0; subst this; exact Nat.mod_lt _ (by norm_num)⟩

/-- A load of sixteen words reads the sixteen words from its offset on. -/
theorem read16 {n : ℕ} {e : EltTy} (g : Vec F ⟨1, ![n]⟩ e) (off : Fin 1 → ℕ) (hoff : ∀ a, off a + S16.size a ≤ (⟨1, ![n]⟩ : Shape).size a)
    (x : S16.Idx) (b : ℕ) (hb : off 0 = b) (a : Fin 1) :
    ((Rect.unit (s := ⟨1, ![n]⟩) off S16.size hoff).toLoadRect.idx x a).val = b + (x 0).val := by
  have ha : a = 0 := Subsingleton.elim _ _
  subst ha
  subst hb
  simp [Rect.unit, LoadRect.idx, Rect.toLoadRect]

/-- A load from the key table reads the sixteen keys from its offset on; -/
theorem readK (g : Buf (Elt F) ((thr d i).loc cc0_scratch0))
    (off : Fin 1 → ℕ) (hoff : ∀ a, off a + S16.size a ≤ S144.size a) (b : ℕ) (hb : off 0 = b) (x : S16.Idx) :
    (aK).view.readAt (Elt F) (Rect.unit (s := S144) off S16.size hoff).toLoadRect g x = g (ix144 (b + (x 0).val)) := by
  have hx := lane_lt x
  have h0 : off 0 + 16 ≤ 144 := hoff 0
  rw [View.readAt_apply]
  refine congrArg g (funext fun a => Fin.ext ?_)
  refine (read16 (F := F) (e := .i32) (n := 144) (fun _ => 0#32) off hoff x b hb a).trans ?_
  show _ = (b + (x 0).val) % 144
  omega

/-- and one from the weight table the sixteen weights; -/
theorem readF (g : Buf (Elt F) ((thr d i).loc cc0_scratch1))
    (off : Fin 1 → ℕ) (hoff : ∀ a, off a + S16.size a ≤ S144.size a) (b : ℕ) (hb : off 0 = b) (x : S16.Idx) :
    (aF).view.readAt (Elt F) (Rect.unit (s := S144) off S16.size hoff).toLoadRect g x = g (ix144 (b + (x 0).val)) := by
  have hx := lane_lt x
  have h0 : off 0 + 16 ≤ 144 := hoff 0
  rw [View.readAt_apply]
  refine congrArg g (funext fun a => Fin.ext ?_)
  refine (read16 (F := F) (e := .i32) (n := 144) (fun _ => 0#32) off hoff x b hb a).trans ?_
  show _ = (b + (x 0).val) % 144
  omega

/-- and one from the patch at a multiple of sixteen a row of the patch. -/
theorem readG (gg : Vec F S112 .f32)
    (off : Fin 1 → ℕ) (hoff : ∀ a, off a + S16.size a ≤ S112.size a) (r : ℕ) (hb : off 0 = 16 * r) :
    (aG).view.readAt (Elt F) (Rect.unit (s := S112) off S16.size hoff).toLoadRect gg = patchRow r gg := by
  funext x
  have hx := lane_lt x
  have h0 : off 0 + 16 ≤ 112 := hoff 0
  rw [View.readAt_apply]
  refine congrArg gg (funext fun a => Fin.ext ?_)
  refine (read16 (F := F) (e := .i32) (n := 112) (fun _ => 0#32) off hoff x _ hb a).trans ?_
  show _ = (16 * r + (x 0).val) % 112
  omega

/-- A chunk of the key table, where it holds the keys in its first 128 words. -/
theorem readK_chunk (g : Buf (Elt F) ((thr d i).loc cc0_scratch0)) (kk : Vec F S128 .i32) (hg : ∀ n, n < 128 → g (ix144 n) = kk (ix128 n))
    (off : Fin 1 → ℕ) (hoff : ∀ a, off a + S16.size a ≤ S144.size a) (b : ℕ) (hb : off 0 = b) (hb' : b ≤ 112) :
    (aK).view.readAt (Elt F) (Rect.unit (s := S144) off S16.size hoff).toLoadRect g = chunk b kk := by
  funext x
  have hx := lane_lt x
  rw [readK d i g off hoff b hb x, hg _ (by omega)]
  rfl

end Reads

/-! ## A row, the seven rows, the trip -/

section Run

/-- The rule a stripe held as `P` obeys: a scatter with add rewrites it to `storeIdx`. -/
def StoreRule (d : Dev nD) (i : grid0.Coords) (aS : Memref sig .scVector .vmem S16384 .f32) (hs : (aS.access (.whole S16384)).Stores Finset.univ)
    (P : Vec F S16384 .f32 → sProp 𝕄) : Prop :=
  ∀ (Q : Unit → sProp 𝕄) (f : Vec F S16384 .f32) (idx : IVec S16 32) (v : Vec F S16 .f32) (mask : IVec S16 1)
    (hin : ∀ a x, ((![idx] : Fin 1 → IVec S16 32) a x).toNat < S16384.size a) (k : TProg F i Unit),
    P f ⊢ iprop((P (storeIdx f ![idx] v mask true hin) -∗ wp frame (wpE (defs₀ (F := F)) 𝒱₀ (thr d i) none) Set.univ k Q)
      -∗ wp frame (wpE (defs₀ (F := F)) 𝒱₀ (thr d i) none) Set.univ (SparseCore.vectorStoreIdx aS ![idx] v mask true hin hs >>= fun _ => k) Q)

variable {d : Dev nD} {i : grid0.Coords} {aS : Memref sig .scVector .vmem S16384 .f32} {hs : (aS.access (.whole S16384)).Stores Finset.univ}

/-- One guarded row: the stripe goes to `rowVal`, the patch is kept. -/
theorem wp_block {P : Vec F S16384 .f32 → sProp 𝕄} (hP : StoreRule d i aS hs P) (Q : Unit → sProp 𝕄) (q : PosShare TreeShare) (gg : Vec F S112 .f32) (f : Vec F S16384 .f32)
    (key : BitVec 32) (r : ℕ) (c : Prop) [Decidable c] (hc : c = (rowC i key (BitVec.ofNat 32 r) = 1#1)) (chk : Prop) (dec : Decidable chk) (hchk : chk)
    (off : Fin 1 → Nat) (hoff : ∀ a, off a + S16.size a ≤ S112.size a) (hb : off 0 = 16 * r) (w : F .f32)
    (hin : chk → c → ∀ a x, ((![skyIdx i key (BitVec.ofNat 32 r)] : Fin 1 → IVec S16 32) a x).toNat < S16384.size a) (k : TProg F i Unit) :
    iprop(P f ∗ ((aG).view.loc (thr d i) ↦{q} gg)
        ∗ ((P (rowVal i key r w gg f) ∗ ((aG).view.loc (thr d i) ↦{q} gg)) -∗ wp frame (wpE (defs₀ (F := F)) 𝒱₀ (thr d i) none) Set.univ k Q))
      ⊢ wp frame (wpE (defs₀ (F := F)) 𝒱₀ (thr d i) none) Set.univ
          (block i aG aS hs c chk dec off hoff (skyIdx i key (BitVec.ofNat 32 r)) w (k0_pay3 (Scalar.andi key 511#32)) hin k) Q := by
  iintro ⟨Hs, Hg, Hk⟩
  by_cases h : c
  · have hr : rowVal i key r w gg f = storeIdx f ![skyIdx i key (BitVec.ofNat 32 r)] (mulf (broadcast S16 w) (patchRow r gg))
        (k0_pay3 (Scalar.andi key 511#32)) true (hin hchk h) := by
      unfold rowVal
      rw [dif_pos (hc ▸ h)]
    unfold block
    rw [dif_pos h]
    iapply (wp_load 𝒱₀ (thr d i) none Set.univ (m := aG) (S := Finset.univ) (Finset.subset_univ _)) $$ Hg
    iintro Hg
    rw [readG gg off hoff r hb]
    simp only [Prog.lift]
    iapply (Entails.of_eq (wp_assume_of 𝒱₀ (thr d i) none Set.univ hchk).symm)
    ihave Hs' := (hP Q f _ _ _ (hin hchk h) k) $$ Hs
    iapply Hs'
    iintro Hs
    iapply Hk
    rw [hr]
    isplitl [Hs]
    · iexact Hs
    · iexact Hg
  · have hr : rowVal i key r w gg f = f := by
      unfold rowVal
      rw [dif_neg (hc ▸ h)]
    unfold block
    rw [dif_neg h]
    iapply Hk
    rw [hr]
    isplitl [Hs]
    · iexact Hs
    · iexact Hg

/-- The seven rows: the stripe goes to `rowsVal`, the patch is kept. -/
theorem wp_rows {P : Vec F S16384 .f32 → sProp 𝕄} (hP : StoreRule d i aS hs P) (Q : Unit → sProp 𝕄) (q : PosShare TreeShare) (gg : Vec F S112 .f32)
    (f : Vec F S16384 .f32) (key dead : BitVec 32) (h1 : k0_cond1 i key = 1#1) (h2 : k0_cond2 dead = 1#1) (w : F .f32) :
    iprop(P f ∗ ((aG).view.loc (thr d i) ↦{q} gg) ∗ ((P (rowsVal i key w gg f) ∗ ((aG).view.loc (thr d i) ↦{q} gg)) -∗ Q ⟨⟩))
      ⊢ wp frame (wpE (defs₀ (F := F)) 𝒱₀ (thr d i) none) Set.univ (rows i aG aS hs key dead h1 h2 w) Q := by
  iintro ⟨Hs, Hg, Hk⟩
  unfold rows rowsVal
  iapply (wp_block hP Q q gg f key 0 _ (by rw [cond3_eq]) _ _ (fun _ _ h => skyIdx_lt i key _ (cond3_eq i key ▸ h)) _ _ rfl w _ _)
  isplitl [Hs]; · iexact Hs
  isplitl [Hg]; · iexact Hg
  iintro ⟨Hs, Hg⟩
  iapply (wp_block hP Q q gg (rowVal i key 0 w gg f) key 1 _ (by rw [cond4_eq]) _ _ (fun _ _ h => skyIdx_lt i key _ (cond4_eq i key ▸ h)) _ _ rfl w _ _)
  isplitl [Hs]; · iexact Hs
  isplitl [Hg]; · iexact Hg
  iintro ⟨Hs, Hg⟩
  iapply (wp_block hP Q q gg (rowVal i key 1 w gg (rowVal i key 0 w gg f)) key 2 _ (by rw [cond5_eq]) _ _ (fun _ _ h => skyIdx_lt i key _ (cond5_eq i key ▸ h)) _ _ rfl w _ _)
  isplitl [Hs]; · iexact Hs
  isplitl [Hg]; · iexact Hg
  iintro ⟨Hs, Hg⟩
  iapply (wp_block hP Q q gg (rowVal i key 2 w gg (rowVal i key 1 w gg (rowVal i key 0 w gg f))) key 3 _ (by rw [cond6_eq]) _ _ (fun _ _ h => skyIdx_lt i key _ (cond6_eq i key ▸ h)) _ _ rfl w _ _)
  isplitl [Hs]; · iexact Hs
  isplitl [Hg]; · iexact Hg
  iintro ⟨Hs, Hg⟩
  iapply (wp_block hP Q q gg (rowVal i key 3 w gg (rowVal i key 2 w gg (rowVal i key 1 w gg (rowVal i key 0 w gg f)))) key 4 _ (by rw [cond7_eq]) _ _ (fun _ _ h => skyIdx_lt i key _ (cond7_eq i key ▸ h)) _ _ rfl w _ _)
  isplitl [Hs]; · iexact Hs
  isplitl [Hg]; · iexact Hg
  iintro ⟨Hs, Hg⟩
  iapply (wp_block hP Q q gg (rowVal i key 4 w gg (rowVal i key 3 w gg (rowVal i key 2 w gg (rowVal i key 1 w gg (rowVal i key 0 w gg f))))) key 5 _ (by rw [cond8_eq]) _ _ (fun _ _ h => skyIdx_lt i key _ (cond8_eq i key ▸ h)) _ _ rfl w _ _)
  isplitl [Hs]; · iexact Hs
  isplitl [Hg]; · iexact Hg
  iintro ⟨Hs, Hg⟩
  iapply (wp_block hP Q q gg (rowVal i key 5 w gg (rowVal i key 4 w gg (rowVal i key 3 w gg (rowVal i key 2 w gg (rowVal i key 1 w gg (rowVal i key 0 w gg f)))))) key 6 _ (by rw [cond9_eq]) _ _ (fun _ _ h => skyIdx_lt i key _ (cond9_eq i key ▸ h)) _ _ rfl w _ _)
  isplitl [Hs]; · iexact Hs
  isplitl [Hg]; · iexact Hg
  iintro ⟨Hs, Hg⟩
  iapply (le_wp_ret _ _ _ _)
  iapply Hk
  isplitl [Hs]; · iexact Hs
  iexact Hg

/-- The trip of star `n`: the stripe goes to `starVal`, the three tables are kept. -/
theorem wp_trip {P : Vec F S16384 .f32 → sProp 𝕄} (hP : StoreRule d i aS hs P) (Q : Unit → sProp 𝕄) (q7 q8 q : PosShare TreeShare)
    (g7 : Buf (Elt F) ((thr d i).loc cc0_scratch0)) (g8 : Buf (Elt F) ((thr d i).loc cc0_scratch1))
    (kk : Vec F S128 .i32) (ff : Vec F S128 .f32) (gg : Vec F S112 .f32)
    (hg7 : ∀ n, n < 128 → g7 (ix144 n) = kk (ix128 n)) (hg8 : ∀ n, n < 128 → g8 (ix144 n) = ff (ix128 n))
    (f : Vec F S16384 .f32) (n : ℕ) (hn : n < 128) (j : BitVec 32) (hj : j = BitVec.ofNat 32 n)
    (off : Fin 1 → Nat) (hoff : ∀ a, off a + S16.size a ≤ S144.size a) (hb : off 0 = n)
    (off' : Fin 1 → Nat) (hoff' : ∀ a, off' a + S16.size a ≤ S144.size a) (hb' : off' 0 = n) :
    iprop(((aK).view.loc (thr d i) ↦{q7} g7) ∗ ((aF).view.loc (thr d i) ↦{q8} g8) ∗ ((aG).view.loc (thr d i) ↦{q} gg) ∗ P f
        ∗ ((((aK).view.loc (thr d i) ↦{q7} g7) ∗ ((aF).view.loc (thr d i) ↦{q8} g8) ∗ ((aG).view.loc (thr d i) ↦{q} gg) ∗ P (starVal i kk ff gg n f)) -∗ Q ⟨⟩))
      ⊢ wp frame (wpE (defs₀ (F := F)) 𝒱₀ (thr d i) none) Set.univ (starBody i aK aF aG aS hs j off hoff off' hoff') Q := by
  subst hj
  iintro ⟨H7, H8, Hg, Hs, Hk⟩
  unfold starBody
  simp only [Prog.lift]
  iapply (wp_load 𝒱₀ (thr d i) none Set.univ (m := aK) (S := Finset.univ) (Finset.subset_univ _)) $$ H7
  iintro H7
  have hk := readK d i g7 off hoff n hb
  generalize (aK).view.readAt (Elt F) (Rect.unit (s := S144) off S16.size hoff).toLoadRect g7 = v16 at hk ⊢
  have hkey : extractAt ![0] (k0_pay25 (F := F) v16) inpos_S1_p0 = kk (ix128 n) := by
    refine (hk _).trans ?_
    exact hg7 n hn
  simp only [Prog.bind, hkey]
  by_cases h1 : k0_cond1 i (kk (ix128 n)) = 1#1
  · simp only [dif_pos h1]
    iapply (wp_load 𝒱₀ (thr d i) none Set.univ (m := aK) (S := Finset.univ) (Finset.subset_univ _)) $$ H7
    iintro H7
    rw [readK_chunk d i g7 kk hg7 ![0] inb_S144_S16_0 0 rfl (by norm_num)]
    simp only [Prog.bind]
    iapply (wp_load 𝒱₀ (thr d i) none Set.univ (m := aK) (S := Finset.univ) (Finset.subset_univ _)) $$ H7
    iintro H7
    rw [readK_chunk d i g7 kk hg7 ![16] inb_S144_S16_16 16 rfl (by norm_num)]
    simp only [Prog.bind]
    iapply (wp_load 𝒱₀ (thr d i) none Set.univ (m := aK) (S := Finset.univ) (Finset.subset_univ _)) $$ H7
    iintro H7
    rw [readK_chunk d i g7 kk hg7 ![32] inb_S144_S16_32 32 rfl (by norm_num)]
    simp only [Prog.bind]
    iapply (wp_load 𝒱₀ (thr d i) none Set.univ (m := aK) (S := Finset.univ) (Finset.subset_univ _)) $$ H7
    iintro H7
    rw [readK_chunk d i g7 kk hg7 ![48] inb_S144_S16_48 48 rfl (by norm_num)]
    simp only [Prog.bind]
    iapply (wp_load 𝒱₀ (thr d i) none Set.univ (m := aK) (S := Finset.univ) (Finset.subset_univ _)) $$ H7
    iintro H7
    rw [readK_chunk d i g7 kk hg7 ![64] inb_S144_S16_64 64 rfl (by norm_num)]
    simp only [Prog.bind]
    iapply (wp_load 𝒱₀ (thr d i) none Set.univ (m := aK) (S := Finset.univ) (Finset.subset_univ _)) $$ H7
    iintro H7
    rw [readK_chunk d i g7 kk hg7 ![80] inb_S144_S16_80 80 rfl (by norm_num)]
    simp only [Prog.bind]
    iapply (wp_load 𝒱₀ (thr d i) none Set.univ (m := aK) (S := Finset.univ) (Finset.subset_univ _)) $$ H7
    iintro H7
    rw [readK_chunk d i g7 kk hg7 ![96] inb_S144_S16_96 96 rfl (by norm_num)]
    simp only [Prog.bind]
    iapply (wp_load 𝒱₀ (thr d i) none Set.univ (m := aK) (S := Finset.univ) (Finset.subset_univ _)) $$ H7
    iintro H7
    rw [readK_chunk d i g7 kk hg7 ![112] inb_S144_S16_112 112 rfl (by norm_num)]
    simp only [Prog.bind]
    by_cases h2 : k0_cond2 (deadOf n kk) = 1#1
    · have hv : starVal i kk ff gg n f = rowsVal i (kk (ix128 n)) (ff (ix128 n)) gg f := by
        unfold starVal
        rw [if_pos h1, if_pos h2]
      rw [hv]
      have h2' := h2
      unfold deadOf at h2'
      simp only [dif_pos h2']
      iapply (wp_load 𝒱₀ (thr d i) none Set.univ (m := aF) (S := Finset.univ) (Finset.subset_univ _)) $$ H8
      iintro H8
      have hw := readF d i g8 off' hoff' n hb'
      generalize (aF).view.readAt (Elt F) (Rect.unit (s := S144) off' S16.size hoff').toLoadRect g8 = v123 at hw ⊢
      have hwt : k0_pay1 (F := F) v123 = ff (ix128 n) := by
        refine (hw _).trans ?_
        exact hg8 n hn
      simp only [Prog.bind, hwt]
      iapply (wp_rows hP Q q gg f _ _ h1 h2' _)
      isplitl [Hs]; · iexact Hs
      isplitl [Hg]; · iexact Hg
      iintro ⟨Hs, Hg⟩
      iapply Hk
      isplitl [H7]; · iexact H7
      isplitl [H8]; · iexact H8
      isplitl [Hg]; · iexact Hg
      iexact Hs
    · have hv : starVal i kk ff gg n f = f := by
        unfold starVal
        rw [if_pos h1, if_neg h2]
      rw [hv]
      have h2' := h2
      unfold deadOf at h2'
      simp only [dif_neg h2']
      iapply (le_wp_ret _ _ _ _)
      iapply Hk
      isplitl [H7]; · iexact H7
      isplitl [H8]; · iexact H8
      isplitl [Hg]; · iexact Hg
      iexact Hs
  · have hv : starVal i kk ff gg n f = f := by
      unfold starVal
      rw [if_neg h1]
    rw [hv]
    simp only [dif_neg h1]
    iapply (le_wp_ret _ _ _ _)
    iapply Hk
    isplitl [H7]; · iexact H7
    isplitl [H8]; · iexact H8
    isplitl [Hg]; · iexact Hg
    iexact Hs

end Run

end Cert.Sky

end
-- ==== Proof.Tile.lean ====
/-
  The task of one tile: the tables are fetched and the stripes zeroed, the two loops run, the stripes are written out.
-/
module

public import proofs.«01_k».proof.Proof.Trip

@[expose] public section

noncomputable section

namespace Cert.Sky

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aK" => (Memref.whole cc0_scratch0 : Memref sig Kind.scVector Space.vmem S144 EltTy.i32)
local notation "aF" => (Memref.whole cc0_scratch1 : Memref sig Kind.scVector Space.vmem S144 EltTy.f32)
local notation "aG" => (Memref.whole cc0_scratch2 : Memref sig Kind.scVector Space.vmem S112 EltTy.f32)
local notation "a0" => (Memref.whole cc0_scratch3 : Memref sig Kind.scVector Space.vmem S16384 EltTy.f32)
local notation "a1" => (Memref.whole cc0_scratch4 : Memref sig Kind.scVector Space.vmem S16384 EltTy.f32)
local notation "kW" => (Memref.whole main_v244_scv : Memref sig Kind.scVector Space.hbm S128 EltTy.i32)
local notation "fW" => (Memref.whole main_v245_scv : Memref sig Kind.scVector Space.hbm S128 EltTy.f32)
local notation "gW" => (Memref.whole main_v242_scv : Memref sig Kind.scVector Space.hbm S112 EltTy.f32)
local notation "zW" => (Memref.whole main_v243_scv : Memref sig Kind.scVector Space.hbm S16384 EltTy.f32)
local notation "oW" => (Memref.whole main_v246_scv : Memref sig Kind.scVector Space.hbm S2x262144 EltTy.f32)

section Rules

variable (d : Dev nD) (i : grid0.Coords)

/-- The rule of a scatter-add into stripe 0, held whole. -/
theorem store0 : StoreRule (F := F) d i a0 (View.stores_vmem_bits_univ h_S16384 rfl) (fun f => (a0).view.loc (thr d i) ↦{fullShare} f) := by
  intro Q f idx v mask hin k
  have h := SparseCore.wp_vectorStoreIdx (F := F) (defs := defs₀ (F := F)) (Ix := HIx 1) (Name := ℕ) (U := UU) (Lvl := ℕ) 𝒱₀ (thr d i) none Set.univ (Q := Q) (base := a0) (idxs := ![idx]) (v := v) (mask := mask) (add := true) (h := hin)
    (hs := View.stores_vmem_bits_univ h_S16384 rfl) (k := fun _ => k) (f := f)
  simp only [Memref.set_access_whole, Memref.read_access_whole, Memref.write_access_whole_univ] at h
  exact h

/-- The rule of a scatter-add into stripe 1, held whole. -/
theorem store1 : StoreRule (F := F) d i a1 (View.stores_vmem_bits_univ h_S16384 rfl) (fun f => (a1).view.loc (thr d i) ↦{fullShare} f) := by
  intro Q f idx v mask hin k
  have h := SparseCore.wp_vectorStoreIdx (F := F) (defs := defs₀ (F := F)) (Ix := HIx 1) (Name := ℕ) (U := UU) (Lvl := ℕ) 𝒱₀ (thr d i) none Set.univ (Q := Q) (base := a1) (idxs := ![idx]) (v := v) (mask := mask) (add := true) (h := hin)
    (hs := View.stores_vmem_bits_univ h_S16384 rfl) (k := fun _ => k) (f := f)
  simp only [Memref.set_access_whole, Memref.read_access_whole, Memref.write_access_whole_univ] at h
  exact h

end Rules

section Tile

variable (d : Dev nD) (i : grid0.Coords)

/-- The two slices of the result the task writes. -/
abbrev o0K (i : grid0.Coords) : Memref sig .scVector .hbm S16384 .f32 :=
  ((oW).slice (Rect.unit (s := S2x262144) (k0_off5 i) S1x16384.size (k0_off5_inb i)) (fun _ => rfl)).squeeze S16384 squeezes_S1x16384_S16384
/-- The view of a tile's second stripe of the result. -/
abbrev o1K (i : grid0.Coords) : Memref sig .scVector .hbm S16384 .f32 :=
  ((oW).slice (Rect.unit (s := S2x262144) (k0_off6 i) S1x16384.size (k0_off6_inb i)) (fun _ => rfl)).squeeze S16384 squeezes_S1x16384_S16384

/-- One write through the whole of a view, read back. -/
theorem read_writes_whole {sig : RefSig} {κ : Kind} {sp : Space} {s : Shape} {e : EltTy} {Val : EltTy → Type} (v : View sig κ sp s e)
    (f : v.ty.Contents Val) (w : s.Idx → Val e) (x : s.Idx) : v.read Val (v.writes Val f [⟨Rect.whole s, w⟩]) x = w x := by
  have h := View.read_writes_cons_emb v (f := f) (Rect.whole s) w [] x
  rwa [Rect.emb_whole_apply] at h

/-- An index of a slice, its row put back in front. -/
def unsq (x : S16384.Idx) : S1x16384.Idx := fun
  | 0 => ⟨0, by decide⟩
  | 1 => x 0
  | ⟨_ + 2, h⟩ => absurd h (Nat.not_lt.2 (Nat.le_add_left _ _))

/-- Where element `x` of the task's part of row 0 of the result lies. -/
def o0Ix (i : grid0.Coords) (x : S16384.Idx) : S2x262144.Idx := fun
  | 0 => ⟨0, by decide⟩
  | 1 => ⟨16384 * (i 1).val + (x 0).val, by
      have h1 : (i 1).val < 16 := (i 1).isLt
      have h2 : (x 0).val < 16384 := (x 0).isLt
      show _ < 262144
      omega⟩
  | ⟨_ + 2, h⟩ => absurd h (Nat.not_lt.2 (Nat.le_add_left _ _))

/-- Where the first stripe's view puts an element. -/
theorem o0K_emb (i : grid0.Coords) (x : S16384.Idx) : (o0K i).view.emb x = o0Ix i x := by
  have hr : Shape.reshapeEquiv squeezes_S1x16384_S16384.numel_eq x = unsq x := Shape.reshapeEquiv_eq_of_rowMajor _ (by
    rw [Shape.rowMajor_val_two, Shape.rowMajor_val_one]
    show 0 * 16384 + (x 0).val = (x 0).val
    omega)
  show (Rect.unit (s := S2x262144) (k0_off5 i) S1x16384.size (k0_off5_inb i)).emb (Shape.reshapeEquiv squeezes_S1x16384_S16384.numel_eq x) = _
  rw [hr]
  have h0 : (i 0).val = 0 := by have : (i 0).val < 1 := (i 0).isLt; omega
  funext a
  apply Fin.ext
  show (k0_off5 i) a + 1 * (unsq x a).val = (o0Ix i x a).val
  rw [k0_off5_eq]
  match a with
  | 0 => rfl
  | 1 =>
    show 16384 * (i 1).val + 262144 * (i 0).val + 1 * (x 0).val = 16384 * (i 1).val + (x 0).val
    omega

/-- Contents that agree on the first stripe are the same ownership of it. -/
theorem pts_o0K_congr (f g : Buf (Elt F) ((o0K i).view.loc (thr d i))) (h : ∀ x, f (o0Ix i x) = g (o0Ix i x)) :
    ((o0K i).view.loc (thr d i) ↦[(o0K i).view.set]{fullShare} f : sProp 𝕄) = ((o0K i).view.loc (thr d i) ↦[(o0K i).view.set]{fullShare} g : sProp 𝕄) :=
  pointsTo_congr fun y hy => by
    obtain ⟨x, -, rfl⟩ := Finset.mem_map.mp hy
    rw [o0K_emb]
    exact h x

set_option maxRecDepth 8192 in
/-- What the write-out to row 0 of the result leaves there. -/
theorem writes_o0K (o0 : Vec F S2x262144 .f32) (w : Vec F S16384 .f32) (x : S16384.Idx) :
    (o0K i).view.writes (Elt F) o0 [⟨Rect.whole S16384, w⟩] (o0Ix i x) = w x := by
  refine (congrArg ((o0K i).view.writes (Elt F) o0 [⟨Rect.whole S16384, w⟩]) (o0K_emb i x).symm).trans ?_
  have h := read_writes_whole (Val := Elt F) (o0K i).view o0 w x
  rw [View.read_apply] at h
  exact (cast_eq _ _).symm.trans h

/-- Where element `x` of the task's part of row 1 of the result lies. -/
def o1Ix (i : grid0.Coords) (x : S16384.Idx) : S2x262144.Idx := fun
  | 0 => ⟨1, by decide⟩
  | 1 => ⟨16384 * (i 1).val + (x 0).val, by
      have h1 : (i 1).val < 16 := (i 1).isLt
      have h2 : (x 0).val < 16384 := (x 0).isLt
      show _ < 262144
      omega⟩
  | ⟨_ + 2, h⟩ => absurd h (Nat.not_lt.2 (Nat.le_add_left _ _))

/-- Where the second stripe's view puts an element. -/
theorem o1K_emb (i : grid0.Coords) (x : S16384.Idx) : (o1K i).view.emb x = o1Ix i x := by
  have hr : Shape.reshapeEquiv squeezes_S1x16384_S16384.numel_eq x = unsq x := Shape.reshapeEquiv_eq_of_rowMajor _ (by
    rw [Shape.rowMajor_val_two, Shape.rowMajor_val_one]
    show 0 * 16384 + (x 0).val = (x 0).val
    omega)
  show (Rect.unit (s := S2x262144) (k0_off6 i) S1x16384.size (k0_off6_inb i)).emb (Shape.reshapeEquiv squeezes_S1x16384_S16384.numel_eq x) = _
  rw [hr]
  have h0 : (i 0).val = 0 := by have : (i 0).val < 1 := (i 0).isLt; omega
  funext a
  apply Fin.ext
  show (k0_off6 i) a + 1 * (unsq x a).val = (o1Ix i x a).val
  rw [k0_off6_eq]
  match a with
  | 0 => rfl
  | 1 =>
    show 16384 * (i 1).val + 262144 * (i 0).val + 1 * (x 0).val = 16384 * (i 1).val + (x 0).val
    omega

/-- Contents that agree on the second stripe are the same ownership of it. -/
theorem pts_o1K_congr (f g : Buf (Elt F) ((o1K i).view.loc (thr d i))) (h : ∀ x, f (o1Ix i x) = g (o1Ix i x)) :
    ((o1K i).view.loc (thr d i) ↦[(o1K i).view.set]{fullShare} f : sProp 𝕄) = ((o1K i).view.loc (thr d i) ↦[(o1K i).view.set]{fullShare} g : sProp 𝕄) :=
  pointsTo_congr fun y hy => by
    obtain ⟨x, -, rfl⟩ := Finset.mem_map.mp hy
    rw [o1K_emb]
    exact h x

set_option maxRecDepth 8192 in
/-- What the write-out to row 1 of the result leaves there. -/
theorem writes_o1K (o0 : Vec F S2x262144 .f32) (w : Vec F S16384 .f32) (x : S16384.Idx) :
    (o1K i).view.writes (Elt F) o0 [⟨Rect.whole S16384, w⟩] (o1Ix i x) = w x := by
  refine (congrArg ((o1K i).view.writes (Elt F) o0 [⟨Rect.whole S16384, w⟩]) (o1K_emb i x).symm).trans ?_
  have h := read_writes_whole (Val := Elt F) (o1K i).view o0 w x
  rw [View.read_apply] at h
  exact (cast_eq _ _).symm.trans h

/-- The invariant of the first loop: before trip `k` the first stripe holds the sum of the first `k` stars. -/
def inv0 (q7 q8 q9 : PosShare TreeShare) (g7 : Buf (Elt F) ((thr d i).loc cc0_scratch0)) (g8 : Buf (Elt F) ((thr d i).loc cc0_scratch1))
    (kk : Vec F S128 .i32) (ff : Vec F S128 .f32) (gg : Vec F S112 .f32) (z : Vec F S16384 .f32) (k : ℕ) (_ : PUnit) : sProp 𝕄 :=
  iprop(((aK).view.loc (thr d i) ↦{q7} g7) ∗ ((aF).view.loc (thr d i) ↦{q8} g8) ∗ ((aG).view.loc (thr d i) ↦{q9} gg)
    ∗ ((a0).view.loc (thr d i) ↦{fullShare} starsVal i kk ff gg 0 z k))

/-- The invariant of the second loop, over the second stripe. -/
def inv1 (q7 q8 q9 : PosShare TreeShare) (g7 : Buf (Elt F) ((thr d i).loc cc0_scratch0)) (g8 : Buf (Elt F) ((thr d i).loc cc0_scratch1))
    (kk : Vec F S128 .i32) (ff : Vec F S128 .f32) (gg : Vec F S112 .f32) (z : Vec F S16384 .f32) (k : ℕ) (_ : PUnit) : sProp 𝕄 :=
  iprop(((aK).view.loc (thr d i) ↦{q7} g7) ∗ ((aF).view.loc (thr d i) ↦{q8} g8) ∗ ((aG).view.loc (thr d i) ↦{q9} gg)
    ∗ ((a1).view.loc (thr d i) ↦{fullShare} starsVal i kk ff gg 64 z k))

/-- The first 128 words of a 144-word array. -/
theorem coords_first (n : ℕ) (hn : n < 128) (a : Fin 1) : (ix144 n a).val = (Rect.unit (s := S144) ![0] S128.size inb_S144_S128_0).off a + (Rect.unit (s := S144) ![0] S128.size inb_S144_S128_0).stride a * (ix128 n a).val := by
  have ha := Subsingleton.elim a 0
  subst ha
  show n % 144 = 0 + 1 * (n % 128)
  omega

/-- One trip of the first loop takes the first stripe from the value of `k` stars to that of `k + 1`. -/
theorem region0 (q7 q8 q9 : PosShare TreeShare) (g7 : Buf (Elt F) ((thr d i).loc cc0_scratch0)) (g8 : Buf (Elt F) ((thr d i).loc cc0_scratch1))
    (kk : Vec F S128 .i32) (ff : Vec F S128 .f32) (gg : Vec F S112 .f32) (z : Vec F S16384 .f32)
    (h7 : ∀ n, n < 128 → g7 (ix144 n) = kk (ix128 n)) (h8 : ∀ n, n < 128 → g8 (ix144 n) = ff (ix128 n)) (k : Fin k0_t1_loop.trips) (acc : PUnit) :
    inv0 d i q7 q8 q9 g7 g8 kk ff gg z k.val acc ⊢ wp frame (wpE (defs₀ (F := F)) 𝒱₀ (thr d i) none) Set.univ
      (k0_t1_body (F := F) i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1 (baseW i) k acc) (inv0 d i q7 q8 q9 g7 g8 kk ff gg z (k.val + 1)) := by
  have hk : k.val < 64 := lt_of_lt_of_eq k.isLt (by decide)
  have h := wp_trip (store0 d i) (inv0 d i q7 q8 q9 g7 g8 kk ff gg z (k.val + 1)) q7 q8 q9 g7 g8 kk ff gg h7 h8 (starsVal i kk ff gg 0 z k.val) (0 + k.val) (by omega) (Scf.iv 0#32 1#32 k)
    (by simp [Scf.iv, BitVec.ofNat_add]) (k0_off1 k) (k0_off1_inb k) (by rw [k0_off1_eq]; simp [Nat.add_comm]) (k0_off2 k) (k0_off2_inb k) (by rw [k0_off2_eq]; simp [Nat.add_comm])
  rw [t1_body_eq (F := F) i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1 k acc]
  refine BIBase.Entails.trans ?_ h
  unfold inv0
  iintro ⟨H7, H8, H9, H10⟩
  isplitl [H7]; · iexact H7
  isplitl [H8]; · iexact H8
  isplitl [H9]; · iexact H9
  isplitl [H10]; · iexact H10
  iintro ⟨H7, H8, H9, H10⟩
  isplitl [H7]; · iexact H7
  isplitl [H8]; · iexact H8
  isplitl [H9]; · iexact H9
  iexact H10

/-- One trip of the second loop does the same to the second stripe, from star 64. -/
theorem region1 (q7 q8 q9 : PosShare TreeShare) (g7 : Buf (Elt F) ((thr d i).loc cc0_scratch0)) (g8 : Buf (Elt F) ((thr d i).loc cc0_scratch1))
    (kk : Vec F S128 .i32) (ff : Vec F S128 .f32) (gg : Vec F S112 .f32) (z : Vec F S16384 .f32)
    (h7 : ∀ n, n < 128 → g7 (ix144 n) = kk (ix128 n)) (h8 : ∀ n, n < 128 → g8 (ix144 n) = ff (ix128 n)) (k : Fin k0_t2_loop.trips) (acc : PUnit) :
    inv1 d i q7 q8 q9 g7 g8 kk ff gg z k.val acc ⊢ wp frame (wpE (defs₀ (F := F)) 𝒱₀ (thr d i) none) Set.univ
      (k0_t2_body (F := F) i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1 (baseW i) k acc) (inv1 d i q7 q8 q9 g7 g8 kk ff gg z (k.val + 1)) := by
  have hk : k.val < 64 := lt_of_lt_of_eq k.isLt (by decide)
  have h := wp_trip (store1 d i) (inv1 d i q7 q8 q9 g7 g8 kk ff gg z (k.val + 1)) q7 q8 q9 g7 g8 kk ff gg h7 h8 (starsVal i kk ff gg 64 z k.val) (64 + k.val) (by omega) (Scf.iv 64#32 1#32 k)
    (by simp [Scf.iv, BitVec.ofNat_add]) (k0_off3 k) (k0_off3_inb k) (by rw [k0_off3_eq]; simp [Nat.add_comm]) (k0_off4 k) (k0_off4_inb k) (by rw [k0_off4_eq]; simp [Nat.add_comm])
  rw [t2_body_eq (F := F) i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1 k acc]
  refine BIBase.Entails.trans ?_ h
  unfold inv1
  iintro ⟨H7, H8, H9, H10⟩
  isplitl [H7]; · iexact H7
  isplitl [H8]; · iexact H8
  isplitl [H9]; · iexact H9
  isplitl [H10]; · iexact H10
  iintro ⟨H7, H8, H9, H10⟩
  isplitl [H7]; · iexact H7
  isplitl [H8]; · iexact H8
  isplitl [H9]; · iexact H9
  iexact H10

set_option maxHeartbeats 1000000 in
/-- One tile: with the operands to read and its stripes to write, it ends with its stripes at their values. -/
theorem tile_core (O : CellTallies nD τ sig (HIx 1)) (W : Waits sig (HIx 1)) (q : PosShare TreeShare)
    (kk : Vec F S128 .i32) (ff : Vec F S128 .f32) (gg : Vec F S112 .f32) (zz : Vec F S16384 .f32) (o0 ov : Vec F S2x262144 .f32)
    (hv0 : ∀ x, ov (o0Ix i x) = starsVal i kk ff gg 0 zz 64 x) (hv1 : ∀ x, ov (o1Ix i x) = starsVal i kk ff gg 64 zz 64 x)
    (p5 : Transfers.BatchOf (thr d i : Thread nD τ) (SemLoc.dma (sig := sig) cc0_scratch5.sem) 2 (windows := true))
    (p7 : Transfers.BatchOf (thr d i : Thread nD τ) (SemLoc.dma (sig := sig) cc0_scratch7.sem) 2 (windows := true))
    (f7 : Buf (Elt F) ((thr d i).loc cc0_scratch0)) (f8 : Buf (Elt F) ((thr d i).loc cc0_scratch1)) (f9 : Buf (Elt F) ((thr d i).loc cc0_scratch2)) (f10 : Buf (Elt F) ((thr d i).loc cc0_scratch3)) (f11 : Buf (Elt F) ((thr d i).loc cc0_scratch4)) :
    iprop(Transfers.MayWaits (thr d i) (none : HIx 1) O
        ∗ ((kW).view.loc (thr d i) ↦{q} kk) ∗ ((fW).view.loc (thr d i) ↦{q} ff) ∗ ((gW).view.loc (thr d i) ↦{q} gg) ∗ ((zW).view.loc (thr d i) ↦{q} zz)
        ∗ ((o0K i).view.loc (thr d i) ↦[(o0K i).view.set]{fullShare} o0) ∗ ((o1K i).view.loc (thr d i) ↦[(o1K i).view.set]{fullShare} o0)
        ∗ ((aK).view.loc (thr d i) ↦{fullShare} f7) ∗ ((aF).view.loc (thr d i) ↦{fullShare} f8) ∗ ((aG).view.loc (thr d i) ↦{fullShare} f9)
        ∗ ((a0).view.loc (thr d i) ↦{fullShare} f10) ∗ ((a1).view.loc (thr d i) ↦{fullShare} f11)
        ∗ semVal (thr d i, SemLoc.dma cc0_scratch5.sem) 0 ∗ semVal (thr d i, SemLoc.dma cc0_scratch6.sem) 0 ∗ semVal (thr d i, SemLoc.dma cc0_scratch7.sem) 0
        ∗ semVal (thr d i, SemLoc.dma cc0_scoped0.sem) 0 ∗ semVal (thr d i, SemLoc.dma cc0_scoped1.sem) 0
        ∗ owes (thr d i) O W)
      ⊢ wp frame (wpE (defs₀ (F := F)) 𝒱₀ (thr d i) none) Set.univ
          (cc0__sky_body i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1)
          (fun _ => (iprop(((kW).view.loc (thr d i) ↦{q} kk) ∗ ((fW).view.loc (thr d i) ↦{q} ff) ∗ ((gW).view.loc (thr d i) ↦{q} gg) ∗ ((zW).view.loc (thr d i) ↦{q} zz)
            ∗ ((o0K i).view.loc (thr d i) ↦[(o0K i).view.set]{fullShare} ov)
            ∗ ((o1K i).view.loc (thr d i) ↦[(o1K i).view.set]{fullShare} ov)
            ∗ (∃ f, (aK).view.loc (thr d i) ↦{fullShare} f) ∗ (∃ f, (aF).view.loc (thr d i) ↦{fullShare} f) ∗ (∃ f, (aG).view.loc (thr d i) ↦{fullShare} f)
            ∗ (∃ f, (a0).view.loc (thr d i) ↦{fullShare} f) ∗ (∃ f, (a1).view.loc (thr d i) ↦{fullShare} f)
            ∗ semVal (thr d i, SemLoc.dma cc0_scratch5.sem) 0 ∗ semVal (thr d i, SemLoc.dma cc0_scratch6.sem) 0 ∗ semVal (thr d i, SemLoc.dma cc0_scratch7.sem) 0
            ∗ semVal (thr d i, SemLoc.dma cc0_scoped0.sem) 0 ∗ semVal (thr d i, SemLoc.dma cc0_scoped1.sem) 0
            ∗ ∃ W', ⌜∀ p ∈ W', p ∈ W ∨ p.2 = none⌝ ∗ owes (thr d i) O W') : sProp 𝕄)) := by
  generalize hp : cc0__sky_body (F := F) i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1 = p
  rw [cc0__sky_body_eq_skeleton] at hp; unfold cc0__sky_body_skel at hp
  rw [k0_part7_eq_skeleton] at hp; unfold k0_part7_skel at hp
  simp only [bind_assoc] at hp
  subst hp
  iintro ⟨#Hmw, Hkk, Hff, Hgg, Hzz, Ho0, Ho1, H7, H8, H9, H10, H11, Hs5, Hs6, Hs7, Hc0, Hc1, HO⟩
  sl_exec
  have e9 : View.write (Elt F) (aG).view f9 (tile_core.sl.dma0_1 gg) Finset.univ = gg := View.write_whole_univ _ _ _
  have e10 : View.write (Elt F) (a0).view f10 (tile_core.sl.dma3 zz) Finset.univ = zz := View.write_whole_univ _ _ _
  have e11 : View.write (Elt F) (a1).view f11 (tile_core.sl.dma3 zz) Finset.univ = zz := View.write_whole_univ _ _ _
  rw [e9, e10, e11]
  have h7 : ∀ n, n < 128 → (aK).view.writes (Elt F) f7 [⟨Rect.unit ![0] S128.size inb_S144_S128_0, tile_core.sl.dma0 kk⟩] (ix144 n) = kk (ix128 n) := fun n hn =>
    View.read_writes_cons_hit_of_coords (aK).view (Val := Elt F) (f := f7) (Rect.unit (s := S144) ![0] S128.size inb_S144_S128_0) (tile_core.sl.dma0 kk) [] (ix128 n) (ix144 n) (coords_first n hn)
  have h8 : ∀ n, n < 128 → (aF).view.writes (Elt F) f8 [⟨Rect.unit ![0] S128.size inb_S144_S128_0, tile_core.sl.dma1 ff⟩] (ix144 n) = ff (ix128 n) := fun n hn =>
    View.read_writes_cons_hit_of_coords (aF).view (Val := Elt F) (f := f8) (Rect.unit (s := S144) ![0] S128.size inb_S144_S128_0) (tile_core.sl.dma1 ff) [] (ix128 n) (ix144 n) (coords_first n hn)
  generalize (aK).view.writes (Elt F) f7 [⟨Rect.unit ![0] S128.size inb_S144_S128_0, tile_core.sl.dma0 kk⟩] = g7 at h7 ⊢
  generalize (aF).view.writes (Elt F) f8 [⟨Rect.unit ![0] S128.size inb_S144_S128_0, tile_core.sl.dma1 ff⟩] = g8 at h8 ⊢
  sl_for (inv0 d i fullShare fullShare fullShare g7 g8 kk ff gg zz) $$ [H7 H8 H9 H10]
  case region =>
    intro k acc
    exact region0 d i fullShare fullShare fullShare g7 g8 kk ff gg zz h7 h8 k acc
  · unfold inv0
    isplitl [H7]; · iexact H7
    isplitl [H8]; · iexact H8
    isplitl [H9]; · iexact H9
    iexact H10
  iintro %acc HI
  unfold inv0
  icases HI with ⟨H7, H8, H9, H10⟩
  sl_for (inv1 d i fullShare fullShare fullShare g7 g8 kk ff gg zz) $$ [H7 H8 H9 H11]
  case region =>
    intro k acc
    exact region1 d i fullShare fullShare fullShare g7 g8 kk ff gg zz h7 h8 k acc
  · unfold inv1
    isplitl [H7]; · iexact H7
    isplitl [H8]; · iexact H8
    isplitl [H9]; · iexact H9
    iexact H11
  iintro %acc' HI
  unfold inv1
  icases HI with ⟨H7, H8, H9, H11⟩
  have ht1 : Scf.trips k0_t1_loop.lb k0_t1_loop.ub k0_t1_loop.st = 64 := by decide
  have ht2 : Scf.trips k0_t2_loop.lb k0_t2_loop.ub k0_t2_loop.st = 64 := by decide
  rw [ht1, ht2]
  sl_exec
  ihave Ho0 := (Entails.of_eq (pts_o0K_congr d i ((o0K i).view.writes (Elt F) o0 [⟨Rect.whole S16384, tile_core.sl.dma0_2 i kk ff gg zz⟩]) ov (fun x => (writes_o0K i o0 (tile_core.sl.dma0_2 i kk ff gg zz) x).trans (hv0 x).symm))) $$ Ho0
  ihave Ho1 := (Entails.of_eq (pts_o1K_congr d i ((o1K i).view.writes (Elt F) o0 [⟨Rect.whole S16384, tile_core.sl.dma0_3 i kk ff gg zz⟩]) ov (fun x => (writes_o1K i o0 (tile_core.sl.dma0_3 i kk ff gg zz) x).trans (hv1 x).symm))) $$ Ho1
  iapply (le_wp_ret _ _ _ _)
  isplitl [Hkk]; · iexact Hkk
  isplitl [Hff]; · iexact Hff
  isplitl [Hgg]; · iexact Hgg
  isplitl [Hzz]; · iexact Hzz
  isplitl [Ho0]; · iexact Ho0
  isplitl [Ho1]; · iexact Ho1
  isplitl [H7]; · iexists _; iexact H7
  isplitl [H8]; · iexists _; iexact H8
  isplitl [H9]; · iexists _; iexact H9
  isplitl [H10]; · iexists _; iexact H10
  isplitl [H11]; · iexists _; iexact H11
  isplitl [Hs5]; · iexact Hs5
  isplitl [Hs6]; · iexact Hs6
  isplitl [Hs7]; · iexact Hs7
  isplitl [Hc0]; · iexact Hc0
  isplitl [Hc1]; · iexact Hc1
  iexists _; isplitr
  swap; · iexact HO
  ipureintro
  intro p hp
  simp only [Finset.mem_insert] at hp
  rcases hp with h | h | h | h | h | h | h | h
  · exact .inr (h ▸ rfl)
  · exact .inr (h ▸ rfl)
  · exact .inr (h ▸ rfl)
  · exact .inr (h ▸ rfl)
  · exact .inr (h ▸ rfl)
  · exact .inr (h ▸ rfl)
  · exact .inr (h ▸ rfl)
  · exact .inl h

end Tile

end Cert.Sky

end
-- ==== Proof.Launch.lean ====
/-
  What the launch hands each tile and takes back, and the obligations of the launch that concern the tiles.
-/
module

public import proofs.«01_k».proof.Proof.Tile

@[expose] public section

noncomputable section

namespace Cert.Sky

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic

variable {F : FTy → Type} [FloatOps F]

local notation "𝕄" => MT nD τ sig (HIx 1) (Elt F) ℕ UU ℕ
local notation "aK" => (Memref.whole cc0_scratch0 : Memref sig Kind.scVector Space.vmem S144 EltTy.i32)
local notation "aF" => (Memref.whole cc0_scratch1 : Memref sig Kind.scVector Space.vmem S144 EltTy.f32)
local notation "aG" => (Memref.whole cc0_scratch2 : Memref sig Kind.scVector Space.vmem S112 EltTy.f32)
local notation "a0" => (Memref.whole cc0_scratch3 : Memref sig Kind.scVector Space.vmem S16384 EltTy.f32)
local notation "a1" => (Memref.whole cc0_scratch4 : Memref sig Kind.scVector Space.vmem S16384 EltTy.f32)
local notation "kW" => (Memref.whole main_v244_scv : Memref sig Kind.scVector Space.hbm S128 EltTy.i32)
local notation "fW" => (Memref.whole main_v245_scv : Memref sig Kind.scVector Space.hbm S128 EltTy.f32)
local notation "gW" => (Memref.whole main_v242_scv : Memref sig Kind.scVector Space.hbm S112 EltTy.f32)
local notation "zW" => (Memref.whole main_v243_scv : Memref sig Kind.scVector Space.hbm S16384 EltTy.f32)
local notation "oW" => (Memref.whole main_v246_scv : Memref sig Kind.scVector Space.hbm S2x262144 EltTy.f32)

/-! ## The operands -/

/-- The call's operands (the keys, the weights, the patch, the zeros), and what the result's array holds before it. -/
structure Ops (F : FTy → Type) where
  kk : Vec F S128 .i32
  ff : Vec F S128 .f32
  gg : Vec F S112 .f32
  zz : Vec F S16384 .f32
  o0 : Vec F S2x262144 .f32

/-- Where the keys lie. -/
abbrev kLoc (d : Dev nD) : Loc nD τ sig := (SparseCore.T d).loc main_v244
/-- Where the weights lie. -/
abbrev fLoc (d : Dev nD) : Loc nD τ sig := (SparseCore.T d).loc main_v245
/-- Where the patch lies. -/
abbrev gLoc (d : Dev nD) : Loc nD τ sig := (SparseCore.T d).loc main_v242
/-- Where the zeros lie. -/
abbrev zLoc (d : Dev nD) : Loc nD τ sig := (SparseCore.T d).loc main_v243
/-- Where the result lies. -/
abbrev oLoc (d : Dev nD) : Loc nD τ sig := (SparseCore.T d).loc main_v246

/-- The tile that writes an element of the result. -/
def tileOf (y : S2x262144.Idx) : grid0.Coords :=
  coordsV ⟨0, by decide⟩ ⟨(y 1).val / 16384, by have h : (y 1).val < 262144 := (y 1).isLt; show _ < 16; omega⟩

/-- Where in its stripe. -/
def posOf (y : S2x262144.Idx) : S16384.Idx := fun
  | 0 => ⟨(y 1).val % 16384, Nat.mod_lt _ (by decide)⟩
  | ⟨_ + 1, h⟩ => absurd h (Nat.not_lt.2 (Nat.le_add_left _ _))

/-- The result of the call: each element is its tile's stripe at its place, the first stripe's in row 0 (stars 0 to 63), the
    second's in row 1 (stars 64 to 127). -/
def outV (A : Ops F) (y : S2x262144.Idx) : F .f32 :=
  if (y 0).val = 0 then starsVal (tileOf y) A.kk A.ff A.gg 0 A.zz 64 (posOf y) else starsVal (tileOf y) A.kk A.ff A.gg 64 A.zz 64 (posOf y)

/-- An element of a tile's first stripe is the tile's. -/
theorem tileOf_o0Ix (i : grid0.Coords) (x : S16384.Idx) : tileOf (o0Ix i x) = i := by
  have hx : (x 0).val < 16384 := (x 0).isLt
  funext a
  apply Fin.ext
  match a with
  | 0 => have h : (i 0).val < 1 := (i 0).isLt; show 0 = (i 0).val; omega
  | 1 => show (16384 * (i 1).val + (x 0).val) / 16384 = (i 1).val; omega
/-- An element of a tile's second stripe is the tile's. -/
theorem tileOf_o1Ix (i : grid0.Coords) (x : S16384.Idx) : tileOf (o1Ix i x) = i := tileOf_o0Ix i x
/-- The place in the stripe of an element of the first stripe. -/
theorem posOf_o0Ix (i : grid0.Coords) (x : S16384.Idx) : posOf (o0Ix i x) = x := by
  have hx : (x 0).val < 16384 := (x 0).isLt
  funext a
  apply Fin.ext
  match a with
  | 0 => show (16384 * (i 1).val + (x 0).val) % 16384 = (x 0).val; omega
/-- The place in the stripe of an element of the second stripe. -/
theorem posOf_o1Ix (i : grid0.Coords) (x : S16384.Idx) : posOf (o1Ix i x) = x := posOf_o0Ix i x

/-- The result on a tile's first stripe is the value of stars 0 to 63. -/
theorem outV_o0Ix (A : Ops F) (i : grid0.Coords) (x : S16384.Idx) : outV A (o0Ix i x) = starsVal i A.kk A.ff A.gg 0 A.zz 64 x := by
  have h : (o0Ix i x 0).val = 0 := rfl
  unfold outV; rw [if_pos h, tileOf_o0Ix, posOf_o0Ix]
/-- The result on a tile's second stripe is the value of stars 64 to 127. -/
theorem outV_o1Ix (A : Ops F) (i : grid0.Coords) (x : S16384.Idx) : outV A (o1Ix i x) = starsVal i A.kk A.ff A.gg 64 A.zz 64 x := by
  have h : ¬ (o1Ix i x 0).val = 0 := by show ¬ (1 = 0); decide
  unfold outV; rw [if_neg h, tileOf_o1Ix, posOf_o1Ix]

/-! ## The parts of the result -/

/-- Tile `w`'s part of row 0 of the result, and of row 1. -/
def row0 (w : Fin 16) : Finset S2x262144.Idx := Finset.univ.filter fun y => (y 0).val = 0 ∧ (y 1).val / 16384 = w.val
/-- The elements of a tile's second stripe. -/
def row1 (w : Fin 16) : Finset S2x262144.Idx := Finset.univ.filter fun y => (y 0).val = 1 ∧ (y 1).val / 16384 = w.val

/-- A task's number among the 16. -/
abbrev jL (i : grid0.Coords) : Fin 16 := Fin.cast (rfl : grid0.bound 1 = 16) (i 1)

/-- The view of a tile's first stripe covers exactly its elements. -/
theorem set_o0K (i : grid0.Coords) : (o0K i).view.set = row0 (jL i) := by
  ext y
  have hy : (y 1).val < 262144 := (y 1).isLt
  have hi : (i 1).val < 16 := (i 1).isLt
  refine Iff.trans Finset.mem_map (Iff.trans ?_ (Finset.mem_filter.trans (and_iff_right (Finset.mem_univ y))).symm)
  constructor
  · rintro ⟨x, -, rfl⟩
    have hx : (x 0).val < 16384 := (x 0).isLt
    rw [o0K_emb]
    refine ⟨rfl, ?_⟩
    show (16384 * (i 1).val + (x 0).val) / 16384 = (i 1).val
    omega
  · rintro ⟨h0, h1⟩
    have h1' : (y 1).val / 16384 = (i 1).val := h1
    refine ⟨posOf y, Finset.mem_univ _, (o0K_emb i _).trans ?_⟩
    funext a
    apply Fin.ext
    match a with
    | 0 => exact h0.symm
    | 1 => show 16384 * (i 1).val + (y 1).val % 16384 = (y 1).val; omega
/-- The view of a tile's second stripe covers exactly its elements. -/
theorem set_o1K (i : grid0.Coords) : (o1K i).view.set = row1 (jL i) := by
  ext y
  have hy : (y 1).val < 262144 := (y 1).isLt
  have hi : (i 1).val < 16 := (i 1).isLt
  refine Iff.trans Finset.mem_map (Iff.trans ?_ (Finset.mem_filter.trans (and_iff_right (Finset.mem_univ y))).symm)
  constructor
  · rintro ⟨x, -, rfl⟩
    have hx : (x 0).val < 16384 := (x 0).isLt
    rw [o1K_emb]
    refine ⟨rfl, ?_⟩
    show (16384 * (i 1).val + (x 0).val) / 16384 = (i 1).val
    omega
  · rintro ⟨h0, h1⟩
    have h1' : (y 1).val / 16384 = (i 1).val := h1
    refine ⟨posOf y, Finset.mem_univ _, (o1K_emb i _).trans ?_⟩
    funext a
    apply Fin.ext
    match a with
    | 0 => exact h0.symm
    | 1 => show 16384 * (i 1).val + (y 1).val % 16384 = (y 1).val; omega

/-- A tile's two stripes are apart. -/
theorem rows_disj (w : Fin 16) : Disjoint (row0 w) (row1 w) := by
  rw [Finset.disjoint_left]
  intro y h0 h1
  have e0 := (Finset.mem_filter.mp h0).2.1
  have e1 := (Finset.mem_filter.mp h1).2.1
  omega

/-- Two tiles' stripes are apart. -/
theorem tiles_disj : ∀ v ∈ (Finset.univ : Finset (Fin 16)), ∀ w ∈ (Finset.univ : Finset (Fin 16)), v ≠ w → Disjoint (row0 v ∪ row1 v) (row0 w ∪ row1 w) := by
  intro v _ w _ hvw
  rw [Finset.disjoint_left]
  intro y h0 h1
  have e (w : Fin 16) (h : y ∈ row0 w ∪ row1 w) : (y 1).val / 16384 = w.val := by
    rcases Finset.mem_union.mp h with h | h
    · exact (Finset.mem_filter.mp h).2.2
    · exact (Finset.mem_filter.mp h).2.2
  exact hvw (Fin.ext ((e v h0).symm.trans (e w h1)))

/-- The tiles' stripes together are the whole result. -/
theorem tiles_cover : (Finset.univ : Finset (Fin 16)).biUnion (fun w => row0 w ∪ row1 w) = Finset.univ := by
  refine Finset.eq_univ_of_forall fun y => ?_
  have hy : (y 1).val < 262144 := (y 1).isLt
  have hy0 : (y 0).val < 2 := (y 0).isLt
  refine Finset.mem_biUnion.mpr ⟨⟨(y 1).val / 16384, by omega⟩, Finset.mem_univ _, Finset.mem_union.mpr ?_⟩
  by_cases h : (y 0).val = 0
  · exact .inl (Finset.mem_filter.mpr ⟨Finset.mem_univ _, h, rfl⟩)
  · exact .inr (Finset.mem_filter.mpr ⟨Finset.mem_univ _, by omega, rfl⟩)

omit [FloatOps F] in
/-- The result held whole is its tiles' parts. -/
theorem oPts_tiles (d : Dev nD) (f : Buf (Elt F) (oLoc d)) :
    (oLoc d ↦{fullShare} f : sProp 𝕄) = bigSep Finset.univ fun w : Fin 16 => iprop((oLoc d ↦[row0 w]{fullShare} f) ∗ oLoc d ↦[row1 w]{fullShare} f) := by
  have h : (oLoc d ↦{fullShare} f : sProp 𝕄) = bigSep Finset.univ fun w : Fin 16 => oLoc d ↦[row0 w ∪ row1 w]{fullShare} f := by
    rw [← pointsTo_biUnion Finset.univ (ℓ := oLoc d) (fun w => row0 w ∪ row1 w) tiles_disj, tiles_cover]; try rfl
  rw [h]
  refine bigSep_congr fun w _ => ?_
  have hu : (oLoc d ↦[row0 w ∪ row1 w]{fullShare} f : sProp 𝕄) ⊣⊢ iprop((oLoc d ↦[row0 w]{fullShare} f) ∗ oLoc d ↦[row1 w]{fullShare} f) := pointsTo_union (rows_disj w)
  exact BI.equiv_iff.mp ⟨hu.1, hu.2⟩

/-! ## What the handshakes carry -/

/-- The four operands at share `q`. -/
def inPts (A : Ops F) (d : Dev nD) (q : PosShare TreeShare) : sProp 𝕄 :=
  iprop((kLoc d ↦{q} A.kk) ∗ (fLoc d ↦{q} A.ff) ∗ (gLoc d ↦{q} A.gg) ∗ zLoc d ↦{q} A.zz)

/-- Tile `w`'s part of the result, at `f`. -/
def outPts (d : Dev nD) (w : Fin 16) (f : Buf (Elt F) (oLoc d)) : sProp 𝕄 :=
  iprop((oLoc d ↦[row0 w]{fullShare} f) ∗ oLoc d ↦[row1 w]{fullShare} f)

/-- The ownership of the operands may be handed over. -/
instance inPts_storable (A : Ops F) (d : Dev nD) (q : PosShare TreeShare) : BI.Storable (upEmb : UEmb _ 𝕄) (inPts A d q) := by
  unfold inPts; infer_instance
/-- The ownership of the stripes may be handed over. -/
instance outPts_storable (d : Dev nD) (w : Fin 16) (f : Buf (Elt F) (oLoc d)) : BI.Storable (upEmb : UEmb _ 𝕄) (outPts (F := F) d w f) := by
  unfold outPts; infer_instance

/-- The call takes the operands and the result's array whole; each tile a read share of every operand and its part of the
    result; they come back with the result at `outV`. -/
def P (A : Dev nD → Ops F) : (K (F := F)).Pay (nD := nD) (Val := Elt F) (Name := ℕ) (U := UU) where
  st := fun _ d _ => iprop(inPts (A d) d fullShare ∗ oLoc d ↦{fullShare} (A d).o0)
  dn := fun _ d _ => iprop(inPts (A d) d fullShare ∗ oLoc d ↦{fullShare} outV (A d))
  go := fun q d _ i => match q with
    | 0 => iprop(inPts (A d) d (shareTok fullShare 16 (Fin.cast nSub_zero i)) ∗ outPts d (Fin.cast nSub_zero i) (A d).o0)
  td := fun q d _ i => match q with
    | 0 => iprop(inPts (A d) d (shareTok fullShare 16 (Fin.cast nSub_zero i)) ∗ outPts d (Fin.cast nSub_zero i) (outV (A d)))
  x := fun _ _ => iprop(emp)

/-- What the call hands over may be handed over. -/
instance P_storable (A : Dev nD → Ops F) : (P A).IsStorable where
  st _ d _ := by unfold P; infer_instance
  dn _ d _ := by unfold P; infer_instance
  go q d _ i := match q with
    | 0 => (inferInstance : BI.Storable (upEmb : UEmb _ 𝕄) iprop(inPts (A d) d (shareTok fullShare 16 (Fin.cast nSub_zero i)) ∗ outPts d (Fin.cast nSub_zero i) (A d).o0))
  td q d _ i := match q with
    | 0 => (inferInstance : BI.Storable (upEmb : UEmb _ 𝕄) iprop(inPts (A d) d (shareTok fullShare 16 (Fin.cast nSub_zero i)) ∗ outPts d (Fin.cast nSub_zero i) (outV (A d))))

/-! ## The task -/

section Task

variable (d : Dev nD) (i : grid0.Coords)

/-- The cell of the semaphore of the keys' and the weights' copies. -/
abbrev c5 : GSem nD τ sig := (thr d i, .dma cc0_scratch5.sem)
/-- The cell of the semaphore of the taps' copy. -/
abbrev c6 : GSem nD τ sig := (thr d i, .dma cc0_scratch6.sem)
/-- The cell of the semaphore of the zeros' copies. -/
abbrev c7 : GSem nD τ sig := (thr d i, .dma cc0_scratch7.sem)
/-- The cell of the first copy out. -/
abbrev d0 : GSem nD τ sig := (thr d i, .dma cc0_scoped0.sem)
/-- The cell of the second copy out. -/
abbrev d1 : GSem nD τ sig := (thr d i, .dma cc0_scoped1.sem)

/-- Different semaphores of a task have different cells. -/
theorem cell_ne {a b : SemLoc sig} (h : a ≠ b) : ((thr d i, a) : GSem nD τ sig) ≠ (thr d i, b) := fun e => h (Prod.mk.inj e).2

/-- A scoped semaphore's cell is the task's own. -/
theorem cell_mem (a : SemLoc sig) (h : a.isScoped .scVector = true) : ((thr d i, a) : GSem nD τ sig) ∈ ownCells (thr d i) :=
  (mem_ownCells (g := (thr d i, a))).mpr ⟨rfl, h⟩

/-- The five semaphores are among the task's own: they are them, at zero, and the rest. -/
theorem ownSems0_V :
    (ownSems0 (thr d i) : sProp 𝕄)
      = iprop(semVal (c5 d i) 0 ∗ semVal (c6 d i) 0 ∗ semVal (c7 d i) 0 ∗ semVal (d0 d i) 0 ∗ semVal (d1 d i) 0
          ∗ bigSep ((((((ownCells (thr d i)).erase (c5 d i)).erase (c6 d i)).erase (c7 d i)).erase (d0 d i)).erase (d1 d i)) fun g => semVal g 0) := by
  unfold SparseCore.Cfg.ownSems0
  rw [SparseCore.bigSep_erase' (cell_mem d i (.dma cc0_scratch5.sem) (by decide)),
    SparseCore.bigSep_erase' (Finset.mem_erase.mpr ⟨cell_ne d i (by decide), cell_mem d i (.dma cc0_scratch6.sem) (by decide)⟩),
    SparseCore.bigSep_erase' (Finset.mem_erase.mpr ⟨cell_ne d i (by decide), Finset.mem_erase.mpr ⟨cell_ne d i (by decide), cell_mem d i (.dma cc0_scratch7.sem) (by decide)⟩⟩),
    SparseCore.bigSep_erase' (Finset.mem_erase.mpr ⟨cell_ne d i (by decide), Finset.mem_erase.mpr ⟨cell_ne d i (by decide), Finset.mem_erase.mpr ⟨cell_ne d i (by decide),
      cell_mem d i (.dma cc0_scoped0.sem) (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), cell_mem d i (.dma cc0_scoped1.sem) (by decide)⟩⟩⟩⟩)]

/-- A scratch array of a task, among its device's buffers. -/
abbrev bRef (b : Ref sig .scVector) : DevRef τ sig := (Proc.scVector (cV i) (jV i)).devRef b

/-- Different scratch arrays of a task are different buffers. -/
theorem ref_ne {a b : Ref sig .scVector} (h : a ≠ b) : bRef i a ≠ bRef i b := fun e => h (Proc.devRef_injective _ e)

/-- The five scratch arrays are among the task's own: they are them, at some contents, and the rest. -/
theorem ownBufs_V :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f)
          ∗ (∃ f, (thr d i).loc cc0_scratch3 ↦{fullShare} f) ∗ (∃ f, (thr d i).loc cc0_scratch4 ↦{fullShare} f)
          ∗ bigSep ((((((ownRefs (τ := τ) (.scVector (cV i) (jV i))).erase (bRef i cc0_scratch0)).erase (bRef i cc0_scratch1)).erase (bRef i cc0_scratch2)).erase
              (bRef i cc0_scratch3)).erase (bRef i cc0_scratch4)) fun b => iprop(∃ f, ((d, b) : Loc nD τ sig) ↦{fullShare} f)) := by
  unfold SparseCore.Cfg.ownBufs
  have hm (b : Ref sig .scVector) (h : (bRef i b).owner = (bRef i cc0_scratch0).owner) : bRef i b ∈ ownRefs (τ := τ) (.scVector (cV i) (jV i)) :=
    SparseCore.Cfg.mem_ownRefs_of_owner (p := Proc.scVector (cV i) (jV i)) (b := bRef i b) h
  refine (SparseCore.bigSep_erase' (hm cc0_scratch0 rfl)).trans ?_
  rw [SparseCore.bigSep_erase' (Finset.mem_erase.mpr ⟨ref_ne i (by decide), hm cc0_scratch1 rfl⟩),
    SparseCore.bigSep_erase' (Finset.mem_erase.mpr ⟨ref_ne i (by decide), Finset.mem_erase.mpr ⟨ref_ne i (by decide), hm cc0_scratch2 rfl⟩⟩),
    SparseCore.bigSep_erase' (Finset.mem_erase.mpr ⟨ref_ne i (by decide), Finset.mem_erase.mpr ⟨ref_ne i (by decide), Finset.mem_erase.mpr ⟨ref_ne i (by decide), hm cc0_scratch3 rfl⟩⟩⟩),
    SparseCore.bigSep_erase' (Finset.mem_erase.mpr ⟨ref_ne i (by decide), Finset.mem_erase.mpr ⟨ref_ne i (by decide), Finset.mem_erase.mpr ⟨ref_ne i (by decide),
      Finset.mem_erase.mpr ⟨ref_ne i (by decide), hm cc0_scratch4 rfl⟩⟩⟩⟩)]

/-- Owning the first stripe through its view is owning its elements. -/
theorem pts_o0K (f : Buf (Elt F) (oLoc d)) :
    ((o0K i).view.loc (thr d i) ↦[(o0K i).view.set]{fullShare} f : sProp 𝕄) = oLoc d ↦[row0 (jL i)]{fullShare} f := by rw [set_o0K]
/-- Owning the second stripe through its view is owning its elements. -/
theorem pts_o1K (f : Buf (Elt F) (oLoc d)) :
    ((o1K i).view.loc (thr d i) ↦[(o1K i).view.set]{fullShare} f : sProp 𝕄) = oLoc d ↦[row1 (jL i)]{fullShare} f := by rw [set_o1K]

/-- The task from what the launch hands it: the operands' shares and its part of the result, which comes back at `outV`. -/
theorem tile_body (A : Dev nD → Ops F) (hF : (K (F := F)).Facts) (O : CellTallies nD τ sig (HIx 1)) (W : Waits sig (HIx 1)) (hO : ∀ g, O g none = 0) :
    iprop(levAts (K (F := F)).L (K (F := F)).lev ∗ emp ∗ iprop(inPts (A d) d (shareTok fullShare 16 (jL i)) ∗ outPts d (jL i) (A d).o0)
        ∗ scopedBufs (thr d i) ∗ scopedSems0 (thr d i) ∗ owes (thr d i) O W)
      ⊢ wp frame (wpE (defs₀ (F := F)) 𝒱₀ (thr d i) none) Set.univ
          (cc0__sky_body i kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1)
          (fun _ => (iprop(iprop(inPts (A d) d (shareTok fullShare 16 (jL i)) ∗ outPts d (jL i) (outV (A d)))
            ∗ scopedBufs (thr d i) ∗ scopedSems0 (thr d i) ∗ ∃ W', ⌜∀ p ∈ W', p ∈ W ∨ p.2 = none⌝ ∗ owes (thr d i) O W') : sProp 𝕄)) := by
  rw [(K (F := F)).scopedBufs_V hF d (cV i) (jV i), SparseCore.Cfg.scopedSems0_V (Val := Elt F) d (cV i) (jV i), ownSems0_V, ownBufs_V]
  unfold inPts outPts
  have p5 : Transfers.BatchOf (thr d i : Thread nD τ) (SemLoc.dma (sig := sig) cc0_scratch5.sem) 2 (windows := true) := trivial
  have p7 : Transfers.BatchOf (thr d i : Thread nD τ) (SemLoc.dma (sig := sig) cc0_scratch7.sem) 2 (windows := true) := trivial
  iintro ⟨#Hlv, -, ⟨⟨Hk, Hf, Hg, Hz⟩, Ho0, Ho1⟩, ⟨⟨%f7, H7⟩, ⟨%f8, H8⟩, ⟨%f9, H9⟩, ⟨%f10, H10⟩, ⟨%f11, H11⟩, Hbufs⟩, ⟨Hs5, Hs6, Hs7, Hc0, Hc1, Hsems⟩, HO⟩
  ihave Hmw := ((K (F := F)).mayWaits_none (thr := thr d i) hO) $$ Hlv
  ihave Ho0' := (Entails.of_eq (pts_o0K d i (A d).o0).symm) $$ Ho0
  ihave Ho1' := (Entails.of_eq (pts_o1K d i (A d).o0).symm) $$ Ho1
  iapply (wp_wand_r frame (wpE (defs₀ (F := F)) 𝒱₀ (thr d i) none) Set.univ)
  isplitl [Hk Hf Hg Hz Ho0' Ho1' H7 H8 H9 H10 H11 Hs5 Hs6 Hs7 Hc0 Hc1 HO]
  · iapply (tile_core d i O W (shareTok fullShare 16 (jL i)) (A d).kk (A d).ff (A d).gg (A d).zz (A d).o0 (outV (A d)) (outV_o0Ix (A d) i) (outV_o1Ix (A d) i) p5 p7 f7 f8 f9 f10 f11)
    isplitr; · iexact Hmw
    isplitl [Hk]; · iexact Hk
    isplitl [Hf]; · iexact Hf
    isplitl [Hg]; · iexact Hg
    isplitl [Hz]; · iexact Hz
    isplitl [Ho0']; · iexact Ho0'
    isplitl [Ho1']; · iexact Ho1'
    isplitl [H7]; · iexact H7
    isplitl [H8]; · iexact H8
    isplitl [H9]; · iexact H9
    isplitl [H10]; · iexact H10
    isplitl [H11]; · iexact H11
    isplitl [Hs5]; · iexact Hs5
    isplitl [Hs6]; · iexact Hs6
    isplitl [Hs7]; · iexact Hs7
    isplitl [Hc0]; · iexact Hc0
    isplitl [Hc1]; · iexact Hc1
    iexact HO
  iintro %_ ⟨Hk, Hf, Hg, Hz, Ho0', Ho1', H7, H8, H9, H10, H11, Hs5, Hs6, Hs7, Hc0, Hc1, HO⟩
  ihave Ho0 := (Entails.of_eq (pts_o0K d i (outV (A d)))) $$ Ho0'
  ihave Ho1 := (Entails.of_eq (pts_o1K d i (outV (A d)))) $$ Ho1'
  isplitl [Hk Hf Hg Hz Ho0 Ho1]
  · isplitl [Hk Hf Hg Hz]
    · isplitl [Hk]; · iexact Hk
      isplitl [Hf]; · iexact Hf
      isplitl [Hg]; · iexact Hg
      iexact Hz
    · isplitl [Ho0]; · iexact Ho0
      iexact Ho1
  isplitl [H7 H8 H9 H10 H11 Hbufs]
  · isplitl [H7]; · iexact H7
    isplitl [H8]; · iexact H8
    isplitl [H9]; · iexact H9
    isplitl [H10]; · iexact H10
    isplitl [H11]; · iexact H11
    iexact Hbufs
  isplitl [Hs5 Hs6 Hs7 Hc0 Hc1 Hsems]
  · isplitl [Hs5]; · iexact Hs5
    isplitl [Hs6]; · iexact Hs6
    isplitl [Hs7]; · iexact Hs7
    isplitl [Hc0]; · iexact Hc0
    isplitl [Hc1]; · iexact Hc1
    iexact Hsems
  iexact HO

end Task

/-! ## The launch theorem's obligations -/

/-- A subcore's share of the call is the tile's body at its coordinates. -/
theorem defs₀_vector (c : Fin τ.nSC) (s : Fin τ.nSub) :
    defs₀ (F := F) (.scVector c s) 0 ()
      = SparseCore.onTile hcore0 hsub0 (fun c s => cc0__sky_body (coordsV c s) kW (Memref.isWhole_whole _) fW (Memref.isWhole_whole _) gW (Memref.isWhole_whole _) zW (Memref.isWhole_whole _) oW (Memref.isWhole_whole _) aK (Memref.isWhole_whole _) aF (Memref.isWhole_whole _) aG (Memref.isWhole_whole _) a0 (Memref.isWhole_whole _) a1 (Memref.isWhole_whole _) cc0_scratch5 cc0_scratch6 cc0_scratch7 cc0_scoped0 cc0_scoped1) ⟨⟩ c s := rfl

omit [FloatOps F] in
/-- The tile's waits, stated as the call asks for them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- Every task meets what the call asks of it. -/
theorem tileObl (A : Dev nD → Ops F) (hF : (K (F := F)).Facts) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) A hF O W hO).trans (wp_mono frame _ _ fun _ => obl_post)

/-- A conjunction over the call's tasks is one over 16. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The operands held whole are a rest and a read share for every tile. -/
theorem inPts_split (A : Ops F) (d : Dev nD) :
    inPts A d fullShare ⊢ (iprop(inPts A d (shareDrop fullShare 16) ∗ bigSep Finset.univ fun w : Fin 16 => inPts A d (shareTok fullShare 16 w)) : sProp 𝕄) := by
  unfold inPts
  rw [bigSep_sep', bigSep_sep', bigSep_sep']
  iintro ⟨Hk, Hf, Hg, Hz⟩
  ihave Hk' := (pointsTo_toks_split fullShare 16) $$ Hk
  ihave Hf' := (pointsTo_toks_split fullShare 16) $$ Hf
  ihave Hg' := (pointsTo_toks_split fullShare 16) $$ Hg
  ihave Hz' := (pointsTo_toks_split fullShare 16) $$ Hz
  icases Hk' with ⟨Hk1, Hk2⟩
  icases Hf' with ⟨Hf1, Hf2⟩
  icases Hg' with ⟨Hg1, Hg2⟩
  icases Hz' with ⟨Hz1, Hz2⟩
  isplitl [Hk1 Hf1 Hg1 Hz1]
  · isplitl [Hk1]; · iexact Hk1
    isplitl [Hf1]; · iexact Hf1
    isplitl [Hg1]; · iexact Hg1
    iexact Hz1
  isplitl [Hk2]; · iexact Hk2
  isplitl [Hf2]; · iexact Hf2
  isplitl [Hg2]; · iexact Hg2
  iexact Hz2

/-- And back. -/
theorem inPts_join (A : Ops F) (d : Dev nD) :
    (iprop(inPts A d (shareDrop fullShare 16) ∗ bigSep Finset.univ fun w : Fin 16 => inPts A d (shareTok fullShare 16 w)) : sProp 𝕄) ⊢ inPts A d fullShare := by
  unfold inPts
  rw [bigSep_sep', bigSep_sep', bigSep_sep']
  iintro ⟨⟨Hk1, Hf1, Hg1, Hz1⟩, Hk2, Hf2, Hg2, Hz2⟩
  isplitl [Hk1 Hk2]
  · iapply (pointsTo_toks_join fullShare 16); isplitl [Hk1]; · iexact Hk1
    iexact Hk2
  isplitl [Hf1 Hf2]
  · iapply (pointsTo_toks_join fullShare 16); isplitl [Hf1]; · iexact Hf1
    iexact Hf2
  isplitl [Hg1 Hg2]
  · iapply (pointsTo_toks_join fullShare 16); isplitl [Hg1]; · iexact Hg1
    iexact Hg2
  iapply (pointsTo_toks_join fullShare 16); isplitl [Hz1]; · iexact Hz1
  iexact Hz2

/-- The call's operands and result split among the tasks, and come back together with the result written. -/
theorem vecSplit (A : Dev nD → Ops F) : (K (F := F)).VecSplit' (P A) 0 := by
  intro d c
  show iprop(inPts (A d) d fullShare ∗ oLoc d ↦{fullShare} (A d).o0) ⊢ |={Set.univ}=> iprop(
      (bigSep Finset.univ fun i : Fin ((K (F := F)).nSub 0) =>
        iprop(inPts (A d) d (shareTok fullShare 16 (Fin.cast nSub_zero i)) ∗ outPts d (Fin.cast nSub_zero i) (A d).o0))
      ∗ ((bigSep Finset.univ fun i : Fin ((K (F := F)).nSub 0) =>
          iprop(inPts (A d) d (shareTok fullShare 16 (Fin.cast nSub_zero i)) ∗ outPts d (Fin.cast nSub_zero i) (outV (A d))))
          -∗ iprop(inPts (A d) d fullShare ∗ oLoc d ↦{fullShare} outV (A d))))
  rw [bigSep_tasks (F := F) (fun i => iprop(inPts (A d) d (shareTok fullShare 16 i) ∗ outPts d i (A d).o0)),
    bigSep_tasks (F := F) (fun i => iprop(inPts (A d) d (shareTok fullShare 16 i) ∗ outPts d i (outV (A d)))), bigSep_sep', bigSep_sep']
  rw [oPts_tiles d (A d).o0, oPts_tiles d (outV (A d))]
  iintro ⟨Hi, Ho⟩; imodintro
  ihave Hi' := (inPts_split (A d) d) $$ Hi
  icases Hi' with ⟨Hrest, Htoks⟩
  isplitl [Htoks Ho]
  · isplitl [Htoks]; · iexact Htoks
    iexact Ho
  iintro ⟨Htoks, Ho⟩
  isplitl [Hrest Htoks]
  · iapply (inPts_join (A d) d); isplitl [Hrest]; · iexact Hrest
    iexact Htoks
  iexact Ho

/-! ## The launch element: the handshakes' rounds; nothing of the kernel's own -/

/-- The ghost state at launch. -/
def u₀ : UU := (initOf (K (F := F)).hsCells (K (F := F)).hsToks, 1)

omit [FloatOps F] in
/-- A conjunction of nothing is nothing. -/
theorem bigSep_emp' {I : Type} (s : Finset I) : (bigSep s fun _ => iprop(emp)) = (iprop(emp) : sProp 𝕄) := bigSep_emp_const s

/-- The ghost state at launch is the handshakes' own; no thread needs a share beside them. -/
theorem hu₀ (A : Dev nD → Ops F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the call takes: the operands and the result's buffer. -/
theorem st0_eq (A : Dev nD → Ops F) (d : Dev nD) : (bigSep Finset.univ fun c : Fin ((K (F := F)).nCore 0) => (P A).st 0 d c) = iprop(inPts (A d) d fullShare ∗ oLoc d ↦{fullShare} (A d).o0) :=
  bigSep_univ_of_subsingleton (0 : Fin 1)
/-- What the call gives back: the operands and the result, written. -/
theorem dn0_eq (A : Dev nD → Ops F) (d : Dev nD) : (bigSep Finset.univ fun c : Fin ((K (F := F)).nCore 0) => (P A).dn 0 d c) = iprop(inPts (A d) d fullShare ∗ oLoc d ↦{fullShare} outV (A d)) :=
  bigSep_univ_of_subsingleton (0 : Fin 1)

end Cert.Sky

end
-- ==== Proof.Host.lean ====
/-
  The operations that the device's main thread runs before the call: their lists, that the program is those lists in
  order and then the call, which buffers they touch and which they write.
-/
module

public import proofs.«01_k».proof.Proof.Launch
public import Idealize.ShloMosaic.Lib.Pipeline.Frame

@[expose] public section

noncomputable section

namespace Cert.Sky

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
open Idealize.ShloMosaic.StableHlo

variable {F : FTy → Type} [FloatOps F]

local notation "𝕄" => MT nD τ sig (HIx 1) (Elt F) ℕ UU ℕ
/-! ## The lists -/

/-- The rows that `main_v27` stacks, as a function of the three of them. -/
def cat_v27 : (main_v17 : Ref sig .tc).ty.Contents (Elt F) → (main_v24 : Ref sig .tc).ty.Contents (Elt F) → (main_v26 : Ref sig .tc).ty.Contents (Elt F) → (main_v27 : Ref sig .tc).ty.Contents (Elt F) :=
  fun u0 u1 u2 => (concatenate S128x3x1 1 [⟨S128x1x1, (u0 : (⟨S128x1x1, .f32⟩ : BufTy).Contents (Elt F))⟩, ⟨S128x1x1, (u1 : (⟨S128x1x1, .f32⟩ : BufTy).Contents (Elt F))⟩, ⟨S128x1x1, (u2 : (⟨S128x1x1, .f32⟩ : BufTy).Contents (Elt F))⟩] concatenates_S128x1x1_S128x1x1_S128x1x1_S128x3x1_d1 : (⟨S128x3x1, .f32⟩ : BufTy).Contents (Elt F))

/-- The rows that `main_v91` stacks, as a function of the three of them. -/
def cat_v91 : (main_v88 : Ref sig .tc).ty.Contents (Elt F) → (main_v89 : Ref sig .tc).ty.Contents (Elt F) → (main_v90 : Ref sig .tc).ty.Contents (Elt F) → (main_v91 : Ref sig .tc).ty.Contents (Elt F) :=
  fun u0 u1 u2 => (concatenate S2x3 1 [⟨S2x1, (u0 : (⟨S2x1, .f32⟩ : BufTy).Contents (Elt F))⟩, ⟨S2x1, (u1 : (⟨S2x1, .f32⟩ : BufTy).Contents (Elt F))⟩, ⟨S2x1, (u2 : (⟨S2x1, .f32⟩ : BufTy).Contents (Elt F))⟩] concatenates_S2x1_S2x1_S2x1_S2x3_d1 : (⟨S2x3, .f32⟩ : BufTy).Contents (Elt F))

/-- The rows that `main_v95` stacks, as a function of the three of them. -/
def cat_v95 : (main_v92 : Ref sig .tc).ty.Contents (Elt F) → (main_v93 : Ref sig .tc).ty.Contents (Elt F) → (main_v94 : Ref sig .tc).ty.Contents (Elt F) → (main_v95 : Ref sig .tc).ty.Contents (Elt F) :=
  fun u0 u1 u2 => (concatenate S2x3 1 [⟨S2x1, (u0 : (⟨S2x1, .f32⟩ : BufTy).Contents (Elt F))⟩, ⟨S2x1, (u1 : (⟨S2x1, .f32⟩ : BufTy).Contents (Elt F))⟩, ⟨S2x1, (u2 : (⟨S2x1, .f32⟩ : BufTy).Contents (Elt F))⟩] concatenates_S2x1_S2x1_S2x1_S2x3_d1 : (⟨S2x3, .f32⟩ : BufTy).Contents (Elt F))

/-- The rows that `main_v99` stacks, as a function of the three of them. -/
def cat_v99 : (main_v96 : Ref sig .tc).ty.Contents (Elt F) → (main_v97 : Ref sig .tc).ty.Contents (Elt F) → (main_v98 : Ref sig .tc).ty.Contents (Elt F) → (main_v99 : Ref sig .tc).ty.Contents (Elt F) :=
  fun u0 u1 u2 => (concatenate S2x3 1 [⟨S2x1, (u0 : (⟨S2x1, .f32⟩ : BufTy).Contents (Elt F))⟩, ⟨S2x1, (u1 : (⟨S2x1, .f32⟩ : BufTy).Contents (Elt F))⟩, ⟨S2x1, (u2 : (⟨S2x1, .f32⟩ : BufTy).Contents (Elt F))⟩] concatenates_S2x1_S2x1_S2x1_S2x3_d1 : (⟨S2x3, .f32⟩ : BufTy).Contents (Elt F))

/-- The rows that `main_v103` stacks, as a function of the three of them. -/
def cat_v103 : (main_v100 : Ref sig .tc).ty.Contents (Elt F) → (main_v101 : Ref sig .tc).ty.Contents (Elt F) → (main_v102 : Ref sig .tc).ty.Contents (Elt F) → (main_v103 : Ref sig .tc).ty.Contents (Elt F) :=
  fun u0 u1 u2 => (concatenate S2x3x3 1 [⟨S2x1x3, (u0 : (⟨S2x1x3, .f32⟩ : BufTy).Contents (Elt F))⟩, ⟨S2x1x3, (u1 : (⟨S2x1x3, .f32⟩ : BufTy).Contents (Elt F))⟩, ⟨S2x1x3, (u2 : (⟨S2x1x3, .f32⟩ : BufTy).Contents (Elt F))⟩] concatenates_S2x1x3_S2x1x3_S2x1x3_S2x3x3_d1 : (⟨S2x3x3, .f32⟩ : BufTy).Contents (Elt F))

/-- The operations of the first part of the main thread. -/
abbrev h0 : List (HloOp τ sig (Elt F)) :=
  [ nullary main_cst (constant S_ .f32 0x41000000#32),
    unary main_cst main_v0 (broadcastInDim S1x128 ![] bcast_S_S1x128 : (⟨S_, .f32⟩ : BufTy).Contents (Elt F) → (⟨S1x128, .f32⟩ : BufTy).Contents (Elt F)),
    binary main_v0 main_arg3 main_v1 (subf : (⟨S1x128, .f32⟩ : BufTy).Contents (Elt F) → (⟨S1x128, .f32⟩ : BufTy).Contents (Elt F) → (⟨S1x128, .f32⟩ : BufTy).Contents (Elt F)),
    nullary main_cst_0 (constant S_ .f32 0x41200000#32),
    unary main_cst_0 main_v2 (broadcastInDim S1x128 ![] bcast_S_S1x128 : (⟨S_, .f32⟩ : BufTy).Contents (Elt F) → (⟨S1x128, .f32⟩ : BufTy).Contents (Elt F)),
    binary main_v1 main_v2 main_v3 (Host.divf : (⟨S1x128, .f32⟩ : BufTy).Contents (Elt F) → (⟨S1x128, .f32⟩ : BufTy).Contents (Elt F) → (⟨S1x128, .f32⟩ : BufTy).Contents (Elt F)),
    unary main_arg1 main_v4 (Host.negf : (⟨S128x1, .f32⟩ : BufTy).Contents (Elt F) → (⟨S128x1, .f32⟩ : BufTy).Contents (Elt F)),
    nullary main_cst_1 (constant S_ .f32 0x41700000#32),
    unary main_cst_1 main_v5 (broadcastInDim S128x1 ![] bcast_S_S128x1 : (⟨S_, .f32⟩ : BufTy).Contents (Elt F) → (⟨S128x1, .f32⟩ : BufTy).Contents (Elt F)),
    binary main_v4 main_v5 main_v6 (mulf : (⟨S128x1, .f32⟩ : BufTy).Contents (Elt F) → (⟨S128x1, .f32⟩ : BufTy).Contents (Elt F) → (⟨S128x1, .f32⟩ : BufTy).Contents (Elt F)),
    nullary main_cst_2 (constant S_ .f32 0x43340000#32),
    unary main_cst_2 main_v7 (broadcastInDim S128x1 ![] bcast_S_S128x1 : (⟨S_, .f32⟩ : BufTy).Contents (Elt F) → (⟨S128x1, .f32⟩ : BufTy).Contents (Elt F)),
    binary main_v6 main_v7 main_v8 (Host.divf : (⟨S128x1, .f32⟩ : BufTy).Contents (Elt F) → (⟨S128x1, .f32⟩ : BufTy).Contents (Elt F) → (⟨S128x1, .f32⟩ : BufTy).Contents (Elt F)),
    nullary main_cst_3 (constant S_ .f32 0x40490FDB#32),
    unary main_cst_3 main_v9 (broadcastInDim S128x1 ![] bcast_S_S128x1 : (⟨S_, .f32⟩ : BufTy).Contents (Elt F) → (⟨S128x1, .f32⟩ : BufTy).Contents (Elt F)),
    binary main_v8 main_v9 main_v10 (mulf : (⟨S128x1, .f32⟩ : BufTy).Contents (Elt F) → (⟨S128x1, .f32⟩ : BufTy).Contents (Elt F) → (⟨S128x1, .f32⟩ : BufTy).Contents (Elt F)),
    unary main_arg2 main_v11 (Host.cos : (⟨S128x1, .f32⟩ : BufTy).Contents (Elt F) → (⟨S128x1, .f32⟩ : BufTy).Contents (Elt F)),
    nullary main_cst_4 (constant S_ .f32 0x40C90FDB#32),
    unary main_cst_4 main_v12 (broadcastInDim S128x1 ![] bcast_S_S128x1 : (⟨S_, .f32⟩ : BufTy).Contents (Elt F) → (⟨S128x1, .f32⟩ : BufTy).Contents (Elt F)),
    binary main_v12 main_v10 main_v13 (subf : (⟨S128x1, .f32⟩ : BufTy).Contents (Elt F) → (⟨S128x1, .f32⟩ : BufTy).Contents (Elt F) → (⟨S128x1, .f32⟩ : BufTy).Contents (Elt F)),
    unary main_v13 main_v14 (Host.sin : (⟨S128x1, .f32⟩ : BufTy).Contents (Elt F) → (⟨S128x1, .f32⟩ : BufTy).Contents (Elt F)),
    binary main_v11 main_v14 main_v15 (mulf : (⟨S128x1, .f32⟩ : BufTy).Contents (Elt F) → (⟨S128x1, .f32⟩ : BufTy).Contents (Elt F) → (⟨S128x1, .f32⟩ : BufTy).Contents (Elt F)),
    reshape main_v15 main_v16 (rfl : (.f32 : EltTy) = .f32) shapeCasts_S128x1_S128x1x1,
    unary main_v16 main_v17 (Host.negf : (⟨S128x1x1, .f32⟩ : BufTy).Contents (Elt F) → (⟨S128x1x1, .f32⟩ : BufTy).Contents (Elt F)),
    unary main_arg2 main_v18 (Host.cos : (⟨S128x1, .f32⟩ : BufTy).Contents (Elt F) → (⟨S128x1, .f32⟩ : BufTy).Contents (Elt F)),
    nullary main_cst_5 (constant S_ .f32 0x40C90FDB#32),
    unary main_cst_5 main_v19 (broadcastInDim S128x1 ![] bcast_S_S128x1 : (⟨S_, .f32⟩ : BufTy).Contents (Elt F) → (⟨S128x1, .f32⟩ : BufTy).Contents (Elt F)),
    binary main_v19 main_v10 main_v20 (subf : (⟨S128x1, .f32⟩ : BufTy).Contents (Elt F) → (⟨S128x1, .f32⟩ : BufTy).Contents (Elt F) → (⟨S128x1, .f32⟩ : BufTy).Contents (Elt F)),
    unary main_v20 main_v21 (Host.cos : (⟨S128x1, .f32⟩ : BufTy).Contents (Elt F) → (⟨S128x1, .f32⟩ : BufTy).Contents (Elt F)),
    binary main_v18 main_v21 main_v22 (mulf : (⟨S128x1, .f32⟩ : BufTy).Contents (Elt F) → (⟨S128x1, .f32⟩ : BufTy).Contents (Elt F) → (⟨S128x1, .f32⟩ : BufTy).Contents (Elt F)),
    reshape main_v22 main_v23 (rfl : (.f32 : EltTy) = .f32) shapeCasts_S128x1_S128x1x1,
    unary main_v23 main_v24 (Host.negf : (⟨S128x1x1, .f32⟩ : BufTy).Contents (Elt F) → (⟨S128x1x1, .f32⟩ : BufTy).Contents (Elt F)),
    unary main_arg2 main_v25 (Host.sin : (⟨S128x1, .f32⟩ : BufTy).Contents (Elt F) → (⟨S128x1, .f32⟩ : BufTy).Contents (Elt F)),
    reshape main_v25 main_v26 (rfl : (.f32 : EltTy) = .f32) shapeCasts_S128x1_S128x1x1,
    nary ![main_v17, main_v24, main_v26] main_v27 (fun u => cat_v27 (F := F) (u 0) (u 1) (u 2)),
    reshape main_v27 main_v28 (rfl : (.f32 : EltTy) = .f32) shapeCasts_S128x3x1_S1x128x3x1,
    unary main_arg0 main_v29 ((extractStridedSlice S2x1 ![0, 0] · slices_S2x4_S2x1_0_0) : (⟨S2x4, .f32⟩ : BufTy).Contents (Elt F) → (⟨S2x1, .f32⟩ : BufTy).Contents (Elt F)),
    reshape main_v29 main_v30 (rfl : (.f32 : EltTy) = .f32) shapeCasts_S2x1_S2,
    unary main_arg0 main_v31 ((extractStridedSlice S2x1 ![0, 1] · slices_S2x4_S2x1_0_1) : (⟨S2x4, .f32⟩ : BufTy).Contents (Elt F) → (⟨S2x1, .f32⟩ : BufTy).Contents (Elt F)),
    reshape main_v31 main_v32 (rfl : (.f32 : EltTy) = .f32) shapeCasts_S2x1_S2,
    unary main_arg0 main_v33 ((extractStridedSlice S2x1 ![0, 2] · slices_S2x4_S2x1_0_2) : (⟨S2x4, .f32⟩ : BufTy).Contents (Elt F) → (⟨S2x1, .f32⟩ : BufTy).Contents (Elt F)),
    reshape main_v33 main_v34 (rfl : (.f32 : EltTy) = .f32) shapeCasts_S2x1_S2,
    unary main_arg0 main_v35 ((extractStridedSlice S2x1 ![0, 3] · slices_S2x4_S2x1_0_3) : (⟨S2x4, .f32⟩ : BufTy).Contents (Elt F) → (⟨S2x1, .f32⟩ : BufTy).Contents (Elt F)),
    reshape main_v35 main_v36 (rfl : (.f32 : EltTy) = .f32) shapeCasts_S2x1_S2,
    binary main_v30 main_v30 main_v37 (mulf : (⟨S2, .f32⟩ : BufTy).Contents (Elt F) → (⟨S2, .f32⟩ : BufTy).Contents (Elt F) → (⟨S2, .f32⟩ : BufTy).Contents (Elt F)),
    binary main_v32 main_v32 main_v38 (mulf : (⟨S2, .f32⟩ : BufTy).Contents (Elt F) → (⟨S2, .f32⟩ : BufTy).Contents (Elt F) → (⟨S2, .f32⟩ : BufTy).Contents (Elt F)),
    binary main_v37 main_v38 main_v39 (addf : (⟨S2, .f32⟩ : BufTy).Contents (Elt F) → (⟨S2, .f32⟩ : BufTy).Contents (Elt F) → (⟨S2, .f32⟩ : BufTy).Contents (Elt F)),
    binary main_v34 main_v34 main_v40 (mulf : (⟨S2, .f32⟩ : BufTy).Contents (Elt F) → (⟨S2, .f32⟩ : BufTy).Contents (Elt F) → (⟨S2, .f32⟩ : BufTy).Contents (Elt F)),
    binary main_v39 main_v40 main_v41 (subf : (⟨S2, .f32⟩ : BufTy).Contents (Elt F) → (⟨S2, .f32⟩ : BufTy).Contents (Elt F) → (⟨S2, .f32⟩ : BufTy).Contents (Elt F)),
    binary main_v36 main_v36 main_v42 (mulf : (⟨S2, .f32⟩ : BufTy).Contents (Elt F) → (⟨S2, .f32⟩ : BufTy).Contents (Elt F) → (⟨S2, .f32⟩ : BufTy).Contents (Elt F)),
    binary main_v41 main_v42 main_v43 (subf : (⟨S2, .f32⟩ : BufTy).Contents (Elt F) → (⟨S2, .f32⟩ : BufTy).Contents (Elt F) → (⟨S2, .f32⟩ : BufTy).Contents (Elt F)),
    binary main_v32 main_v34 main_v44 (mulf : (⟨S2, .f32⟩ : BufTy).Contents (Elt F) → (⟨S2, .f32⟩ : BufTy).Contents (Elt F) → (⟨S2, .f32⟩ : BufTy).Contents (Elt F)),
    binary main_v30 main_v36 main_v45 (mulf : (⟨S2, .f32⟩ : BufTy).Contents (Elt F) → (⟨S2, .f32⟩ : BufTy).Contents (Elt F) → (⟨S2, .f32⟩ : BufTy).Contents (Elt F)),
    binary main_v44 main_v45 main_v46 (subf : (⟨S2, .f32⟩ : BufTy).Contents (Elt F) → (⟨S2, .f32⟩ : BufTy).Contents (Elt F) → (⟨S2, .f32⟩ : BufTy).Contents (Elt F)),
    nullary main_cst_6 (constant S_ .f32 0x40000000#32),
    unary main_cst_6 main_v47 (broadcastInDim S2 ![] bcast_S_S2 : (⟨S_, .f32⟩ : BufTy).Contents (Elt F) → (⟨S2, .f32⟩ : BufTy).Contents (Elt F)),
    binary main_v47 main_v46 main_v48 (mulf : (⟨S2, .f32⟩ : BufTy).Contents (Elt F) → (⟨S2, .f32⟩ : BufTy).Contents (Elt F) → (⟨S2, .f32⟩ : BufTy).Contents (Elt F)),
    binary main_v32 main_v36 main_v49 (mulf : (⟨S2, .f32⟩ : BufTy).Contents (Elt F) → (⟨S2, .f32⟩ : BufTy).Contents (Elt F) → (⟨S2, .f32⟩ : BufTy).Contents (Elt F)),
    binary main_v30 main_v34 main_v50 (mulf : (⟨S2, .f32⟩ : BufTy).Contents (Elt F) → (⟨S2, .f32⟩ : BufTy).Contents (Elt F) → (⟨S2, .f32⟩ : BufTy).Contents (Elt F)),
    binary main_v49 main_v50 main_v51 (addf : (⟨S2, .f32⟩ : BufTy).Contents (Elt F) → (⟨S2, .f32⟩ : BufTy).Contents (Elt F) → (⟨S2, .f32⟩ : BufTy).Contents (Elt F)) ]

/-- The operations of the second part of the main thread. -/
abbrev h1 : List (HloOp τ sig (Elt F)) :=
  [ nullary main_cst_7 (constant S_ .f32 0x40000000#32),
    unary main_cst_7 main_v52 (broadcastInDim S2 ![] bcast_S_S2 : (⟨S_, .f32⟩ : BufTy).Contents (Elt F) → (⟨S2, .f32⟩ : BufTy).Contents (Elt F)),
    binary main_v52 main_v51 main_v53 (mulf : (⟨S2, .f32⟩ : BufTy).Contents (Elt F) → (⟨S2, .f32⟩ : BufTy).Contents (Elt F) → (⟨S2, .f32⟩ : BufTy).Contents (Elt F)),
    binary main_v32 main_v34 main_v54 (mulf : (⟨S2, .f32⟩ : BufTy).Contents (Elt F) → (⟨S2, .f32⟩ : BufTy).Contents (Elt F) → (⟨S2, .f32⟩ : BufTy).Contents (Elt F)),
    binary main_v30 main_v36 main_v55 (mulf : (⟨S2, .f32⟩ : BufTy).Contents (Elt F) → (⟨S2, .f32⟩ : BufTy).Contents (Elt F) → (⟨S2, .f32⟩ : BufTy).Contents (Elt F)),
    binary main_v54 main_v55 main_v56 (addf : (⟨S2, .f32⟩ : BufTy).Contents (Elt F) → (⟨S2, .f32⟩ : BufTy).Contents (Elt F) → (⟨S2, .f32⟩ : BufTy).Contents (Elt F)),
    nullary main_cst_8 (constant S_ .f32 0x40000000#32),
    unary main_cst_8 main_v57 (broadcastInDim S2 ![] bcast_S_S2 : (⟨S_, .f32⟩ : BufTy).Contents (Elt F) → (⟨S2, .f32⟩ : BufTy).Contents (Elt F)),
    binary main_v57 main_v56 main_v58 (mulf : (⟨S2, .f32⟩ : BufTy).Contents (Elt F) → (⟨S2, .f32⟩ : BufTy).Contents (Elt F) → (⟨S2, .f32⟩ : BufTy).Contents (Elt F)),
    binary main_v30 main_v30 main_v59 (mulf : (⟨S2, .f32⟩ : BufTy).Contents (Elt F) → (⟨S2, .f32⟩ : BufTy).Contents (Elt F) → (⟨S2, .f32⟩ : BufTy).Contents (Elt F)),
    binary main_v34 main_v34 main_v60 (mulf : (⟨S2, .f32⟩ : BufTy).Contents (Elt F) → (⟨S2, .f32⟩ : BufTy).Contents (Elt F) → (⟨S2, .f32⟩ : BufTy).Contents (Elt F)),
    binary main_v59 main_v60 main_v61 (addf : (⟨S2, .f32⟩ : BufTy).Contents (Elt F) → (⟨S2, .f32⟩ : BufTy).Contents (Elt F) → (⟨S2, .f32⟩ : BufTy).Contents (Elt F)),
    binary main_v32 main_v32 main_v62 (mulf : (⟨S2, .f32⟩ : BufTy).Contents (Elt F) → (⟨S2, .f32⟩ : BufTy).Contents (Elt F) → (⟨S2, .f32⟩ : BufTy).Contents (Elt F)),
    binary main_v61 main_v62 main_v63 (subf : (⟨S2, .f32⟩ : BufTy).Contents (Elt F) → (⟨S2, .f32⟩ : BufTy).Contents (Elt F) → (⟨S2, .f32⟩ : BufTy).Contents (Elt F)),
    binary main_v36 main_v36 main_v64 (mulf : (⟨S2, .f32⟩ : BufTy).Contents (Elt F) → (⟨S2, .f32⟩ : BufTy).Contents (Elt F) → (⟨S2, .f32⟩ : BufTy).Contents (Elt F)),
    binary main_v63 main_v64 main_v65 (subf : (⟨S2, .f32⟩ : BufTy).Contents (Elt F) → (⟨S2, .f32⟩ : BufTy).Contents (Elt F) → (⟨S2, .f32⟩ : BufTy).Contents (Elt F)),
    binary main_v34 main_v36 main_v66 (mulf : (⟨S2, .f32⟩ : BufTy).Contents (Elt F) → (⟨S2, .f32⟩ : BufTy).Contents (Elt F) → (⟨S2, .f32⟩ : BufTy).Contents (Elt F)),
    binary main_v30 main_v32 main_v67 (mulf : (⟨S2, .f32⟩ : BufTy).Contents (Elt F) → (⟨S2, .f32⟩ : BufTy).Contents (Elt F) → (⟨S2, .f32⟩ : BufTy).Contents (Elt F)),
    binary main_v66 main_v67 main_v68 (subf : (⟨S2, .f32⟩ : BufTy).Contents (Elt F) → (⟨S2, .f32⟩ : BufTy).Contents (Elt F) → (⟨S2, .f32⟩ : BufTy).Contents (Elt F)),
    nullary main_cst_9 (constant S_ .f32 0x40000000#32),
    unary main_cst_9 main_v69 (broadcastInDim S2 ![] bcast_S_S2 : (⟨S_, .f32⟩ : BufTy).Contents (Elt F) → (⟨S2, .f32⟩ : BufTy).Contents (Elt F)),
    binary main_v69 main_v68 main_v70 (mulf : (⟨S2, .f32⟩ : BufTy).Contents (Elt F) → (⟨S2, .f32⟩ : BufTy).Contents (Elt F) → (⟨S2, .f32⟩ : BufTy).Contents (Elt F)),
    binary main_v32 main_v36 main_v71 (mulf : (⟨S2, .f32⟩ : BufTy).Contents (Elt F) → (⟨S2, .f32⟩ : BufTy).Contents (Elt F) → (⟨S2, .f32⟩ : BufTy).Contents (Elt F)),
    binary main_v30 main_v34 main_v72 (mulf : (⟨S2, .f32⟩ : BufTy).Contents (Elt F) → (⟨S2, .f32⟩ : BufTy).Contents (Elt F) → (⟨S2, .f32⟩ : BufTy).Contents (Elt F)),
    binary main_v71 main_v72 main_v73 (subf : (⟨S2, .f32⟩ : BufTy).Contents (Elt F) → (⟨S2, .f32⟩ : BufTy).Contents (Elt F) → (⟨S2, .f32⟩ : BufTy).Contents (Elt F)),
    nullary main_cst_10 (constant S_ .f32 0x40000000#32),
    unary main_cst_10 main_v74 (broadcastInDim S2 ![] bcast_S_S2 : (⟨S_, .f32⟩ : BufTy).Contents (Elt F) → (⟨S2, .f32⟩ : BufTy).Contents (Elt F)),
    binary main_v74 main_v73 main_v75 (mulf : (⟨S2, .f32⟩ : BufTy).Contents (Elt F) → (⟨S2, .f32⟩ : BufTy).Contents (Elt F) → (⟨S2, .f32⟩ : BufTy).Contents (Elt F)),
    binary main_v34 main_v36 main_v76 (mulf : (⟨S2, .f32⟩ : BufTy).Contents (Elt F) → (⟨S2, .f32⟩ : BufTy).Contents (Elt F) → (⟨S2, .f32⟩ : BufTy).Contents (Elt F)),
    binary main_v30 main_v32 main_v77 (mulf : (⟨S2, .f32⟩ : BufTy).Contents (Elt F) → (⟨S2, .f32⟩ : BufTy).Contents (Elt F) → (⟨S2, .f32⟩ : BufTy).Contents (Elt F)),
    binary main_v76 main_v77 main_v78 (addf : (⟨S2, .f32⟩ : BufTy).Contents (Elt F) → (⟨S2, .f32⟩ : BufTy).Contents (Elt F) → (⟨S2, .f32⟩ : BufTy).Contents (Elt F)),
    nullary main_cst_11 (constant S_ .f32 0x40000000#32),
    unary main_cst_11 main_v79 (broadcastInDim S2 ![] bcast_S_S2 : (⟨S_, .f32⟩ : BufTy).Contents (Elt F) → (⟨S2, .f32⟩ : BufTy).Contents (Elt F)),
    binary main_v79 main_v78 main_v80 (mulf : (⟨S2, .f32⟩ : BufTy).Contents (Elt F) → (⟨S2, .f32⟩ : BufTy).Contents (Elt F) → (⟨S2, .f32⟩ : BufTy).Contents (Elt F)),
    binary main_v30 main_v30 main_v81 (mulf : (⟨S2, .f32⟩ : BufTy).Contents (Elt F) → (⟨S2, .f32⟩ : BufTy).Contents (Elt F) → (⟨S2, .f32⟩ : BufTy).Contents (Elt F)),
    binary main_v36 main_v36 main_v82 (mulf : (⟨S2, .f32⟩ : BufTy).Contents (Elt F) → (⟨S2, .f32⟩ : BufTy).Contents (Elt F) → (⟨S2, .f32⟩ : BufTy).Contents (Elt F)),
    binary main_v81 main_v82 main_v83 (addf : (⟨S2, .f32⟩ : BufTy).Contents (Elt F) → (⟨S2, .f32⟩ : BufTy).Contents (Elt F) → (⟨S2, .f32⟩ : BufTy).Contents (Elt F)),
    binary main_v32 main_v32 main_v84 (mulf : (⟨S2, .f32⟩ : BufTy).Contents (Elt F) → (⟨S2, .f32⟩ : BufTy).Contents (Elt F) → (⟨S2, .f32⟩ : BufTy).Contents (Elt F)),
    binary main_v83 main_v84 main_v85 (subf : (⟨S2, .f32⟩ : BufTy).Contents (Elt F) → (⟨S2, .f32⟩ : BufTy).Contents (Elt F) → (⟨S2, .f32⟩ : BufTy).Contents (Elt F)),
    binary main_v34 main_v34 main_v86 (mulf : (⟨S2, .f32⟩ : BufTy).Contents (Elt F) → (⟨S2, .f32⟩ : BufTy).Contents (Elt F) → (⟨S2, .f32⟩ : BufTy).Contents (Elt F)),
    binary main_v85 main_v86 main_v87 (subf : (⟨S2, .f32⟩ : BufTy).Contents (Elt F) → (⟨S2, .f32⟩ : BufTy).Contents (Elt F) → (⟨S2, .f32⟩ : BufTy).Contents (Elt F)),
    unary main_v43 main_v88 (broadcastInDim S2x1 ![0] bcast_S2_S2x1_0 : (⟨S2, .f32⟩ : BufTy).Contents (Elt F) → (⟨S2x1, .f32⟩ : BufTy).Contents (Elt F)),
    unary main_v48 main_v89 (broadcastInDim S2x1 ![0] bcast_S2_S2x1_0 : (⟨S2, .f32⟩ : BufTy).Contents (Elt F) → (⟨S2x1, .f32⟩ : BufTy).Contents (Elt F)),
    unary main_v53 main_v90 (broadcastInDim S2x1 ![0] bcast_S2_S2x1_0 : (⟨S2, .f32⟩ : BufTy).Contents (Elt F) → (⟨S2x1, .f32⟩ : BufTy).Contents (Elt F)),
    nary ![main_v88, main_v89, main_v90] main_v91 (fun u => cat_v91 (F := F) (u 0) (u 1) (u 2)),
    unary main_v58 main_v92 (broadcastInDim S2x1 ![0] bcast_S2_S2x1_0 : (⟨S2, .f32⟩ : BufTy).Contents (Elt F) → (⟨S2x1, .f32⟩ : BufTy).Contents (Elt F)),
    unary main_v65 main_v93 (broadcastInDim S2x1 ![0] bcast_S2_S2x1_0 : (⟨S2, .f32⟩ : BufTy).Contents (Elt F) → (⟨S2x1, .f32⟩ : BufTy).Contents (Elt F)),
    unary main_v70 main_v94 (broadcastInDim S2x1 ![0] bcast_S2_S2x1_0 : (⟨S2, .f32⟩ : BufTy).Contents (Elt F) → (⟨S2x1, .f32⟩ : BufTy).Contents (Elt F)),
    nary ![main_v92, main_v93, main_v94] main_v95 (fun u => cat_v95 (F := F) (u 0) (u 1) (u 2)),
    unary main_v75 main_v96 (broadcastInDim S2x1 ![0] bcast_S2_S2x1_0 : (⟨S2, .f32⟩ : BufTy).Contents (Elt F) → (⟨S2x1, .f32⟩ : BufTy).Contents (Elt F)),
    unary main_v80 main_v97 (broadcastInDim S2x1 ![0] bcast_S2_S2x1_0 : (⟨S2, .f32⟩ : BufTy).Contents (Elt F) → (⟨S2x1, .f32⟩ : BufTy).Contents (Elt F)),
    unary main_v87 main_v98 (broadcastInDim S2x1 ![0] bcast_S2_S2x1_0 : (⟨S2, .f32⟩ : BufTy).Contents (Elt F) → (⟨S2x1, .f32⟩ : BufTy).Contents (Elt F)),
    nary ![main_v96, main_v97, main_v98] main_v99 (fun u => cat_v99 (F := F) (u 0) (u 1) (u 2)),
    unary main_v91 main_v100 (broadcastInDim S2x1x3 ![0, 2] bcast_S2x3_S2x1x3_0_2 : (⟨S2x3, .f32⟩ : BufTy).Contents (Elt F) → (⟨S2x1x3, .f32⟩ : BufTy).Contents (Elt F)),
    unary main_v95 main_v101 (broadcastInDim S2x1x3 ![0, 2] bcast_S2x3_S2x1x3_0_2 : (⟨S2x3, .f32⟩ : BufTy).Contents (Elt F) → (⟨S2x1x3, .f32⟩ : BufTy).Contents (Elt F)),
    unary main_v99 main_v102 (broadcastInDim S2x1x3 ![0, 2] bcast_S2x3_S2x1x3_0_2 : (⟨S2x3, .f32⟩ : BufTy).Contents (Elt F) → (⟨S2x1x3, .f32⟩ : BufTy).Contents (Elt F)),
    nary ![main_v100, main_v101, main_v102] main_v103 (fun u => cat_v103 (F := F) (u 0) (u 1) (u 2)),
    reshape main_v28 main_v104 (rfl : (.f32 : EltTy) = .f32) shapeCasts_S1x128x3x1_S128x1x3x1,
    unary main_v104 main_v105 (broadcastInDim S128x2x3x1 ![0, 1, 2, 3] bcast_S128x1x3x1_S128x2x3x1_0_1_2_3 : (⟨S128x1x3x1, .f32⟩ : BufTy).Contents (Elt F) → (⟨S128x2x3x1, .f32⟩ : BufTy).Contents (Elt F)),
    reshape main_v105 main_v106 (rfl : (.f32 : EltTy) = .f32) shapeCasts_S128x2x3x1_S256x3x1 ]

/-- The operations of the third part of the main thread. -/
abbrev h2 : List (HloOp τ sig (Elt F)) :=
  [ reshape main_v103 main_v107 (rfl : (.f32 : EltTy) = .f32) shapeCasts_S2x3x3_S2x1x3x3,
    unary main_v107 main_v108 (broadcastInDim S2x128x3x3 ![0, 1, 2, 3] bcast_S2x1x3x3_S2x128x3x3_0_1_2_3 : (⟨S2x1x3x3, .f32⟩ : BufTy).Contents (Elt F) → (⟨S2x128x3x3, .f32⟩ : BufTy).Contents (Elt F)),
    reshape main_v108 main_v109 (rfl : (.f32 : EltTy) = .f32) shapeCasts_S2x128x3x3_S256x3x3,
    binary main_v109 main_v106 main_v110 ((fun l r => Host.dotGeneral dot_S256x3x3_S256x3x1_S256x3x1_2_1_1_2_0_0 none l r) : (⟨S256x3x3, .f32⟩ : BufTy).Contents (Elt F) → (⟨S256x3x1, .f32⟩ : BufTy).Contents (Elt F) → (⟨S256x3x1, .f32⟩ : BufTy).Contents (Elt F)),
    reshape main_v110 main_v111 (rfl : (.f32 : EltTy) = .f32) shapeCasts_S256x3x1_S2x128x3x1,
    reshape main_v3 main_v112 (rfl : (.f32 : EltTy) = .f32) shapeCasts_S1x128_S1x1x128x1,
    unary main_v112 main_v113 (broadcastInDim S2x1x128x1 ![0, 1, 2, 3] bcast_S1x1x128x1_S2x1x128x1_0_1_2_3 : (⟨S1x1x128x1, .f32⟩ : BufTy).Contents (Elt F) → (⟨S2x1x128x1, .f32⟩ : BufTy).Contents (Elt F)),
    unary main_v111 main_v114 ((extractStridedSlice S2x128x1x1 ![0, 0, 0, 0] · slices_S2x128x3x1_S2x128x1x1_0_0_0_0) : (⟨S2x128x3x1, .f32⟩ : BufTy).Contents (Elt F) → (⟨S2x128x1x1, .f32⟩ : BufTy).Contents (Elt F)),
    reshape main_v114 main_v115 (rfl : (.f32 : EltTy) = .f32) shapeCasts_S2x128x1x1_S2x128x1,
    unary main_v111 main_v116 ((extractStridedSlice S2x128x1x1 ![0, 0, 1, 0] · slices_S2x128x3x1_S2x128x1x1_0_0_1_0) : (⟨S2x128x3x1, .f32⟩ : BufTy).Contents (Elt F) → (⟨S2x128x1x1, .f32⟩ : BufTy).Contents (Elt F)),
    reshape main_v116 main_v117 (rfl : (.f32 : EltTy) = .f32) shapeCasts_S2x128x1x1_S2x128x1,
    unary main_v111 main_v118 ((extractStridedSlice S2x128x1x1 ![0, 0, 2, 0] · slices_S2x128x3x1_S2x128x1x1_0_0_2_0) : (⟨S2x128x3x1, .f32⟩ : BufTy).Contents (Elt F) → (⟨S2x128x1x1, .f32⟩ : BufTy).Contents (Elt F)),
    reshape main_v118 main_v119 (rfl : (.f32 : EltTy) = .f32) shapeCasts_S2x128x1x1_S2x128x1,
    binary main_v117 main_v115 main_v120 (Host.atan2 : (⟨S2x128x1, .f32⟩ : BufTy).Contents (Elt F) → (⟨S2x128x1, .f32⟩ : BufTy).Contents (Elt F) → (⟨S2x128x1, .f32⟩ : BufTy).Contents (Elt F)),
    binary main_v115 main_v115 main_v121 (mulf : (⟨S2x128x1, .f32⟩ : BufTy).Contents (Elt F) → (⟨S2x128x1, .f32⟩ : BufTy).Contents (Elt F) → (⟨S2x128x1, .f32⟩ : BufTy).Contents (Elt F)),
    binary main_v117 main_v117 main_v122 (mulf : (⟨S2x128x1, .f32⟩ : BufTy).Contents (Elt F) → (⟨S2x128x1, .f32⟩ : BufTy).Contents (Elt F) → (⟨S2x128x1, .f32⟩ : BufTy).Contents (Elt F)),
    binary main_v121 main_v122 main_v123 (addf : (⟨S2x128x1, .f32⟩ : BufTy).Contents (Elt F) → (⟨S2x128x1, .f32⟩ : BufTy).Contents (Elt F) → (⟨S2x128x1, .f32⟩ : BufTy).Contents (Elt F)),
    unary main_v123 main_v124 (Host.sqrt : (⟨S2x128x1, .f32⟩ : BufTy).Contents (Elt F) → (⟨S2x128x1, .f32⟩ : BufTy).Contents (Elt F)),
    binary main_v119 main_v124 main_v125 (Host.atan2 : (⟨S2x128x1, .f32⟩ : BufTy).Contents (Elt F) → (⟨S2x128x1, .f32⟩ : BufTy).Contents (Elt F) → (⟨S2x128x1, .f32⟩ : BufTy).Contents (Elt F)),
    unary main_v125 main_v126 (Host.cos : (⟨S2x128x1, .f32⟩ : BufTy).Contents (Elt F) → (⟨S2x128x1, .f32⟩ : BufTy).Contents (Elt F)),
    unary main_v120 main_v127 (Host.cos : (⟨S2x128x1, .f32⟩ : BufTy).Contents (Elt F) → (⟨S2x128x1, .f32⟩ : BufTy).Contents (Elt F)),
    binary main_v126 main_v127 main_v128 (mulf : (⟨S2x128x1, .f32⟩ : BufTy).Contents (Elt F) → (⟨S2x128x1, .f32⟩ : BufTy).Contents (Elt F) → (⟨S2x128x1, .f32⟩ : BufTy).Contents (Elt F)),
    unary main_v125 main_v129 (Host.cos : (⟨S2x128x1, .f32⟩ : BufTy).Contents (Elt F) → (⟨S2x128x1, .f32⟩ : BufTy).Contents (Elt F)),
    unary main_v120 main_v130 (Host.sin : (⟨S2x128x1, .f32⟩ : BufTy).Contents (Elt F) → (⟨S2x128x1, .f32⟩ : BufTy).Contents (Elt F)),
    binary main_v129 main_v130 main_v131 (mulf : (⟨S2x128x1, .f32⟩ : BufTy).Contents (Elt F) → (⟨S2x128x1, .f32⟩ : BufTy).Contents (Elt F) → (⟨S2x128x1, .f32⟩ : BufTy).Contents (Elt F)),
    unary main_v125 main_v132 (Host.sin : (⟨S2x128x1, .f32⟩ : BufTy).Contents (Elt F) → (⟨S2x128x1, .f32⟩ : BufTy).Contents (Elt F)),
    nullary main_cst_12 (constant S_ .f32 0x42C80000#32),
    unary main_cst_12 main_v133 (broadcastInDim S2x128x1 ![] bcast_S_S2x128x1 : (⟨S_, .f32⟩ : BufTy).Contents (Elt F) → (⟨S2x128x1, .f32⟩ : BufTy).Contents (Elt F)),
    binary main_v133 main_v131 main_v134 (mulf : (⟨S2x128x1, .f32⟩ : BufTy).Contents (Elt F) → (⟨S2x128x1, .f32⟩ : BufTy).Contents (Elt F) → (⟨S2x128x1, .f32⟩ : BufTy).Contents (Elt F)),
    nullary main_cst_13 (constant S_ .f32 0x42480000#32),
    unary main_cst_13 main_v135 (broadcastInDim S2x128x1 ![] bcast_S_S2x128x1 : (⟨S_, .f32⟩ : BufTy).Contents (Elt F) → (⟨S2x128x1, .f32⟩ : BufTy).Contents (Elt F)),
    binary main_v134 main_v135 main_v136 (subf : (⟨S2x128x1, .f32⟩ : BufTy).Contents (Elt F) → (⟨S2x128x1, .f32⟩ : BufTy).Contents (Elt F) → (⟨S2x128x1, .f32⟩ : BufTy).Contents (Elt F)),
    unary main_v136 main_v137 (Host.exp : (⟨S2x128x1, .f32⟩ : BufTy).Contents (Elt F) → (⟨S2x128x1, .f32⟩ : BufTy).Contents (Elt F)),
    nullary main_cst_14 (constant S_ .f32 0x3F800000#32),
    unary main_cst_14 main_v138 (broadcastInDim S2x128x1 ![] bcast_S_S2x128x1 : (⟨S_, .f32⟩ : BufTy).Contents (Elt F) → (⟨S2x128x1, .f32⟩ : BufTy).Contents (Elt F)),
    binary main_v137 main_v138 main_v139 (addf : (⟨S2x128x1, .f32⟩ : BufTy).Contents (Elt F) → (⟨S2x128x1, .f32⟩ : BufTy).Contents (Elt F) → (⟨S2x128x1, .f32⟩ : BufTy).Contents (Elt F)),
    nullary main_cst_15 (constant S_ .f32 0xC2C80000#32),
    unary main_cst_15 main_v140 (broadcastInDim S2x128x1 ![] bcast_S_S2x128x1 : (⟨S_, .f32⟩ : BufTy).Contents (Elt F) → (⟨S2x128x1, .f32⟩ : BufTy).Contents (Elt F)),
    binary main_v140 main_v131 main_v141 (mulf : (⟨S2x128x1, .f32⟩ : BufTy).Contents (Elt F) → (⟨S2x128x1, .f32⟩ : BufTy).Contents (Elt F) → (⟨S2x128x1, .f32⟩ : BufTy).Contents (Elt F)),
    nullary main_cst_16 (constant S_ .f32 0x42480000#32),
    unary main_cst_16 main_v142 (broadcastInDim S2x128x1 ![] bcast_S_S2x128x1 : (⟨S_, .f32⟩ : BufTy).Contents (Elt F) → (⟨S2x128x1, .f32⟩ : BufTy).Contents (Elt F)),
    binary main_v141 main_v142 main_v143 (subf : (⟨S2x128x1, .f32⟩ : BufTy).Contents (Elt F) → (⟨S2x128x1, .f32⟩ : BufTy).Contents (Elt F) → (⟨S2x128x1, .f32⟩ : BufTy).Contents (Elt F)),
    unary main_v143 main_v144 (Host.exp : (⟨S2x128x1, .f32⟩ : BufTy).Contents (Elt F) → (⟨S2x128x1, .f32⟩ : BufTy).Contents (Elt F)),
    nullary main_cst_17 (constant S_ .f32 0x3F800000#32),
    unary main_cst_17 main_v145 (broadcastInDim S2x128x1 ![] bcast_S_S2x128x1 : (⟨S_, .f32⟩ : BufTy).Contents (Elt F) → (⟨S2x128x1, .f32⟩ : BufTy).Contents (Elt F)),
    binary main_v144 main_v145 main_v146 (addf : (⟨S2x128x1, .f32⟩ : BufTy).Contents (Elt F) → (⟨S2x128x1, .f32⟩ : BufTy).Contents (Elt F) → (⟨S2x128x1, .f32⟩ : BufTy).Contents (Elt F)),
    binary main_v139 main_v146 main_v147 (mulf : (⟨S2x128x1, .f32⟩ : BufTy).Contents (Elt F) → (⟨S2x128x1, .f32⟩ : BufTy).Contents (Elt F) → (⟨S2x128x1, .f32⟩ : BufTy).Contents (Elt F)),
    nullary main_cst_18 (constant S_ .f32 0x3F800000#32),
    unary main_cst_18 main_v148 (broadcastInDim S2x128x1 ![] bcast_S_S2x128x1 : (⟨S_, .f32⟩ : BufTy).Contents (Elt F) → (⟨S2x128x1, .f32⟩ : BufTy).Contents (Elt F)),
    binary main_v148 main_v147 main_v149 (Host.divf : (⟨S2x128x1, .f32⟩ : BufTy).Contents (Elt F) → (⟨S2x128x1, .f32⟩ : BufTy).Contents (Elt F) → (⟨S2x128x1, .f32⟩ : BufTy).Contents (Elt F)),
    nullary main_cst_19 (constant S_ .f32 0x42C80000#32),
    unary main_cst_19 main_v150 (broadcastInDim S2x128x1 ![] bcast_S_S2x128x1 : (⟨S_, .f32⟩ : BufTy).Contents (Elt F) → (⟨S2x128x1, .f32⟩ : BufTy).Contents (Elt F)),
    binary main_v150 main_v132 main_v151 (mulf : (⟨S2x128x1, .f32⟩ : BufTy).Contents (Elt F) → (⟨S2x128x1, .f32⟩ : BufTy).Contents (Elt F) → (⟨S2x128x1, .f32⟩ : BufTy).Contents (Elt F)),
    nullary main_cst_20 (constant S_ .f32 0x42480000#32),
    unary main_cst_20 main_v152 (broadcastInDim S2x128x1 ![] bcast_S_S2x128x1 : (⟨S_, .f32⟩ : BufTy).Contents (Elt F) → (⟨S2x128x1, .f32⟩ : BufTy).Contents (Elt F)),
    binary main_v151 main_v152 main_v153 (subf : (⟨S2x128x1, .f32⟩ : BufTy).Contents (Elt F) → (⟨S2x128x1, .f32⟩ : BufTy).Contents (Elt F) → (⟨S2x128x1, .f32⟩ : BufTy).Contents (Elt F)),
    unary main_v153 main_v154 (Host.exp : (⟨S2x128x1, .f32⟩ : BufTy).Contents (Elt F) → (⟨S2x128x1, .f32⟩ : BufTy).Contents (Elt F)),
    nullary main_cst_21 (constant S_ .f32 0x3F800000#32),
    unary main_cst_21 main_v155 (broadcastInDim S2x128x1 ![] bcast_S_S2x128x1 : (⟨S_, .f32⟩ : BufTy).Contents (Elt F) → (⟨S2x128x1, .f32⟩ : BufTy).Contents (Elt F)),
    binary main_v154 main_v155 main_v156 (addf : (⟨S2x128x1, .f32⟩ : BufTy).Contents (Elt F) → (⟨S2x128x1, .f32⟩ : BufTy).Contents (Elt F) → (⟨S2x128x1, .f32⟩ : BufTy).Contents (Elt F)) ]

/-- The operations of the fourth part of the main thread. -/
abbrev h3 : List (HloOp τ sig (Elt F)) :=
  [ nullary main_cst_22 (constant S_ .f32 0xC2C80000#32),
    unary main_cst_22 main_v157 (broadcastInDim S2x128x1 ![] bcast_S_S2x128x1 : (⟨S_, .f32⟩ : BufTy).Contents (Elt F) → (⟨S2x128x1, .f32⟩ : BufTy).Contents (Elt F)),
    binary main_v157 main_v132 main_v158 (mulf : (⟨S2x128x1, .f32⟩ : BufTy).Contents (Elt F) → (⟨S2x128x1, .f32⟩ : BufTy).Contents (Elt F) → (⟨S2x128x1, .f32⟩ : BufTy).Contents (Elt F)),
    nullary main_cst_23 (constant S_ .f32 0x42480000#32),
    unary main_cst_23 main_v159 (broadcastInDim S2x128x1 ![] bcast_S_S2x128x1 : (⟨S_, .f32⟩ : BufTy).Contents (Elt F) → (⟨S2x128x1, .f32⟩ : BufTy).Contents (Elt F)),
    binary main_v158 main_v159 main_v160 (subf : (⟨S2x128x1, .f32⟩ : BufTy).Contents (Elt F) → (⟨S2x128x1, .f32⟩ : BufTy).Contents (Elt F) → (⟨S2x128x1, .f32⟩ : BufTy).Contents (Elt F)),
    unary main_v160 main_v161 (Host.exp : (⟨S2x128x1, .f32⟩ : BufTy).Contents (Elt F) → (⟨S2x128x1, .f32⟩ : BufTy).Contents (Elt F)),
    nullary main_cst_24 (constant S_ .f32 0x3F800000#32),
    unary main_cst_24 main_v162 (broadcastInDim S2x128x1 ![] bcast_S_S2x128x1 : (⟨S_, .f32⟩ : BufTy).Contents (Elt F) → (⟨S2x128x1, .f32⟩ : BufTy).Contents (Elt F)),
    binary main_v161 main_v162 main_v163 (addf : (⟨S2x128x1, .f32⟩ : BufTy).Contents (Elt F) → (⟨S2x128x1, .f32⟩ : BufTy).Contents (Elt F) → (⟨S2x128x1, .f32⟩ : BufTy).Contents (Elt F)),
    binary main_v156 main_v163 main_v164 (mulf : (⟨S2x128x1, .f32⟩ : BufTy).Contents (Elt F) → (⟨S2x128x1, .f32⟩ : BufTy).Contents (Elt F) → (⟨S2x128x1, .f32⟩ : BufTy).Contents (Elt F)),
    nullary main_cst_25 (constant S_ .f32 0x3F800000#32),
    unary main_cst_25 main_v165 (broadcastInDim S2x128x1 ![] bcast_S_S2x128x1 : (⟨S_, .f32⟩ : BufTy).Contents (Elt F) → (⟨S2x128x1, .f32⟩ : BufTy).Contents (Elt F)),
    binary main_v165 main_v164 main_v166 (Host.divf : (⟨S2x128x1, .f32⟩ : BufTy).Contents (Elt F) → (⟨S2x128x1, .f32⟩ : BufTy).Contents (Elt F) → (⟨S2x128x1, .f32⟩ : BufTy).Contents (Elt F)),
    binary main_v149 main_v166 main_v167 (mulf : (⟨S2x128x1, .f32⟩ : BufTy).Contents (Elt F) → (⟨S2x128x1, .f32⟩ : BufTy).Contents (Elt F) → (⟨S2x128x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2x128x1, .f32⟩) main_call0_v0) (broadcastInDim S2x128x1 ![] bcast_S_S2x128x1),
    TRef.binary (TRef.of (T := ⟨S2x128x1, .f32⟩) main_v128) (TRef.of (T := ⟨S2x128x1, .f32⟩) main_call0_v0) (TRef.of (T := ⟨S2x128x1, .f32⟩) main_v168) maximumf,
    binary main_v167 main_v168 main_v169 (mulf : (⟨S2x128x1, .f32⟩ : BufTy).Contents (Elt F) → (⟨S2x128x1, .f32⟩ : BufTy).Contents (Elt F) → (⟨S2x128x1, .f32⟩ : BufTy).Contents (Elt F)),
    reshape main_v169 main_v170 (rfl : (.f32 : EltTy) = .f32) shapeCasts_S2x128x1_S2x128x1x1,
    nullary main_cst_26 (constant S_ .f32 0x3F000000#32),
    TRef.unary (TRef.of (T := ⟨S_, .f32⟩) main_cst_26) (TRef.of (T := ⟨S_, .f32⟩) main_call1_v0) id,
    TRef.unary (TRef.of (T := ⟨S_, .f32⟩) main_call1_v0) (TRef.of (T := ⟨S2x128x1, .f32⟩) main_call1_v1) (broadcastInDim S2x128x1 ![] bcast_S_S2x128x1),
    TRef.binary (TRef.of (T := ⟨S2x128x1, .f32⟩) main_v131) (TRef.of (T := ⟨S2x128x1, .f32⟩) main_call1_v1) (TRef.of (T := ⟨S2x128x1, .f32⟩) main_v171) Host.remf,
    nullary main_cst_27 (constant S_ .f32 0x3F000000#32),
    unary main_cst_27 main_v172 (broadcastInDim S2x128x1 ![] bcast_S_S2x128x1 : (⟨S_, .f32⟩ : BufTy).Contents (Elt F) → (⟨S2x128x1, .f32⟩ : BufTy).Contents (Elt F)),
    binary main_v171 main_v172 main_v173 (Host.divf : (⟨S2x128x1, .f32⟩ : BufTy).Contents (Elt F) → (⟨S2x128x1, .f32⟩ : BufTy).Contents (Elt F) → (⟨S2x128x1, .f32⟩ : BufTy).Contents (Elt F)),
    nullary main_cst_28 (constant S_ .f32 0x3F000000#32),
    TRef.unary (TRef.of (T := ⟨S_, .f32⟩) main_cst_28) (TRef.of (T := ⟨S_, .f32⟩) main_call2_v0) id,
    TRef.unary (TRef.of (T := ⟨S_, .f32⟩) main_call2_v0) (TRef.of (T := ⟨S2x128x1, .f32⟩) main_call2_v1) (broadcastInDim S2x128x1 ![] bcast_S_S2x128x1),
    TRef.binary (TRef.of (T := ⟨S2x128x1, .f32⟩) main_v132) (TRef.of (T := ⟨S2x128x1, .f32⟩) main_call2_v1) (TRef.of (T := ⟨S2x128x1, .f32⟩) main_v174) Host.remf,
    nullary main_cst_29 (constant S_ .f32 0x3F000000#32),
    unary main_cst_29 main_v175 (broadcastInDim S2x128x1 ![] bcast_S_S2x128x1 : (⟨S_, .f32⟩ : BufTy).Contents (Elt F) → (⟨S2x128x1, .f32⟩ : BufTy).Contents (Elt F)),
    binary main_v174 main_v175 main_v176 (Host.divf : (⟨S2x128x1, .f32⟩ : BufTy).Contents (Elt F) → (⟨S2x128x1, .f32⟩ : BufTy).Contents (Elt F) → (⟨S2x128x1, .f32⟩ : BufTy).Contents (Elt F)),
    nullary main_cst_30 (constant S_ .f32 0x43800000#32),
    unary main_cst_30 main_v177 (broadcastInDim S2x128x1 ![] bcast_S_S2x128x1 : (⟨S_, .f32⟩ : BufTy).Contents (Elt F) → (⟨S2x128x1, .f32⟩ : BufTy).Contents (Elt F)),
    binary main_v177 main_v173 main_v178 (mulf : (⟨S2x128x1, .f32⟩ : BufTy).Contents (Elt F) → (⟨S2x128x1, .f32⟩ : BufTy).Contents (Elt F) → (⟨S2x128x1, .f32⟩ : BufTy).Contents (Elt F)),
    nullary main_cst_31 (constant S_ .f32 0x43800000#32),
    unary main_cst_31 main_v179 (broadcastInDim S2x128x1 ![] bcast_S_S2x128x1 : (⟨S_, .f32⟩ : BufTy).Contents (Elt F) → (⟨S2x128x1, .f32⟩ : BufTy).Contents (Elt F)),
    binary main_v179 main_v178 main_v180 (addf : (⟨S2x128x1, .f32⟩ : BufTy).Contents (Elt F) → (⟨S2x128x1, .f32⟩ : BufTy).Contents (Elt F) → (⟨S2x128x1, .f32⟩ : BufTy).Contents (Elt F)),
    reshape main_v180 main_v181 (rfl : (.f32 : EltTy) = .f32) shapeCasts_S2x128x1_S256,
    unary main_v181 main_v182 (fptosi 32 : (⟨S256, .f32⟩ : BufTy).Contents (Elt F) → (⟨S256, .i32⟩ : BufTy).Contents (Elt F)),
    nullary main_cst_32 (constant S_ .f32 0x43800000#32),
    unary main_cst_32 main_v183 (broadcastInDim S2x128x1 ![] bcast_S_S2x128x1 : (⟨S_, .f32⟩ : BufTy).Contents (Elt F) → (⟨S2x128x1, .f32⟩ : BufTy).Contents (Elt F)),
    binary main_v183 main_v176 main_v184 (mulf : (⟨S2x128x1, .f32⟩ : BufTy).Contents (Elt F) → (⟨S2x128x1, .f32⟩ : BufTy).Contents (Elt F) → (⟨S2x128x1, .f32⟩ : BufTy).Contents (Elt F)),
    nullary main_cst_33 (constant S_ .f32 0x43800000#32),
    unary main_cst_33 main_v185 (broadcastInDim S2x128x1 ![] bcast_S_S2x128x1 : (⟨S_, .f32⟩ : BufTy).Contents (Elt F) → (⟨S2x128x1, .f32⟩ : BufTy).Contents (Elt F)),
    binary main_v185 main_v184 main_v186 (addf : (⟨S2x128x1, .f32⟩ : BufTy).Contents (Elt F) → (⟨S2x128x1, .f32⟩ : BufTy).Contents (Elt F) → (⟨S2x128x1, .f32⟩ : BufTy).Contents (Elt F)),
    reshape main_v186 main_v187 (rfl : (.f32 : EltTy) = .f32) shapeCasts_S2x128x1_S256,
    unary main_v187 main_v188 (fptosi 32 : (⟨S256, .f32⟩ : BufTy).Contents (Elt F) → (⟨S256, .i32⟩ : BufTy).Contents (Elt F)),
    nullary main_c (constantI S_ 32 512#32),
    unary main_c main_v189 (broadcastInDim S256 ![] bcast_S_S256 : (⟨S_, .i32⟩ : BufTy).Contents (Elt F) → (⟨S256, .i32⟩ : BufTy).Contents (Elt F)),
    binary main_v182 main_v189 main_v190 (cmpi .slt : (⟨S256, .i32⟩ : BufTy).Contents (Elt F) → (⟨S256, .i32⟩ : BufTy).Contents (Elt F) → (⟨S256, .i1⟩ : BufTy).Contents (Elt F)),
    unary main_v190 main_v191 ((extui 32 · natLt_1_32) : (⟨S256, .i1⟩ : BufTy).Contents (Elt F) → (⟨S256, .i32⟩ : BufTy).Contents (Elt F)),
    binary main_v182 main_v191 main_v192 (muli : (⟨S256, .i32⟩ : BufTy).Contents (Elt F) → (⟨S256, .i32⟩ : BufTy).Contents (Elt F) → (⟨S256, .i32⟩ : BufTy).Contents (Elt F)),
    nullary main_c_34 (constantI S_ 32 511#32),
    unary main_c_34 main_v193 (broadcastInDim S256 ![] bcast_S_S256 : (⟨S_, .i32⟩ : BufTy).Contents (Elt F) → (⟨S256, .i32⟩ : BufTy).Contents (Elt F)),
    binary main_v182 main_v193 main_v194 (cmpi .sgt : (⟨S256, .i32⟩ : BufTy).Contents (Elt F) → (⟨S256, .i32⟩ : BufTy).Contents (Elt F) → (⟨S256, .i1⟩ : BufTy).Contents (Elt F)),
    unary main_v194 main_v195 ((extui 32 · natLt_1_32) : (⟨S256, .i1⟩ : BufTy).Contents (Elt F) → (⟨S256, .i32⟩ : BufTy).Contents (Elt F)),
    nullary main_c_35 (constantI S_ 32 511#32),
    unary main_c_35 main_v196 (broadcastInDim S256 ![] bcast_S_S256 : (⟨S_, .i32⟩ : BufTy).Contents (Elt F) → (⟨S256, .i32⟩ : BufTy).Contents (Elt F)),
    binary main_v196 main_v195 main_v197 (muli : (⟨S256, .i32⟩ : BufTy).Contents (Elt F) → (⟨S256, .i32⟩ : BufTy).Contents (Elt F) → (⟨S256, .i32⟩ : BufTy).Contents (Elt F)),
    unary main_v197 main_v198 (id : (⟨S256, .i32⟩ : BufTy).Contents (Elt F) → (⟨S256, .i32⟩ : BufTy).Contents (Elt F)),
    binary main_v192 main_v198 main_v199 (addi : (⟨S256, .i32⟩ : BufTy).Contents (Elt F) → (⟨S256, .i32⟩ : BufTy).Contents (Elt F) → (⟨S256, .i32⟩ : BufTy).Contents (Elt F)),
    nullary main_c_36 (constantI S_ 32 0#32),
    unary main_c_36 main_v200 (broadcastInDim S256 ![] bcast_S_S256 : (⟨S_, .i32⟩ : BufTy).Contents (Elt F) → (⟨S256, .i32⟩ : BufTy).Contents (Elt F)) ]

/-- The operations of the fifth, up to the weights part of the main thread. -/
abbrev h4 : List (HloOp τ sig (Elt F)) :=
  [ binary main_v182 main_v200 main_v201 (cmpi .sge : (⟨S256, .i32⟩ : BufTy).Contents (Elt F) → (⟨S256, .i32⟩ : BufTy).Contents (Elt F) → (⟨S256, .i1⟩ : BufTy).Contents (Elt F)),
    unary main_v201 main_v202 ((extui 32 · natLt_1_32) : (⟨S256, .i1⟩ : BufTy).Contents (Elt F) → (⟨S256, .i32⟩ : BufTy).Contents (Elt F)),
    binary main_v199 main_v202 main_v203 (muli : (⟨S256, .i32⟩ : BufTy).Contents (Elt F) → (⟨S256, .i32⟩ : BufTy).Contents (Elt F) → (⟨S256, .i32⟩ : BufTy).Contents (Elt F)),
    nullary main_c_37 (constantI S_ 32 512#32),
    unary main_c_37 main_v204 (broadcastInDim S256 ![] bcast_S_S256 : (⟨S_, .i32⟩ : BufTy).Contents (Elt F) → (⟨S256, .i32⟩ : BufTy).Contents (Elt F)),
    binary main_v188 main_v204 main_v205 (cmpi .slt : (⟨S256, .i32⟩ : BufTy).Contents (Elt F) → (⟨S256, .i32⟩ : BufTy).Contents (Elt F) → (⟨S256, .i1⟩ : BufTy).Contents (Elt F)),
    unary main_v205 main_v206 ((extui 32 · natLt_1_32) : (⟨S256, .i1⟩ : BufTy).Contents (Elt F) → (⟨S256, .i32⟩ : BufTy).Contents (Elt F)),
    binary main_v188 main_v206 main_v207 (muli : (⟨S256, .i32⟩ : BufTy).Contents (Elt F) → (⟨S256, .i32⟩ : BufTy).Contents (Elt F) → (⟨S256, .i32⟩ : BufTy).Contents (Elt F)),
    nullary main_c_38 (constantI S_ 32 511#32),
    unary main_c_38 main_v208 (broadcastInDim S256 ![] bcast_S_S256 : (⟨S_, .i32⟩ : BufTy).Contents (Elt F) → (⟨S256, .i32⟩ : BufTy).Contents (Elt F)),
    binary main_v188 main_v208 main_v209 (cmpi .sgt : (⟨S256, .i32⟩ : BufTy).Contents (Elt F) → (⟨S256, .i32⟩ : BufTy).Contents (Elt F) → (⟨S256, .i1⟩ : BufTy).Contents (Elt F)),
    unary main_v209 main_v210 ((extui 32 · natLt_1_32) : (⟨S256, .i1⟩ : BufTy).Contents (Elt F) → (⟨S256, .i32⟩ : BufTy).Contents (Elt F)),
    nullary main_c_39 (constantI S_ 32 511#32),
    unary main_c_39 main_v211 (broadcastInDim S256 ![] bcast_S_S256 : (⟨S_, .i32⟩ : BufTy).Contents (Elt F) → (⟨S256, .i32⟩ : BufTy).Contents (Elt F)),
    binary main_v211 main_v210 main_v212 (muli : (⟨S256, .i32⟩ : BufTy).Contents (Elt F) → (⟨S256, .i32⟩ : BufTy).Contents (Elt F) → (⟨S256, .i32⟩ : BufTy).Contents (Elt F)),
    unary main_v212 main_v213 (id : (⟨S256, .i32⟩ : BufTy).Contents (Elt F) → (⟨S256, .i32⟩ : BufTy).Contents (Elt F)),
    binary main_v207 main_v213 main_v214 (addi : (⟨S256, .i32⟩ : BufTy).Contents (Elt F) → (⟨S256, .i32⟩ : BufTy).Contents (Elt F) → (⟨S256, .i32⟩ : BufTy).Contents (Elt F)),
    nullary main_c_40 (constantI S_ 32 0#32),
    unary main_c_40 main_v215 (broadcastInDim S256 ![] bcast_S_S256 : (⟨S_, .i32⟩ : BufTy).Contents (Elt F) → (⟨S256, .i32⟩ : BufTy).Contents (Elt F)),
    binary main_v188 main_v215 main_v216 (cmpi .sge : (⟨S256, .i32⟩ : BufTy).Contents (Elt F) → (⟨S256, .i32⟩ : BufTy).Contents (Elt F) → (⟨S256, .i1⟩ : BufTy).Contents (Elt F)),
    unary main_v216 main_v217 ((extui 32 · natLt_1_32) : (⟨S256, .i1⟩ : BufTy).Contents (Elt F) → (⟨S256, .i32⟩ : BufTy).Contents (Elt F)),
    binary main_v214 main_v217 main_v218 (muli : (⟨S256, .i32⟩ : BufTy).Contents (Elt F) → (⟨S256, .i32⟩ : BufTy).Contents (Elt F) → (⟨S256, .i32⟩ : BufTy).Contents (Elt F)),
    nullary main_c_41 (constantI S_ 32 512#32),
    unary main_c_41 main_v219 (broadcastInDim S256 ![] bcast_S_S256 : (⟨S_, .i32⟩ : BufTy).Contents (Elt F) → (⟨S256, .i32⟩ : BufTy).Contents (Elt F)),
    binary main_v203 main_v219 main_v220 (muli : (⟨S256, .i32⟩ : BufTy).Contents (Elt F) → (⟨S256, .i32⟩ : BufTy).Contents (Elt F) → (⟨S256, .i32⟩ : BufTy).Contents (Elt F)),
    binary main_v220 main_v218 main_v221 (addi : (⟨S256, .i32⟩ : BufTy).Contents (Elt F) → (⟨S256, .i32⟩ : BufTy).Contents (Elt F) → (⟨S256, .i32⟩ : BufTy).Contents (Elt F)),
    reshape main_v170 main_v222 (rfl : (.f32 : EltTy) = .f32) shapeCasts_S2x128x1x1_S256,
    reshape main_v113 main_v223 (rfl : (.f32 : EltTy) = .f32) shapeCasts_S2x1x128x1_S256,
    binary main_v222 main_v223 main_v224 (mulf : (⟨S256, .f32⟩ : BufTy).Contents (Elt F) → (⟨S256, .f32⟩ : BufTy).Contents (Elt F) → (⟨S256, .f32⟩ : BufTy).Contents (Elt F)) ]

/-- The operations of the fifth, from the blur's taps to the operands of the call part of the main thread. -/
abbrev h5 : List (HloOp τ sig (Elt F)) :=
  [ nullary main_v225 (sitofp .f32 (iotaInDim S7 32 0)),
    nullary main_cst_42 (constant S_ .f32 0xC0400000#32),
    unary main_cst_42 main_v226 (broadcastInDim S7 ![] bcast_S_S7 : (⟨S_, .f32⟩ : BufTy).Contents (Elt F) → (⟨S7, .f32⟩ : BufTy).Contents (Elt F)),
    binary main_v226 main_v225 main_v227 (addf : (⟨S7, .f32⟩ : BufTy).Contents (Elt F) → (⟨S7, .f32⟩ : BufTy).Contents (Elt F) → (⟨S7, .f32⟩ : BufTy).Contents (Elt F)),
    binary main_v227 main_v227 main_v228 (mulf : (⟨S7, .f32⟩ : BufTy).Contents (Elt F) → (⟨S7, .f32⟩ : BufTy).Contents (Elt F) → (⟨S7, .f32⟩ : BufTy).Contents (Elt F)),
    unary main_v228 main_v229 (Host.negf : (⟨S7, .f32⟩ : BufTy).Contents (Elt F) → (⟨S7, .f32⟩ : BufTy).Contents (Elt F)),
    nullary main_cst_43 (constant S_ .f32 0x41900000#32),
    unary main_cst_43 main_v230 (broadcastInDim S7 ![] bcast_S_S7 : (⟨S_, .f32⟩ : BufTy).Contents (Elt F) → (⟨S7, .f32⟩ : BufTy).Contents (Elt F)),
    binary main_v229 main_v230 main_v231 (Host.divf : (⟨S7, .f32⟩ : BufTy).Contents (Elt F) → (⟨S7, .f32⟩ : BufTy).Contents (Elt F) → (⟨S7, .f32⟩ : BufTy).Contents (Elt F)),
    unary main_v231 main_v232 (Host.exp : (⟨S7, .f32⟩ : BufTy).Contents (Elt F) → (⟨S7, .f32⟩ : BufTy).Contents (Elt F)),
    nullary main_cst_44 (constant S_ .f32 0x00000000#32),
    binary main_v232 main_cst_44 main_v233 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    unary main_v233 main_v234 (broadcastInDim S7 ![] bcast_S_S7 : (⟨S_, .f32⟩ : BufTy).Contents (Elt F) → (⟨S7, .f32⟩ : BufTy).Contents (Elt F)),
    binary main_v232 main_v234 main_v235 (Host.divf : (⟨S7, .f32⟩ : BufTy).Contents (Elt F) → (⟨S7, .f32⟩ : BufTy).Contents (Elt F) → (⟨S7, .f32⟩ : BufTy).Contents (Elt F)),
    unary main_v235 main_v236 (broadcastInDim S7x1 ![0] bcast_S7_S7x1_0 : (⟨S7, .f32⟩ : BufTy).Contents (Elt F) → (⟨S7x1, .f32⟩ : BufTy).Contents (Elt F)),
    unary main_v235 main_v237 (broadcastInDim S1x7 ![1] bcast_S7_S1x7_1 : (⟨S7, .f32⟩ : BufTy).Contents (Elt F) → (⟨S1x7, .f32⟩ : BufTy).Contents (Elt F)),
    unary main_v236 main_v238 (broadcastInDim S7x7 ![0, 1] bcast_S7x1_S7x7_0_1 : (⟨S7x1, .f32⟩ : BufTy).Contents (Elt F) → (⟨S7x7, .f32⟩ : BufTy).Contents (Elt F)),
    unary main_v237 main_v239 (broadcastInDim S7x7 ![0, 1] bcast_S1x7_S7x7_0_1 : (⟨S1x7, .f32⟩ : BufTy).Contents (Elt F) → (⟨S7x7, .f32⟩ : BufTy).Contents (Elt F)),
    binary main_v238 main_v239 main_v240 (mulf : (⟨S7x7, .f32⟩ : BufTy).Contents (Elt F) → (⟨S7x7, .f32⟩ : BufTy).Contents (Elt F) → (⟨S7x7, .f32⟩ : BufTy).Contents (Elt F)),
    nullary main_c_45 (constantI S_ 32 0#32),
    TRef.unary (TRef.of (T := ⟨S_, .i32⟩) main_c_45) (TRef.of (T := ⟨S_, .f32⟩) main_call3_v0) (sitofp .f32),
    TRef.binary (TRef.of (T := ⟨S7x7, .f32⟩) main_v240) (TRef.of (T := ⟨S_, .f32⟩) main_call3_v0) (TRef.of (T := ⟨S7x16, .f32⟩) main_v241) (fun x v => pad S7x16 ![0, 0] ![0, 9] ![0, 0] x v pads_S7x7_S7x16_000_090 h_S_),
    reshape main_v241 main_v242 (rfl : (.f32 : EltTy) = .f32) shapeCasts_S7x16_S112,
    nullary main_cst_46 (constant S_ .f32 0x00000000#32),
    unary main_cst_46 main_v243 (broadcastInDim S16384 ![] bcast_S_S16384 : (⟨S_, .f32⟩ : BufTy).Contents (Elt F) → (⟨S16384, .f32⟩ : BufTy).Contents (Elt F)),
    unary main_v221 main_v244 ((Host.slice S128 ![1] ![2] · slicesBy_S256_S128_1s2) : (⟨S256, .i32⟩ : BufTy).Contents (Elt F) → (⟨S128, .i32⟩ : BufTy).Contents (Elt F)),
    unary main_v224 main_v245 ((Host.slice S128 ![1] ![2] · slicesBy_S256_S128_1s2) : (⟨S256, .f32⟩ : BufTy).Contents (Elt F) → (⟨S128, .f32⟩ : BufTy).Contents (Elt F)) ]

/-! ## The program is the lists -/

set_option maxRecDepth 8192 in
set_option maxHeartbeats 4000000 in
/-- The main thread's operations of a part, listed. -/
theorem main_h0 (d : Dev nD) : main_part0 (F := F) d = seq h0 := rfl
set_option maxRecDepth 8192 in
set_option maxHeartbeats 4000000 in
/-- The main thread's operations of a part, listed. -/
theorem main_h1 (d : Dev nD) : main_part1 (F := F) d = seq h1 := rfl
set_option maxRecDepth 8192 in
set_option maxHeartbeats 4000000 in
/-- The main thread's operations of a part, listed. -/
theorem main_h2 (d : Dev nD) : main_part2 (F := F) d = seq h2 := rfl
set_option maxRecDepth 8192 in
set_option maxHeartbeats 4000000 in
/-- The main thread's operations of a part, listed. -/
theorem main_h3 (d : Dev nD) : main_part3 (F := F) d = seq h3 := rfl

/-- The reshape of the result. -/
abbrev hLast : HloOp τ sig (Elt F) := reshape main_v246 main_v247 (rfl : (.f32 : EltTy) = .f32) shapeCasts_S2x262144_S2x1x512x512

set_option maxRecDepth 8192 in
set_option maxHeartbeats 4000000 in
/-- The main thread's operations of a part, listed. -/
theorem main_h45 (d : Dev nD) : main_part4 (F := F) d
    = seq (h4 ++ h5) >>= fun _ => (K (F := F)).run d 0 >>= fun _ => hlo rfl hLast (fun _ => .ret ⟨⟩) := rfl

/-- What the main thread runs before the call. -/
def hPre : List (HloOp τ sig (Elt F)) := h0 ++ (h1 ++ (h2 ++ (h3 ++ (h4 ++ h5))))

/-- The main thread runs the lists in order, then the call, then the reshape of the result. -/
theorem main_eq (d : Dev nD) : main (F := F) d
    = seq hPre >>= fun _ => (K (F := F)).run d 0 >>= fun _ => hlo rfl hLast (fun _ => .ret ⟨⟩) := by
  have h : main (F := F) d = (main_part0 d >>= fun _ => main_part1 d >>= fun _ => main_part2 d >>= fun _ => main_part3 d
      >>= fun _ => main_part4 d) := rfl
  rw [h, main_h0, main_h1, main_h2, main_h3, main_h45]
  unfold hPre
  rw [seq_append h0, seq_append h1, seq_append h2, seq_append h3]
  simp only [bind_assoc]

/-! ## What they touch and what they write -/

/-- The buffers that `h0` writes. -/
abbrev h0W : List (Ref sig .tc) := [main_cst, main_v0, main_v1, main_cst_0, main_v2, main_v3, main_v4, main_cst_1, main_v5, main_v6, main_cst_2, main_v7, main_v8, main_cst_3, main_v9, main_v10, main_v11, main_cst_4, main_v12, main_v13, main_v14, main_v15, main_v16, main_v17, main_v18, main_cst_5, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_cst_6, main_v47, main_v48, main_v49, main_v50, main_v51]
set_option maxRecDepth 8192 in
/-- A list writes these buffers and no others. -/
theorem h0_writes : (h0 : List (HloOp τ sig (Elt F))).Forall fun op => op.writes ⊆ (h0W.map (Proc.devRef (τ := τ) .tc)).toFinset :=
  forall_writes_sub_of_map rfl
set_option maxRecDepth 8192 in
/-- A list's operations make no buffers of their own. -/
theorem h0_fresh : (h0 : List (HloOp τ sig (Elt F))).Forall fun op => op.fresh = ∅ :=
  forall_fresh_of_map rfl
/-- A list's buffers are among the main thread's. -/
theorem h0_sub : (h0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., reshape_bufs_sub .., unary_bufs_sub .., unary_bufs_sub .., nullary_bufs_sub .., unary_bufs_sub .., binary_bufs_sub .., unary_bufs_sub .., binary_bufs_sub .., reshape_bufs_sub .., unary_bufs_sub .., unary_bufs_sub .., reshape_bufs_sub .., nary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub ..⟩

/-- The buffers that `h1` writes. -/
abbrev h1W : List (Ref sig .tc) := [main_cst_7, main_v52, main_v53, main_v54, main_v55, main_v56, main_cst_8, main_v57, main_v58, main_v59, main_v60, main_v61, main_v62, main_v63, main_v64, main_v65, main_v66, main_v67, main_v68, main_cst_9, main_v69, main_v70, main_v71, main_v72, main_v73, main_cst_10, main_v74, main_v75, main_v76, main_v77, main_v78, main_cst_11, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106]
set_option maxRecDepth 8192 in
/-- A list writes these buffers and no others. -/
theorem h1_writes : (h1 : List (HloOp τ sig (Elt F))).Forall fun op => op.writes ⊆ (h1W.map (Proc.devRef (τ := τ) .tc)).toFinset :=
  forall_writes_sub_of_map rfl
set_option maxRecDepth 8192 in
/-- A list's operations make no buffers of their own. -/
theorem h1_fresh : (h1 : List (HloOp τ sig (Elt F))).Forall fun op => op.fresh = ∅ :=
  forall_fresh_of_map rfl
/-- A list's buffers are among the main thread's. -/
theorem h1_sub : (h1 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., unary_bufs_sub .., nary_bufs_sub .., unary_bufs_sub .., unary_bufs_sub .., unary_bufs_sub .., nary_bufs_sub .., unary_bufs_sub .., unary_bufs_sub .., unary_bufs_sub .., nary_bufs_sub .., unary_bufs_sub .., unary_bufs_sub .., unary_bufs_sub .., nary_bufs_sub .., reshape_bufs_sub .., unary_bufs_sub .., reshape_bufs_sub ..⟩

/-- The buffers that `h2` writes. -/
abbrev h2W : List (Ref sig .tc) := [main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_cst_12, main_v133, main_v134, main_cst_13, main_v135, main_v136, main_v137, main_cst_14, main_v138, main_v139, main_cst_15, main_v140, main_v141, main_cst_16, main_v142, main_v143, main_v144, main_cst_17, main_v145, main_v146, main_v147, main_cst_18, main_v148, main_v149, main_cst_19, main_v150, main_v151, main_cst_20, main_v152, main_v153, main_v154, main_cst_21, main_v155, main_v156]
set_option maxRecDepth 8192 in
/-- A list writes these buffers and no others. -/
theorem h2_writes : (h2 : List (HloOp τ sig (Elt F))).Forall fun op => op.writes ⊆ (h2W.map (Proc.devRef (τ := τ) .tc)).toFinset :=
  forall_writes_sub_of_map rfl
set_option maxRecDepth 8192 in
/-- A list's operations make no buffers of their own. -/
theorem h2_fresh : (h2 : List (HloOp τ sig (Elt F))).Forall fun op => op.fresh = ∅ :=
  forall_fresh_of_map rfl
/-- A list's buffers are among the main thread's. -/
theorem h2_sub : (h2 : List (HloOp τ sig (Elt F))).Forall fun op => op.bufs ⊆ tcRefs τ sig :=
  ⟨reshape_bufs_sub .., unary_bufs_sub .., reshape_bufs_sub .., binary_bufs_sub .., reshape_bufs_sub .., reshape_bufs_sub .., unary_bufs_sub .., unary_bufs_sub .., reshape_bufs_sub .., unary_bufs_sub .., reshape_bufs_sub .., unary_bufs_sub .., reshape_bufs_sub .., binary_bufs_sub .., binary_bufs_sub .., binary_bufs_sub .., binary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩

/-- The buffers that `h3` writes. -/
abbrev h3W : List (Ref sig .tc) := [main_cst_22, main_v157, main_v158, main_cst_23, main_v159, main_v160, main_v161, main_cst_24, main_v162, main_v163, main_v164, main_cst_25, main_v165, main_v166, main_v167, main_call0_cst, main_call0_v0, main_v168, main_v169, main_v170, main_cst_26, main_call1_v0, main_call1_v1, main_v171, main_cst_27, main_v172, main_v173, main_cst_28, main_call2_v0, main_call2_v1, main_v174, main_cst_29, main_v175, main_v176, main_cst_30, main_v177, main_v178, main_cst_31, main_v179, main_v180, main_v181, main_v182, main_cst_32, main_v183, main_v184, main_cst_33, main_v185, main_v186, main_v187, main_v188, main_c, main_v189, main_v190, main_v191, main_v192, main_c_34, main_v193, main_v194, main_v195, main_c_35, main_v196, main_v197, main_v198, main_v199, main_c_36, main_v200]
set_option maxRecDepth 8192 in
/-- A list writes these buffers and no others. -/
theorem h3_writes : (h3 : List (HloOp τ sig (Elt F))).Forall fun op => op.writes ⊆ (h3W.map (Proc.devRef (τ := τ) .tc)).toFinset :=
  forall_writes_sub_of_map rfl
set_option maxRecDepth 8192 in
/-- A list's operations make no buffers of their own. -/
theorem h3_fresh : (h3 : List (HloOp τ sig (Elt F))).Forall fun op => op.fresh = ∅ :=
  forall_fresh_of_map rfl
/-- A list's buffers are among the main thread's. -/
theorem h3_sub : (h3 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., reshape_bufs_sub .., nullary_bufs_sub .., unary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., unary_bufs_sub .., nullary_bufs_sub .., unary_bufs_sub .., binary_bufs_sub .., nullary_bufs_sub .., unary_bufs_sub .., binary_bufs_sub .., reshape_bufs_sub .., unary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub ..⟩

/-- The buffers that `h4` writes. -/
abbrev h4W : List (Ref sig .tc) := [main_v201, main_v202, main_v203, main_c_37, main_v204, main_v205, main_v206, main_v207, main_c_38, main_v208, main_v209, main_v210, main_c_39, main_v211, main_v212, main_v213, main_v214, main_c_40, main_v215, main_v216, main_v217, main_v218, main_c_41, main_v219, main_v220, main_v221, main_v222, main_v223, main_v224]
set_option maxRecDepth 8192 in
/-- A list writes these buffers and no others. -/
theorem h4_writes : (h4 : List (HloOp τ sig (Elt F))).Forall fun op => op.writes ⊆ (h4W.map (Proc.devRef (τ := τ) .tc)).toFinset :=
  forall_writes_sub_of_map rfl
set_option maxRecDepth 8192 in
/-- A list's operations make no buffers of their own. -/
theorem h4_fresh : (h4 : List (HloOp τ sig (Elt F))).Forall fun op => op.fresh = ∅ :=
  forall_fresh_of_map rfl
/-- A list's buffers are among the main thread's. -/
theorem h4_sub : (h4 : List (HloOp τ sig (Elt F))).Forall fun op => op.bufs ⊆ tcRefs τ sig :=
  ⟨binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., binary_bufs_sub .., reshape_bufs_sub .., reshape_bufs_sub .., binary_bufs_sub ..⟩

/-- The buffers that `h5` writes. -/
abbrev h5W : List (Ref sig .tc) := [main_v225, main_cst_42, main_v226, main_v227, main_v228, main_v229, main_cst_43, main_v230, main_v231, main_v232, main_cst_44, main_v233, main_v234, main_v235, main_v236, main_v237, main_v238, main_v239, main_v240, main_c_45, main_call3_v0, main_v241, main_v242, main_cst_46, main_v243, main_v244, main_v245]
set_option maxRecDepth 8192 in
/-- A list writes these buffers and no others. -/
theorem h5_writes : (h5 : List (HloOp τ sig (Elt F))).Forall fun op => op.writes ⊆ (h5W.map (Proc.devRef (τ := τ) .tc)).toFinset :=
  forall_writes_sub_of_map rfl
set_option maxRecDepth 8192 in
/-- A list's operations make no buffers of their own. -/
theorem h5_fresh : (h5 : List (HloOp τ sig (Elt F))).Forall fun op => op.fresh = ∅ :=
  forall_fresh_of_map rfl
/-- A list's buffers are among the main thread's. -/
theorem h5_sub : (h5 : List (HloOp τ sig (Elt F))).Forall fun op => op.bufs ⊆ tcRefs τ sig :=
  ⟨nullary_bufs_sub .., nullary_bufs_sub .., unary_bufs_sub .., binary_bufs_sub .., binary_bufs_sub .., unary_bufs_sub .., nullary_bufs_sub .., unary_bufs_sub .., binary_bufs_sub .., unary_bufs_sub .., nullary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., nullary_bufs_sub .., unary_bufs_sub .., unary_bufs_sub .., unary_bufs_sub ..⟩

/-- A list's buffers are among the main thread's. -/
theorem hPre_sub (op : HloOp τ sig (Elt F)) (h : op ∈ hPre) : op.bufs ⊆ Pipeline.ucRefs τ sig := by
  refine Pipeline.sub_ucRefs op ?_
  simp only [hPre, List.mem_append] at h
  rcases h with h | h | h | h | h | h
  · exact List.forall_iff_forall_mem.mp h0_sub op h
  · exact List.forall_iff_forall_mem.mp h1_sub op h
  · exact List.forall_iff_forall_mem.mp h2_sub op h
  · exact List.forall_iff_forall_mem.mp h3_sub op h
  · exact List.forall_iff_forall_mem.mp h4_sub op h
  · exact List.forall_iff_forall_mem.mp h5_sub op h

/-- A list's operations make no buffers of their own. -/
theorem hPre_fresh (op : HloOp τ sig (Elt F)) (h : op ∈ hPre) : op.fresh = ∅ := by
  simp only [hPre, List.mem_append] at h
  rcases h with h | h | h | h | h | h
  · exact List.forall_iff_forall_mem.mp h0_fresh op h
  · exact List.forall_iff_forall_mem.mp h1_fresh op h
  · exact List.forall_iff_forall_mem.mp h2_fresh op h
  · exact List.forall_iff_forall_mem.mp h3_fresh op h
  · exact List.forall_iff_forall_mem.mp h4_fresh op h
  · exact List.forall_iff_forall_mem.mp h5_fresh op h

/-- A buffer that no list writes is kept. -/
theorem hPre_keep (V₀ : Valuation τ sig (Elt F)) (r : Ref sig .tc)
    (h : r ∉ h0W ++ (h1W ++ (h2W ++ (h3W ++ (h4W ++ h5W))))) : after hPre V₀ (Proc.devRef .tc r) = V₀ (Proc.devRef .tc r) := by
  simp only [List.mem_append, not_or] at h
  obtain ⟨g0, g1, g2, g3, g4, g5⟩ := h
  unfold hPre
  rw [after_append, after_append, after_append, after_append, after_append, after_of_writes_sub _ _ h5_writes g5,
    after_of_writes_sub _ _ h4_writes g4, after_of_writes_sub _ _ h3_writes g3, after_of_writes_sub _ _ h2_writes g2,
    after_of_writes_sub _ _ h1_writes g1, after_of_writes_sub _ _ h0_writes g0]

end Cert.Sky
-- ==== Proof.Main.lean ====
/-
  The run of the program on a device: what every unscoped buffer holds at the end, from any launch memory, for any float
  values; and the two frames that drop the values.
-/
module

public import proofs.«01_k».proof.Proof.Host
public import proofs.«01_k».proof.Kernel
public import proofs.«01_k».proof.Proof.Gen.Kernel

@[expose] public section

noncomputable section

namespace Cert.Sky

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Tactic
open Idealize.ShloMosaic.StableHlo

variable {F : FTy → Type} [FloatOps F]

local notation "𝕄" => MT nD τ sig (HIx 1) (Elt F) ℕ UU ℕ
variable (m : (ℓ : Loc nD τ sig) → Buf (Elt F) ℓ) (ρ : Dev nD → PrngReg)

/-! ## What the buffers hold -/

/-- The keys' buffer. -/
abbrev k' : DevRef τ sig := Proc.devRef .tc (main_v244 : Ref sig .tc)
/-- The weights' buffer. -/
abbrev f' : DevRef τ sig := Proc.devRef .tc (main_v245 : Ref sig .tc)
/-- The patch's buffer. -/
abbrev g' : DevRef τ sig := Proc.devRef .tc (main_v242 : Ref sig .tc)
/-- The zeros' buffer. -/
abbrev z' : DevRef τ sig := Proc.devRef .tc (main_v243 : Ref sig .tc)
/-- The result's buffer. -/
abbrev o' : DevRef τ sig := Proc.devRef .tc (main_v246 : Ref sig .tc)

/-- The contents when the call starts, from those at launch. -/
def Vpre (V₀ : Valuation τ sig (Elt F)) : Valuation τ sig (Elt F) := after hPre V₀

/-- The call's operands, from the contents at launch. -/
def opsAt (V₀ : Valuation τ sig (Elt F)) : Ops F := ⟨Vpre V₀ k', Vpre V₀ f', Vpre V₀ g', Vpre V₀ z', Vpre V₀ o'⟩

/-- The contents when the call is done. -/
def Vcall (V₀ : Valuation τ sig (Elt F)) : Valuation τ sig (Elt F) := Function.update (Vpre V₀) o' (outV (opsAt V₀))

/-- The contents when the main thread is done. -/
def Vend (V₀ : Valuation τ sig (Elt F)) : Valuation τ sig (Elt F) := (hLast (F := F)).result (Vcall V₀)

/-- The buffers of the call: its operands and its result. -/
abbrev SC : Finset (DevRef τ sig) := {k', f', g', z', o'}

/-- Holding the call's five buffers is holding each. -/
theorem held_SC (d : Dev nD) (W : Valuation τ sig (Elt F)) :
    (held (T d) SC W : sProp 𝕄) = iprop((kLoc d ↦{fullShare} W k') ∗ (fLoc d ↦{fullShare} W f') ∗ (gLoc d ↦{fullShare} W g')
      ∗ (zLoc d ↦{fullShare} W z') ∗ oLoc d ↦{fullShare} W o') := by
  unfold held SC
  rw [SparseCore.bigSep_insert' (by decide), SparseCore.bigSep_insert' (by decide), SparseCore.bigSep_insert' (by decide),
    SparseCore.bigSep_insert' (by decide), bigSep_singleton]

/-- The call's buffers are among the main thread's. -/
theorem SC_sub : SC ⊆ Pipeline.ucRefs τ sig := by
  intro b hb
  simp only [SC, Finset.mem_insert, Finset.mem_singleton] at hb
  rcases hb with rfl | rfl | rfl | rfl | rfl <;>
    exact Finset.mem_filter.mpr ⟨devRef_mem_tcRefs _, by decide⟩

/-- The last operation's buffers are among the main thread's. -/
theorem hLast_sub : (hLast (F := F)).bufs ⊆ Pipeline.ucRefs τ sig := Pipeline.sub_ucRefs _ (reshape_bufs_sub ..)

/-- Outside the call's buffers the call changes nothing. -/
theorem held_rest (d : Dev nD) (V₀ : Valuation τ sig (Elt F)) :
    (held (T d) (Pipeline.ucRefs τ sig \ SC) (after hPre V₀) : sProp 𝕄) = held (T d) (Pipeline.ucRefs τ sig \ SC) (Vcall V₀) :=
  held_congr _ fun b hb => (Function.update_of_ne (fun h => (Finset.mem_sdiff.mp hb).2 (by rw [h]; decide)) _ _).symm

/-- The call's operands on every device. -/
abbrev Aop (d : Dev nD) : Ops F := opsAt (launchContents m d)

/-- The operands' ownership, one by one. -/
theorem inPts_eq (d : Dev nD) : (inPts (Aop m d) d fullShare : sProp 𝕄) = iprop((kLoc d ↦{fullShare} Vpre (launchContents m d) k')
    ∗ (fLoc d ↦{fullShare} Vpre (launchContents m d) f') ∗ (gLoc d ↦{fullShare} Vpre (launchContents m d) g')
      ∗ zLoc d ↦{fullShare} Vpre (launchContents m d) z') := rfl

/-- The call leaves the keys as they were. -/
theorem Vcall_k (V₀ : Valuation τ sig (Elt F)) : Vcall V₀ k' = Vpre V₀ k' := Function.update_of_ne (show k' ≠ o' by decide) _ _
/-- The call leaves the weights as they were. -/
theorem Vcall_f (V₀ : Valuation τ sig (Elt F)) : Vcall V₀ f' = Vpre V₀ f' := Function.update_of_ne (show f' ≠ o' by decide) _ _
/-- The call leaves the patch as it was. -/
theorem Vcall_g (V₀ : Valuation τ sig (Elt F)) : Vcall V₀ g' = Vpre V₀ g' := Function.update_of_ne (show g' ≠ o' by decide) _ _
/-- The call leaves the zeros as they were. -/
theorem Vcall_z (V₀ : Valuation τ sig (Elt F)) : Vcall V₀ z' = Vpre V₀ z' := Function.update_of_ne (show z' ≠ o' by decide) _ _
/-- The call writes the result. -/
theorem Vcall_o (V₀ : Valuation τ sig (Elt F)) : Vcall V₀ o' = outV (opsAt V₀) := Function.update_self _ _ _

/-- What the main thread leaves: every unscoped buffer at its last contents. -/
abbrev FIN (d : Dev nD) : sProp 𝕄 := held (T d) (Pipeline.ucRefs τ sig) (Vend (launchContents m d))

/-- The main thread on a device: the operations before the call, the call, the reshape. -/
theorem hmain (κ : GSem nD τ sig → ℕ) (d : Dev nD) :
    iprop((K (F := F)).ctx EH (P (Aop m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (launchContents m d)
    from Pipeline.unscopedBufs_held d (launchContents m d), main_eq]
  iintro ⟨#Hctx, Hst, ⟨Hb, Hheld, Hts, -⟩, -⟩
  iapply (wp_seq 𝒱 none Set.univ d (Pipeline.ucRefs τ sig) _ hPre hPre_sub hPre_fresh (launchContents m d)) $$ [Hb Hheld]
  · isplitl [Hb] <;> iassumption
  iintro ⟨Hb, Hheld⟩
  ihave Hh := (Entails.of_eq (held_sub_split (T d) SC_sub _)) $$ Hheld
  icases Hh with ⟨Hc, Hrest⟩
  ihave Hc' := (Entails.of_eq (held_SC d _)) $$ Hc
  icases Hc' with ⟨Hk, Hf, Hg, Hz, Ho⟩
  rw [wp_bind]
  iapply ((K (F := F)).wp_run (D (F := F)) 𝒱 (EH := EH) (P := P (Aop m)) κ d 0) $$ [Hst Hk Hf Hg Hz Ho Hb Hrest Hts]
  isplitr; · iexact Hctx
  isplitl [Hst]; · iexact Hst
  isplitl [Hk Hf Hg Hz Ho]
  · rw [st0_eq]
    isplitr [Ho]
    · unfold inPts
      isplitl [Hk]; · iexact Hk
      isplitl [Hf]; · iexact Hf
      isplitl [Hg]; · iexact Hg
      iexact Hz
    · iexact Ho
  iintro ⟨Hst, Hdn⟩
  ihave Hdn' := (Entails.of_eq (dn0_eq (Aop m) d)) $$ Hdn
  icases Hdn' with ⟨Hin, Ho⟩
  ihave Hin' := (Entails.of_eq (inPts_eq m d)) $$ Hin
  icases Hin' with ⟨Hk, Hf, Hg, Hz⟩
  ihave Hrest' := (Entails.of_eq (held_rest d (launchContents m d))) $$ Hrest
  iapply (wp_hlo_within 𝒱 (SparseCore.T d) none Set.univ (op := hLast) (S := Pipeline.ucRefs τ sig) hLast_sub
    (V := Vcall (launchContents m d))) $$ [Hb Hk Hf Hg Hz Ho Hrest']
  · isplitl [Hb]; · iexact Hb
    rw [held_sub_split (T d) SC_sub, held_SC]
    isplitr [Hrest']
    · rw [Vcall_k, Vcall_f, Vcall_g, Vcall_z, Vcall_o]
      isplitl [Hk]; · iexact Hk
      isplitl [Hf]; · iexact Hf
      isplitl [Hg]; · iexact Hg
      isplitl [Hz]; · iexact Hz
      iexact Ho
    · iexact Hrest'
  iintro ⟨Hb, Hheld⟩
  rw [wp_ret]; imodintro
  isplitl [Hst]; · iexact Hst
  isplitr [Hb Hts]
  · iexact Hheld
  isplitl [Hb] <;> iassumption

/-- What the memory is at the end on device `d`: every unscoped buffer at its last contents. -/
def fq (d : Dev nD) (s' : Phys nD τ sig (Elt F)) : Prop := ∀ b ∈ Pipeline.ucRefs τ sig, s'.mem.mem (d, b) = Vend (launchContents m d) b

/-- What the main thread holds at the end says what memory holds. -/
theorem hfin (d : Dev nD) (s' : Phys nD τ sig (Elt F)) : iprop(FIN m d ∗ SI s') ⊢ (⌜fq m d s'⌝ : sProp 𝕄) := by
  unfold FIN held
  iintro ⟨Hx, HSI⟩
  iapply (SI_pointsTo_bufs_agree (st := s') (c := d) (qs := fun _ => fullShare) (F := Vend (launchContents m d)) (Pipeline.ucRefs τ sig))
  isplitl [HSI]; · iexact HSI
  iexact Hx

/-- The end of a run: on every device every unscoped buffer at its last contents, and every counter zero. -/
def QC : PUnit × MemSt nD τ sig (Elt F) → Prop := fun r =>
  (∀ c : Dev nD, ∀ b ∈ Pipeline.ucRefs τ sig, r.2.mem (c, b) = Vend (launchContents m c) b) ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Aop m)) (A := ∅) facts v₀
    (fun q hq => match q with | 0 => nomatch hq)
    (fun q _ => match q with | 0 => tileObl (Aop m) facts)
    (fun q _ => match q with | 0 => SparseCore.Cfg.VecSplit.of_plain (vecSplit (Aop m)))
    m ρ main (fun _ => iprop(emp)) (FIN m) (u₀ (F := F)) (sep_elim_left.trans (hu₀ (Aop m))) (hmain m ρ) (fq m) (hfin m) (QC m) (fun _ h hz => ⟨h, hz⟩)

/-! ## The arguments and the result at the end -/

/-- An unscoped buffer of the main thread is among its buffers. -/
theorem uc_mem (r : Ref sig .tc) (h : (Proc.devRef (τ := τ) .tc r).isScoped = false) : Proc.devRef .tc r ∈ Pipeline.ucRefs τ sig :=
  Finset.mem_filter.mpr ⟨devRef_mem_tcRefs _, by rw [h]; exact Bool.false_ne_true⟩

/-- A buffer that is not the result's, nor the call's, nor one a list writes ends as it began. -/
theorem Vend_keep (V₀ : Valuation τ sig (Elt F)) (r : Ref sig .tc) (h : r ∉ [main_v246, main_v247])
    (h' : r ∉ h0W ++ (h1W ++ (h2W ++ (h3W ++ (h4W ++ h5W))))) :
    Vend V₀ (Proc.devRef .tc r) = V₀ (Proc.devRef .tc r) := by
  have h1 : r ≠ main_v247 := fun e => h (by rw [e]; decide)
  have h2 : r ≠ main_v246 := fun e => h (by rw [e]; decide)
  unfold Vend
  rw [(hLast (F := F)).result_of_not_mem (Vcall V₀) (b := Proc.devRef .tc r)
    (show Proc.devRef (τ := τ) .tc r ∉ ({Proc.devRef .tc main_v247} : Finset (DevRef τ sig)) from fun hm =>
      h1 (Proc.devRef_injective _ (Finset.mem_singleton.mp hm)))]
  unfold Vcall
  rw [Function.update_of_ne (devRef_ne_of_ne h2)]
  exact hPre_keep V₀ r h'

/-- The result at the end: the call's, reshaped. -/
theorem Vend_result (V₀ : Valuation τ sig (Elt F)) :
    Vend V₀ (Proc.devRef .tc (main_v247 : Ref sig .tc)) = shapeCast S2x1x512x512 (outV (opsAt V₀)) shapeCasts_S2x262144_S2x1x512x512 := by
  unfold Vend
  rw [show (hLast (F := F)).result (Vcall V₀) (Proc.devRef .tc (main_v247 : Ref sig .tc))
    = shapeCast S2x1x512x512 (Vcall V₀ o') shapeCasts_S2x262144_S2x1x512x512 from reshape_result ..]
  unfold Vcall
  rw [Function.update_self]

set_option maxRecDepth 8192 in
/-- Every run ends with the result the reshaped call's and the arguments as they were. -/
theorem run_value [∀ e, Nonempty (Elt F e)] : θ_run (Cert.KernelIdeal.defs (F := F)) (Cert.KernelIdeal.threads (F := F)) ⟨m, fun _ => 0, ρ⟩ fun r =>
    (∀ c : Dev nD,
      r.2.mem ((c.tc : Thread nD τ).loc main_v247) = shapeCast S2x1x512x512 (outV (opsAt (launchContents m c))) shapeCasts_S2x262144_S2x1x512x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run Cert.KernelIdeal.defs _ _).mono (fun _ h => ⟨fun c =>
    ⟨(h.1 c _ (uc_mem main_v247 (by decide))).trans (Vend_result _),
      (h.1 c _ (uc_mem main_arg0 (by decide))).trans (Vend_keep _ main_arg0 (by decide) (by decide)),
      (h.1 c _ (uc_mem main_arg1 (by decide))).trans (Vend_keep _ main_arg1 (by decide) (by decide)),
      (h.1 c _ (uc_mem main_arg2 (by decide))).trans (Vend_keep _ main_arg2 (by decide) (by decide)),
      (h.1 c _ (uc_mem main_arg3 (by decide))).trans (Vend_keep _ main_arg3 (by decide) (by decide))⟩, h.2⟩) (run_main m ρ)

/-- The kernel over the reals quiesces with its arguments unchanged. -/
theorem frame_kernelIdeal : Cert.quiescent_KernelIdeal := fun m ρ _ =>
  (θ_run Cert.KernelIdeal.defs _ _).mono (fun _ h => ⟨fun c => (h.1 c).2, h.2⟩) (run_value (F := Ideal) m ρ)

/-- The kernel over the machine's floats quiesces with its arguments unchanged: its program is the same text. -/
theorem frame_kernel : Cert.quiescent_Kernel := fun m ρ _ =>
  (θ_run Cert.KernelIdeal.defs _ _).mono (fun _ h => ⟨fun c => (h.1 c).2, h.2⟩) (run_value (F := Bits) m ρ)

end Cert.Sky
-- ==== Proof.HostValue.lean ====
/-
  What the main thread's operations before the call leave in the buffers that the call reads: the same terms of the
  arguments as the reference's, up to the pixels and the weights.
-/
module

public import proofs.«01_k».proof.Proof.Host
public import proofs.«01_k».proof.Proof.Gen.ReferenceIdeal.Run

@[expose] public section

noncomputable section

namespace Cert.Sky

open Cert.KernelIdeal Cert.KernelIdeal.Gen

open Idealize.ShloMosaic Idealize.ShloMosaic.StableHlo Idealize.ShloMosaic.Tactic

variable {F : FTy → Type} [FloatOps F]

/-- The contents of the kernel program's buffers. -/
abbrev VK (F : FTy → Type) : Type := Valuation Cert.KernelIdeal.τ Cert.KernelIdeal.sig (Elt F)
/-- The contents of the reference program's buffers. -/
abbrev VR (F : FTy → Type) : Type := Valuation Cert.ReferenceIdeal.τ Cert.ReferenceIdeal.sig (Elt F)

/-- The two programs start from the same arguments. -/
structure Agree (V : VK F) (R : VR F) : Prop where
  a0 : V (Proc.devRef .tc main_arg0) = R (Proc.devRef .tc Cert.ReferenceIdeal.main_arg0)
  a1 : V (Proc.devRef .tc main_arg1) = R (Proc.devRef .tc Cert.ReferenceIdeal.main_arg1)
  a2 : V (Proc.devRef .tc main_arg2) = R (Proc.devRef .tc Cert.ReferenceIdeal.main_arg2)
  a3 : V (Proc.devRef .tc main_arg3) = R (Proc.devRef .tc Cert.ReferenceIdeal.main_arg3)

/-- The contents after the first list, the first two, … -/
def U1 (V : VK F) : VK F := after h0 V
/-- After the first two lists. -/
def U2 (V : VK F) : VK F := after h1 (U1 V)
/-- After the first three. -/
def U3 (V : VK F) : VK F := after h2 (U2 V)
/-- After the first four. -/
def U4 (V : VK F) : VK F := after h3 (U3 V)
/-- After the first five. -/
def U5 (V : VK F) : VK F := after h4 (U4 V)
/-- After all six. -/
def U6 (V : VK F) : VK F := after h5 (U5 V)

/-- All the operations before the call, list by list. -/
theorem after_hPre (V : VK F) : after hPre V = U6 V := by
  unfold hPre U6 U5 U4 U3 U2 U1
  rw [after_append, after_append, after_append, after_append, after_append]

variable {V : VK F} {R : VR F}

/-! ## The stars' positions and weights

After each list, the buffers that a later one reads hold what the reference's hold. -/

/-- After the first list: the magnitudes, the directions and the rotations' first terms. -/
structure Same1 (V : VK F) (R : VR F) : Prop where
  v3 : V (no_index (Proc.devRef .tc main_v3)) = R (Proc.devRef .tc Cert.ReferenceIdeal.main_v3)
  v28 : V (no_index (Proc.devRef .tc main_v28)) = R (Proc.devRef .tc Cert.ReferenceIdeal.main_v28)
  v30 : V (no_index (Proc.devRef .tc main_v30)) = R (Proc.devRef .tc Cert.ReferenceIdeal.main_v30)
  v32 : V (no_index (Proc.devRef .tc main_v32)) = R (Proc.devRef .tc Cert.ReferenceIdeal.main_v32)
  v34 : V (no_index (Proc.devRef .tc main_v34)) = R (Proc.devRef .tc Cert.ReferenceIdeal.main_v34)
  v36 : V (no_index (Proc.devRef .tc main_v36)) = R (Proc.devRef .tc Cert.ReferenceIdeal.main_v36)
  v43 : V (no_index (Proc.devRef .tc main_v43)) = R (Proc.devRef .tc Cert.ReferenceIdeal.main_v43)
  v48 : V (no_index (Proc.devRef .tc main_v48)) = R (Proc.devRef .tc Cert.ReferenceIdeal.main_v48)
  v51 : V (no_index (Proc.devRef .tc main_v51)) = R (Proc.devRef .tc Cert.ReferenceIdeal.main_v51)

/-- After the second: the magnitudes, the rotations, and the directions laid out star by star. -/
structure Same2 (V : VK F) (R : VR F) : Prop where
  v3 : V (no_index (Proc.devRef .tc main_v3)) = R (Proc.devRef .tc Cert.ReferenceIdeal.main_v3)
  v103 : V (no_index (Proc.devRef .tc main_v103)) = R (Proc.devRef .tc Cert.ReferenceIdeal.main_v103)
  v106 : V (no_index (Proc.devRef .tc main_v106)) = R (Proc.devRef .tc Cert.ReferenceIdeal.main_v106)

/-- After the third: the magnitudes, the positions on the image and the filter's first terms. -/
structure Same3 (V : VK F) (R : VR F) : Prop where
  v113 : V (no_index (Proc.devRef .tc main_v113)) = R (Proc.devRef .tc Cert.ReferenceIdeal.main_v113)
  v128 : V (no_index (Proc.devRef .tc main_v128)) = R (Proc.devRef .tc Cert.ReferenceIdeal.main_v128)
  v131 : V (no_index (Proc.devRef .tc main_v131)) = R (Proc.devRef .tc Cert.ReferenceIdeal.main_v131)
  v132 : V (no_index (Proc.devRef .tc main_v132)) = R (Proc.devRef .tc Cert.ReferenceIdeal.main_v132)
  v149 : V (no_index (Proc.devRef .tc main_v149)) = R (Proc.devRef .tc Cert.ReferenceIdeal.main_v149)
  v156 : V (no_index (Proc.devRef .tc main_v156)) = R (Proc.devRef .tc Cert.ReferenceIdeal.main_v156)

/-- After the fourth: the magnitudes, the filters and the pixels as words. -/
structure Same4 (V : VK F) (R : VR F) : Prop where
  v113 : V (no_index (Proc.devRef .tc main_v113)) = R (Proc.devRef .tc Cert.ReferenceIdeal.main_v113)
  v170 : V (no_index (Proc.devRef .tc main_v170)) = R (Proc.devRef .tc Cert.ReferenceIdeal.main_v170)
  v182 : V (no_index (Proc.devRef .tc main_v182)) = R (Proc.devRef .tc Cert.ReferenceIdeal.main_v179)
  v188 : V (no_index (Proc.devRef .tc main_v188)) = R (Proc.devRef .tc Cert.ReferenceIdeal.main_v188)
  v199 : V (no_index (Proc.devRef .tc main_v199)) = R (Proc.devRef .tc Cert.ReferenceIdeal.main_v199)
  v200 : V (no_index (Proc.devRef .tc main_v200)) = R (Proc.devRef .tc Cert.ReferenceIdeal.main_v200)

set_option maxRecDepth 8192 in
set_option maxHeartbeats 8000000 in
/-- After the first list the two programs' buffers agree where they are read later. -/
theorem same1 (h : Agree V R) : Same1 (U1 V) (Cert.ReferenceIdeal.Value.val1 R) := by
  constructor <;>
  · unfold U1
    simp only [h0]
    after_results_simp
    try dsimp only [Matrix.cons_val]
    try after_results_simp
    try dsimp only [Matrix.cons_val]
    try after_results_simp
    simp only [h.a0, h.a1, h.a2, h.a3, Cert.ReferenceIdeal.Value.val1_main_v3, Cert.ReferenceIdeal.Value.val1_main_v28, Cert.ReferenceIdeal.Value.val1_main_v30, Cert.ReferenceIdeal.Value.val1_main_v32, Cert.ReferenceIdeal.Value.val1_main_v34, Cert.ReferenceIdeal.Value.val1_main_v36, Cert.ReferenceIdeal.Value.val1_main_v43, Cert.ReferenceIdeal.Value.val1_main_v48, Cert.ReferenceIdeal.Value.val1_main_v51] <;> rfl

set_option maxRecDepth 8192 in
set_option maxHeartbeats 8000000 in
/-- After the second list they agree where they are read later. -/
theorem same2 (h : Agree V R) : Same2 (U2 V) (Cert.ReferenceIdeal.Value.val2 R) := by
  constructor <;>
  · unfold U2
    simp only [h1]
    after_results_simp
    try dsimp only [Matrix.cons_val]
    try after_results_simp
    try dsimp only [Matrix.cons_val]
    try after_results_simp
    simp only [(same1 h).v3, (same1 h).v28, (same1 h).v30, (same1 h).v32, (same1 h).v34, (same1 h).v36, (same1 h).v43, (same1 h).v48, (same1 h).v51, Cert.ReferenceIdeal.Value.val1_main_v3, Cert.ReferenceIdeal.Value.val1_main_v28, Cert.ReferenceIdeal.Value.val1_main_v30, Cert.ReferenceIdeal.Value.val1_main_v32, Cert.ReferenceIdeal.Value.val1_main_v34, Cert.ReferenceIdeal.Value.val1_main_v36, Cert.ReferenceIdeal.Value.val1_main_v43, Cert.ReferenceIdeal.Value.val1_main_v48, Cert.ReferenceIdeal.Value.val1_main_v51, Cert.ReferenceIdeal.Value.val2_main_v3, Cert.ReferenceIdeal.Value.val2_main_v103, Cert.ReferenceIdeal.Value.val2_main_v106] <;> rfl

set_option maxRecDepth 8192 in
set_option maxHeartbeats 8000000 in
/-- After the third list they agree where they are read later. -/
theorem same3 (h : Agree V R) : Same3 (U3 V) (Cert.ReferenceIdeal.Value.val3 R) := by
  constructor <;>
  · unfold U3
    simp only [h2]
    after_results_simp
    try dsimp only [Matrix.cons_val]
    try after_results_simp
    try dsimp only [Matrix.cons_val]
    try after_results_simp
    simp only [(same2 h).v3, (same2 h).v103, (same2 h).v106, Cert.ReferenceIdeal.Value.val2_main_v3, Cert.ReferenceIdeal.Value.val2_main_v103, Cert.ReferenceIdeal.Value.val2_main_v106, Cert.ReferenceIdeal.Value.val3_main_v113, Cert.ReferenceIdeal.Value.val3_main_v128, Cert.ReferenceIdeal.Value.val3_main_v131, Cert.ReferenceIdeal.Value.val3_main_v132, Cert.ReferenceIdeal.Value.val3_main_v149, Cert.ReferenceIdeal.Value.val3_main_v156] <;> rfl

set_option maxRecDepth 8192 in
set_option maxHeartbeats 8000000 in
/-- After the fourth list they agree where they are read later. -/
theorem same4 (h : Agree V R) : Same4 (U4 V) (Cert.ReferenceIdeal.Value.val4 R) := by
  constructor <;>
  · unfold U4
    simp only [h3, TRef.nullary, TRef.unary, TRef.binary, TRef.toBuf, TRef.ofBuf, cast_eq]
    after_results_simp
    try dsimp only [Matrix.cons_val]
    try after_results_simp
    try dsimp only [Matrix.cons_val]
    try after_results_simp
    simp only [(same3 h).v113, (same3 h).v128, (same3 h).v131, (same3 h).v132, (same3 h).v149, (same3 h).v156, Cert.ReferenceIdeal.Value.val3_main_v113, Cert.ReferenceIdeal.Value.val3_main_v128, Cert.ReferenceIdeal.Value.val3_main_v131, Cert.ReferenceIdeal.Value.val3_main_v132, Cert.ReferenceIdeal.Value.val3_main_v149, Cert.ReferenceIdeal.Value.val3_main_v156, Cert.ReferenceIdeal.Value.val4_main_v113, Cert.ReferenceIdeal.Value.val4_main_v170, Cert.ReferenceIdeal.Value.val4_main_v179, Cert.ReferenceIdeal.Value.val4_main_v188, Cert.ReferenceIdeal.Value.val4_main_v199, Cert.ReferenceIdeal.Value.val4_main_v200] <;> rfl

/-! ## The operands of the call -/

set_option maxRecDepth 8192 in
set_option maxHeartbeats 4000000 in
/-- The stars' rows are the reference's. -/
theorem U5_v203 (h : Agree V R) : U5 V (no_index (Proc.devRef .tc main_v203)) = Cert.ReferenceIdeal.Value.res_main_v203 R := by
  unfold U5
  simp only [h4]
  after_results_simp
  try dsimp only [Matrix.cons_val]
  try after_results_simp
  simp only [(same4 h).v113, (same4 h).v170, (same4 h).v182, (same4 h).v188, (same4 h).v199, (same4 h).v200, Cert.ReferenceIdeal.Value.val4_main_v113, Cert.ReferenceIdeal.Value.val4_main_v170, Cert.ReferenceIdeal.Value.val4_main_v179, Cert.ReferenceIdeal.Value.val4_main_v188, Cert.ReferenceIdeal.Value.val4_main_v199, Cert.ReferenceIdeal.Value.val4_main_v200] <;> rfl
set_option maxRecDepth 8192 in
set_option maxHeartbeats 4000000 in
/-- The stars' columns are the reference's. -/
theorem U5_v218 (h : Agree V R) : U5 V (no_index (Proc.devRef .tc main_v218)) = Cert.ReferenceIdeal.Value.res_main_v218 R := by
  unfold U5
  simp only [h4]
  after_results_simp
  try dsimp only [Matrix.cons_val]
  try after_results_simp
  simp only [(same4 h).v113, (same4 h).v170, (same4 h).v182, (same4 h).v188, (same4 h).v199, (same4 h).v200, Cert.ReferenceIdeal.Value.val4_main_v113, Cert.ReferenceIdeal.Value.val4_main_v170, Cert.ReferenceIdeal.Value.val4_main_v179, Cert.ReferenceIdeal.Value.val4_main_v188, Cert.ReferenceIdeal.Value.val4_main_v199, Cert.ReferenceIdeal.Value.val4_main_v200] <;> rfl
set_option maxRecDepth 8192 in
set_option maxHeartbeats 4000000 in
/-- The key of every star: its row times 512 plus its column. -/
theorem U5_v221 (h : Agree V R) : U5 V (no_index (Proc.devRef .tc main_v221)) = addi (muli (Cert.ReferenceIdeal.Value.res_main_v203 R) (broadcastInDim S256 ![] bcast_S_S256 (constantI S_ 32 512#32))) (Cert.ReferenceIdeal.Value.res_main_v218 R) := by
  unfold U5
  simp only [h4]
  after_results_simp
  try dsimp only [Matrix.cons_val]
  try after_results_simp
  simp only [(same4 h).v113, (same4 h).v170, (same4 h).v182, (same4 h).v188, (same4 h).v199, (same4 h).v200, Cert.ReferenceIdeal.Value.val4_main_v113, Cert.ReferenceIdeal.Value.val4_main_v170, Cert.ReferenceIdeal.Value.val4_main_v179, Cert.ReferenceIdeal.Value.val4_main_v188, Cert.ReferenceIdeal.Value.val4_main_v199, Cert.ReferenceIdeal.Value.val4_main_v200] <;> rfl
set_option maxRecDepth 8192 in
set_option maxHeartbeats 4000000 in
/-- The weight of every star: its filter times its magnitude. -/
theorem U5_v224 (h : Agree V R) : U5 V (no_index (Proc.devRef .tc main_v224)) = mulf (shapeCast S256 (Cert.ReferenceIdeal.Value.val4 R (Proc.devRef .tc Cert.ReferenceIdeal.main_v170)) shapeCasts_S2x128x1x1_S256) (shapeCast S256 (Cert.ReferenceIdeal.Value.val4 R (Proc.devRef .tc Cert.ReferenceIdeal.main_v113)) shapeCasts_S2x1x128x1_S256) := by
  unfold U5
  simp only [h4]
  after_results_simp
  try dsimp only [Matrix.cons_val]
  try after_results_simp
  simp only [(same4 h).v113, (same4 h).v170, (same4 h).v182, (same4 h).v188, (same4 h).v199, (same4 h).v200] <;> rfl
set_option maxRecDepth 8192 in
set_option maxHeartbeats 4000000 in
/-- The keys of the odd stars. -/
theorem U6_v244 (V : VK F) : U6 V (no_index (Proc.devRef .tc main_v244)) = Host.slice S128 ![1] ![2] (U5 V (Proc.devRef .tc main_v221)) slicesBy_S256_S128_1s2 := by
  unfold U6
  simp only [h5, TRef.nullary, TRef.unary, TRef.binary, TRef.toBuf, TRef.ofBuf, cast_eq]
  after_results_simp
  try dsimp only [Matrix.cons_val]
  try after_results_simp
  try rfl
set_option maxRecDepth 8192 in
set_option maxHeartbeats 4000000 in
/-- The weights of the odd stars. -/
theorem U6_v245 (V : VK F) : U6 V (no_index (Proc.devRef .tc main_v245)) = Host.slice S128 ![1] ![2] (U5 V (Proc.devRef .tc main_v224)) slicesBy_S256_S128_1s2 := by
  unfold U6
  simp only [h5, TRef.nullary, TRef.unary, TRef.binary, TRef.toBuf, TRef.ofBuf, cast_eq]
  after_results_simp
  try dsimp only [Matrix.cons_val]
  try after_results_simp
  try rfl
set_option maxRecDepth 8192 in
set_option maxHeartbeats 4000000 in
/-- The zeros. -/
theorem U6_v243 (V : VK F) : U6 V (no_index (Proc.devRef .tc main_v243)) = broadcastInDim S16384 ![] bcast_S_S16384 (constant S_ .f32 0x00000000#32) := by
  unfold U6
  simp only [h5, TRef.nullary, TRef.unary, TRef.binary, TRef.toBuf, TRef.ofBuf, cast_eq]
  after_results_simp
  try dsimp only [Matrix.cons_val]
  try after_results_simp
  try rfl
set_option maxRecDepth 8192 in
set_option maxHeartbeats 4000000 in
/-- The patch: the outer product of the taps with themselves, its rows padded to sixteen. -/
theorem U6_v242 (V : VK F) (R : VR F) : U6 V (no_index (Proc.devRef .tc main_v242)) = shapeCast S112 (pad S7x16 ![0, 0] ![0, 9] ![0, 0] (mulf (broadcastInDim S7x7 ![0, 1] bcast_S7x1_S7x7_0_1 (broadcastInDim S7x1 ![0] bcast_S7_S7x1_0 (Cert.ReferenceIdeal.Value.res_main_v251 R))) (broadcastInDim S7x7 ![0, 1] bcast_S1x7_S7x7_0_1 (broadcastInDim S1x7 ![1] bcast_S7_S1x7_1 (Cert.ReferenceIdeal.Value.res_main_v251 R)))) (sitofp .f32 (constantI S_ 32 0#32)) pads_S7x7_S7x16_000_090 h_S_) shapeCasts_S7x16_S112 := by
  unfold U6
  simp only [h5, TRef.nullary, TRef.unary, TRef.binary, TRef.toBuf, TRef.ofBuf, cast_eq]
  after_results_simp
  try dsimp only [Matrix.cons_val]
  try after_results_simp
  try rfl

end Cert.Sky
-- ==== Proof.Dead.lean ====
/-
  The liveness test of a star: it passes exactly when no later star of the 128 has its key.
-/
module

public import proofs.«01_k».proof.Proof.Star

@[expose] public section

noncomputable section

namespace Cert.Sky

open Cert.KernelIdeal Cert.KernelIdeal.Gen

open Idealize.ShloMosaic

variable {F : FTy → Type} [FloatOps F]

/-- The word one lane of one chunk gives: the distance back from place `p` to star `j` where the lane's key `a` is the star's, else zero. -/
def penW (j key a p : BitVec 32) : BitVec 32 := Scalar.select (IntOp.cmpi .eq a key) (j - p) 0#32

/-- The sign bit of that word is set exactly when the keys agree and the place is past the star. -/
theorem penW_msb (j p : ℕ) (hj : j < 128) (hp : p < 128) (key a : BitVec 32) :
    (penW (BitVec.ofNat 32 j) key a (BitVec.ofNat 32 p)).msb = false ↔ ¬ (a = key ∧ j < p) := by
  unfold penW
  rw [WordCmp.cmpi_eq_eq, WordCmp.select_decide]
  by_cases e : a = key
  · rw [if_pos e, BitVec.msb_eq_decide, BitVec.toNat_sub]
    simp only [BitVec.toNat_ofNat, decide_eq_false_iff_not]
    have : a = key ↔ True := iff_true_intro e
    rw [this, true_and]
    omega
  · rw [if_neg e]
    simp [e]

/-- The running unsigned minimum of a list has its top bit set exactly when the first word and every word of the list have. -/
theorem foldl_min_msb {α : Type} (v : α → BitVec 32) (l : List α) (a : BitVec 32) :
    (l.foldl (fun r k => ScanKind.min.step r (v k)) a).msb = true ↔ a.msb = true ∧ ∀ k ∈ l, (v k).msb = true := by
  induction l generalizing a with
  | nil => simp
  | cons k l ih =>
    rw [List.foldl_cons, ih]
    have : (ScanKind.min.step a (v k)).msb = true ↔ a.msb = true ∧ (v k).msb = true := by
      have e : ScanKind.min.step a (v k) = if a.ult (v k) = true then a else v k := rfl
      simp only [e, BitVec.ult_eq_decide, decide_eq_true_eq]
      by_cases hlt : a.toNat < (v k).toNat
      · rw [if_pos hlt]
        simp only [BitVec.msb_eq_decide, decide_eq_true_eq]
        omega
      · rw [if_neg hlt]
        simp only [BitVec.msb_eq_decide, decide_eq_true_eq]
        omega
    rw [this, List.forall_mem_cons, and_assoc]

/-- The or of the eight chunks' words at lane `x`. -/
def orW (j key : BitVec 32) (l : BitVec 32) (a : Fin 8 → BitVec 32) : BitVec 32 :=
  0#32 ||| penW j key (a 0) (0#32 + l) ||| penW j key (a 1) (16#32 + l) ||| penW j key (a 2) (32#32 + l) ||| penW j key (a 3) (48#32 + l)
    ||| penW j key (a 4) (64#32 + l) ||| penW j key (a 5) (80#32 + l) ||| penW j key (a 6) (96#32 + l) ||| penW j key (a 7) (112#32 + l)

/-- The sign of a lane's gathered word is clear exactly when no later star of the lane has the key. -/
theorem orW_msb (j l : ℕ) (hj : j < 128) (hl : l < 16) (key : BitVec 32) (a : Fin 8 → BitVec 32) :
    (orW (BitVec.ofNat 32 j) key (BitVec.ofNat 32 l) a).msb = false ↔ ∀ q : Fin 8, ¬ (a q = key ∧ j < 16 * q.val + l) := by
  have hs : ∀ q : ℕ, q < 8 → BitVec.ofNat 32 (16 * q) + BitVec.ofNat 32 l = BitVec.ofNat 32 (16 * q + l) := fun q _ => (BitVec.ofNat_add ..).symm
  have e := fun (q : Fin 8) => (congrArg (fun w => (penW (BitVec.ofNat 32 j) key (a q) w).msb = false) (hs q.val q.isLt)).to_iff.trans
    (penW_msb j (16 * q.val + l) hj (by have := q.isLt; omega) key (a q))
  unfold orW
  simp only [BitVec.msb_or, Bool.or_eq_false_iff]
  constructor
  · rintro ⟨⟨⟨⟨⟨⟨⟨⟨-, h0⟩, h1⟩, h2⟩, h3⟩, h4⟩, h5⟩, h6⟩, h7⟩ q
    rw [← e q]
    fin_cases q <;> assumption
  · intro h
    refine ⟨⟨⟨⟨⟨⟨⟨⟨by decide, ?_⟩, ?_⟩, ?_⟩, ?_⟩, ?_⟩, ?_⟩, ?_⟩, ?_⟩
    · exact (e 0).2 (h 0)
    · exact (e 1).2 (h 1)
    · exact (e 2).2 (h 2)
    · exact (e 3).2 (h 3)
    · exact (e 4).2 (h 4)
    · exact (e 5).2 (h 5)
    · exact (e 6).2 (h 6)
    · exact (e 7).2 (h 7)

/-- The liveness word over the words each lane gives: the minimum of the sixteen, read signed. -/
theorem deadW_eq (j key : BitVec 32) (c : Fin 8 → Vec F S16 .i32) :
    deadW (F := F) j key (c 0) (c 1) (c 2) (c 3) (c 4) (c 5) (c 6) (c 7)
      = (scan (d := S16.size) .min (fun x => orW j key ((iota .scVector S16 32 [0] iota_S16_d0_w32_scVector) x) (fun q => c q x) ^^^ 2147483648#32))
          (fun a => ⟨15, by have := Subsingleton.elim a 0; subst this; norm_num⟩) ^^^ 2147483648#32 := by
  unfold deadW extractAt
  refine (congrArg (k0_pay12 j key _ (k0_pay10 j key (c 0) (c 1) (c 2) (c 3)) (c 4) k0_pay11 (c 5) (c 6) (c 7)) (funext fun a => ?_)).trans
    (b := k0_pay12 j key (iota .scVector S16 32 [0] iota_S16_d0_w32_scVector) (k0_pay10 j key (c 0) (c 1) (c 2) (c 3)) (c 4) k0_pay11 (c 5) (c 6) (c 7)
      (fun a => ⟨15, by have := Subsingleton.elim a 0; subst this; norm_num⟩)) rfl
  have := Subsingleton.elim a 0
  subst this
  rfl

/-- The liveness test passes exactly when no lane's word has its sign bit set. -/
theorem cond2_deadW (j key : BitVec 32) (c : Fin 8 → Vec F S16 .i32) :
    k0_cond2 (deadW (F := F) j key (c 0) (c 1) (c 2) (c 3) (c 4) (c 5) (c 6) (c 7)) = 1#1
      ↔ ∀ x : S16.Idx, (orW j key (BitVec.ofNat 32 (x 0).val) (fun q => c q x)).msb = false := by
  have hx : ∀ a : BitVec 32, (a ^^^ 2147483648#32).msb = true ↔ a.msb = false := fun a => by
    rw [BitVec.msb_xor, show (2147483648#32).msb = true from by decide]; simp
  have hc : ∀ d : BitVec 32, k0_cond2 d = 1#1 ↔ d.msb = false := fun d => by
    have : k0_cond2 d = IntOp.cmpi .sge d 0#32 := ne_extui _
    rw [this, WordCmp.cmpi_sge_zero, WordCmp.ofBool_decide_eq_one_iff, BitVec.msb_eq_decide]
    simp
  rw [hc, deadW_eq]
  have hx' : ∀ a : BitVec 32, (a ^^^ 2147483648#32).msb = false ↔ a.msb = true := fun a => by
    rw [BitVec.msb_xor, show (2147483648#32).msb = true from by decide]; simp
  rw [hx']
  unfold scan
  rw [foldl_min_msb (fun k => orW j key ((iota .scVector S16 32 [0] iota_S16_d0_w32_scVector) (Shape.ofLane k)) (fun q => c q (Shape.ofLane k)) ^^^ 2147483648#32)]
  have hi : ∀ x : S16.Idx, ((orW j key ((iota .scVector S16 32 [0] iota_S16_d0_w32_scVector) x) (fun q => c q x) ^^^ 2147483648#32).msb = true)
      ↔ (orW j key (BitVec.ofNat 32 (x 0).val) (fun q => c q x)).msb = false := fun x => by rw [hx, iota_apply]
  constructor
  · rintro ⟨h0, h1⟩ x
    refine (hi x).1 ?_
    by_cases hz : (x 0).val = 0
    · have e : x = Shape.ofLane (d := S16.size) ⟨0, by norm_num⟩ := by
        funext a; have := Subsingleton.elim a 0; subst this; exact Fin.ext hz
      rw [e]; exact h0
    · have e : x = Shape.ofLane (d := S16.size) (x 0) := by
        funext a; have := Subsingleton.elim a 0; subst this; rfl
      have h := h1 (x 0) (List.mem_filter.2 ⟨List.mem_finRange _, decide_eq_true ⟨by omega, by have := lane_lt x; show (x 0).val ≤ 15; omega⟩⟩)
      rw [← e] at h
      exact h
  · intro h
    exact ⟨(hi _).2 (h _), fun k _ => (hi _).2 (h _)⟩

/-- The liveness test of star `n` passes exactly when no later star has its key. -/
theorem cond2_deadOf (n : ℕ) (hn : n < 128) (kk : Vec F S128 .i32) :
    k0_cond2 (deadOf n kk) = 1#1 ↔ ∀ m, n < m → m < 128 → kk (ix128 m) ≠ kk (ix128 n) := by
  unfold deadOf
  have h := cond2_deadW (F := F) (BitVec.ofNat 32 n) (kk (ix128 n)) (fun q : Fin 8 => chunk (16 * q.val) kk)
  refine h.trans ?_
  have hk : ∀ (q : Fin 8) (x : S16.Idx), chunk (16 * q.val) kk x = kk (ix128 (16 * q.val + (x 0).val)) := fun _ _ => rfl
  constructor
  · intro H m hm hm' e
    have := (orW_msb n (m % 16) hn (Nat.mod_lt _ (by norm_num)) (kk (ix128 n)) _).1
      (H (fun a => ⟨m % 16, by have := Subsingleton.elim a 0; subst this; exact Nat.mod_lt _ (by norm_num)⟩)) ⟨m / 16, by omega⟩
    refine this ⟨?_, by show n < 16 * (m / 16) + m % 16; omega⟩
    rw [hk]
    refine Eq.trans (congrArg (fun z => kk (ix128 z)) ?_) e
    show 16 * (m / 16) + m % 16 = m
    omega
  · intro H x
    have hl := lane_lt x
    refine (orW_msb n (x 0).val hn hl _ _).2 fun q => ?_
    rintro ⟨e, hlt⟩
    have hq := q.isLt
    exact H _ hlt (by omega) ((hk q x).symm.trans e)

end Cert.Sky

end
-- ==== Proof.StarValue.lean ====
/-
  The value of a stripe at an element, over the extended reals: what was there, and for every live star the entries of the
  patch that fall on the element.
-/
module

public import proofs.«01_k».proof.Proof.Dead
public import Idealize.ShloMosaic.Lib.IdealHost

@[expose] public section

noncomputable section

namespace Cert.Sky

open Cert.KernelIdeal Cert.KernelIdeal.Gen

open Idealize.ShloMosaic
open scoped BigOperators

/-- A fold that adds `u k` at the members of `l` where `P` holds is a sum. -/
theorem foldl_add_if {α : Type} (P : α → Prop) [DecidablePred P] (u : α → EReal) (l : List α) (a : EReal) :
    l.foldl (fun r k => if P k then r + u k else r) a = a + (l.map fun k => if P k then u k else 0).sum := by
  induction l generalizing a with
  | nil => simp
  | cons k l ih =>
    rw [List.foldl_cons, ih, List.map_cons, List.sum_cons, ← add_assoc]
    by_cases h : P k
    · rw [if_pos h, if_pos h]
    · rw [if_neg h, if_neg h, add_zero]

/-- A masked store with add into a vector of 16384, read at an element: what was there, and the values of the lanes stored at it. -/
theorem storeIdx_apply (f : Vec Ideal S16384 .f32) (idx : IVec S16 32) (v : Vec Ideal S16 .f32) (mask : IVec S16 1)
    (h : ∀ a x, ((![idx] : Fin 1 → IVec S16 32) a x).toNat < S16384.size a) (j : S16384.Idx) :
    storeIdx f ![idx] v mask true h j
      = f j + ∑ l : Fin 16, if mask (Shape.ofLane (d := S16.size) l) = 1#1 ∧ (idx (Shape.ofLane (d := S16.size) l)).toNat = (j 0).val
          then v (Shape.ofLane (d := S16.size) l) else 0 := by
  unfold storeIdx
  have e := fun (L : List (Fin 16)) => foldl_add_if (fun l : Fin 16 => mask (Shape.ofLane (d := S16.size) l) = 1#1 ∧ (idx (Shape.ofLane (d := S16.size) l)).toNat = (j 0).val)
    (fun l => v (Shape.ofLane (d := S16.size) l)) L (f j)
  refine Eq.trans ?_ ((e (List.finRange 16)).trans (congrArg (f j + ·) ?_))
  · refine (List.foldl_hom (fun r : Vec Ideal S16384 .f32 => r j) fun r l => ?_).symm
    dsimp only
    by_cases hm : mask (Shape.ofLane (d := S16.size) l) = 1
    · rw [if_pos hm]
      by_cases hi : (idx (Shape.ofLane (d := S16.size) l)).toNat = (j 0).val
      · rw [if_pos ⟨hm, hi⟩]
        have hj : ∀ a, (j a).val = (idxAt (s := S16384) ![idx] h (Shape.ofLane (d := S16.size) l) a).val := fun a => by
          have := Subsingleton.elim a 0
          subst this
          exact hi.symm
        have hj' : idxAt (s := S16384) ![idx] h (Shape.ofLane (d := S16.size) l) = j := funext fun a => Fin.ext (hj a).symm
        rw [if_pos hj, if_pos rfl, hj']
        rfl
      · rw [if_neg fun q => hi q.2, if_neg fun q => hi (q 0).symm]
    · rw [if_neg hm, if_neg fun q => hm q.1]
  · rw [← List.sum_ofFn, List.ofFn_eq_map]

/-- The row of the image a key's star is at. -/
def rowN (key : BitVec 32) : ℕ := key.toNat / 512
/-- The column of the image a key's star is at. -/
def colN (key : BitVec 32) : ℕ := key.toNat % 512

/-- What a star adds to the image at row `r` and column `c`: the entry of the scaled patch that falls there, if one does. -/
def starAdd (key : BitVec 32) (w : EReal) (gg : Vec Ideal S112 .f32) (r c : ℕ) : EReal :=
  ∑ d : Fin 7, ∑ l : Fin 7, if rowN key + d.val = r + 3 ∧ colN key + l.val = c + 3
    then w * gg (fun a => ⟨16 * d.val + l.val, by have := Subsingleton.elim a 0; subst this; have := d.isLt; have := l.isLt; show _ < 112; omega⟩) else 0

/-- A tile's first row, as a number. -/
theorem baseW_toNat (i : grid0.Coords) : (baseW i).toNat = ((i 1).val + (i 0).val * 16) * 32 := by
  have h0 : (i 0).val < 1 := (i 0).isLt
  have h1 : (i 1).val < 16 := (i 1).isLt
  show ((BitVec.ofNat 32 (i 1).val + BitVec.ofNat 32 (i 0).val * 16#32) * 32#32).toNat = _
  simp only [BitVec.toNat_add, BitVec.toNat_mul, BitVec.toNat_ofNat]
  omega

/-- The low nine bits of a key are its column. -/
theorem col_eq (key : BitVec 32) : (Scalar.andi key 511#32).toNat = colN key := by
  show (key &&& 511#32).toNat = _
  rw [BitVec.toNat_and]
  exact Nat.and_two_pow_sub_one_eq_mod key.toNat 9

/-- The rest of a key is its row. -/
theorem shr_eq (key : BitVec 32) (hk : key.toNat < 2 ^ 18) : (Scalar.shrsi key 9#32).toNat = rowN key := by
  show (key.sshiftRight _).toNat = _
  rw [BitVec.sshiftRight_eq_of_msb_false (by rw [BitVec.msb_eq_decide, decide_eq_false_iff_not]; omega)]
  rw [BitVec.toNat_ushiftRight]
  exact Nat.shiftRight_eq_div_pow key.toNat 9

/-- A row word below 32 is the row of the image, past the first row of the stripe. -/
theorem rowW_iff (i : grid0.Coords) (key : BitVec 32) (hk : key.toNat < 2 ^ 18) (d : ℕ) (hd : d < 7) (q : ℕ) (hq : q < 32) :
    (rowW i key (BitVec.ofNat 32 d)).toNat = q ↔ rowN key + d = ((i 1).val + (i 0).val * 16) * 32 + q + 3 := by
  have h0 : (i 0).val < 1 := (i 0).isLt
  have h1 : (i 1).val < 16 := (i 1).isLt
  have hr : rowN key < 512 := by unfold rowN; omega
  show (((Scalar.shrsi key 9#32 - baseW i) - 3#32) + BitVec.ofNat 32 d).toNat = q ↔ _
  have hb := baseW_toNat i
  have hs := shr_eq key hk
  simp only [BitVec.toNat_add, BitVec.toNat_sub, BitVec.toNat_ofNat, hb, hs]
  omega

/-- A stripe's element `j` after row `d` of the patch is stored into it. -/
theorem rowVal_apply (i : grid0.Coords) (key : BitVec 32) (hk : key.toNat < 2 ^ 18) (d : Fin 7) (w : EReal) (gg : Vec Ideal S112 .f32)
    (f : Vec Ideal S16384 .f32) (j : S16384.Idx) :
    rowVal (F := Ideal) i key d.val w gg f j
      = f j + ∑ l : Fin 7, if rowN key + d.val = ((i 1).val + (i 0).val * 16) * 32 + (j 0).val / 512 + 3 ∧ colN key + l.val = (j 0).val % 512 + 3
          then w * gg (fun a => ⟨16 * d.val + l.val, by have := Subsingleton.elim a 0; subst this; have := d.isLt; have := l.isLt; show _ < 112; omega⟩) else 0 := by
  have hj : (j 0).val < 16384 := (j 0).isLt
  have hd := d.isLt
  have hcol : colN key < 512 := by unfold colN; omega
  unfold rowVal
  by_cases hr : rowC i key (BitVec.ofNat 32 d.val) = 1#1
  · rw [dif_pos hr, storeIdx_apply]
    congr 1
    have hr' := (rowC_eq_one i key _).1 hr
    have hiff := fun q hq => rowW_iff i key hk d.val hd q hq
    have hrow := (hiff _ hr').1 rfl
    have hl : ∀ l : Fin 16, (k0_pay3 (Scalar.andi key 511#32) (Shape.ofLane (d := S16.size) l) = 1#1
        ∧ (skyIdx i key (BitVec.ofNat 32 d.val) (Shape.ofLane (d := S16.size) l)).toNat = (j 0).val)
        ↔ l.val < 7 ∧ rowN key + d.val = ((i 1).val + (i 0).val * 16) * 32 + (j 0).val / 512 + 3 ∧ colN key + l.val = (j 0).val % 512 + 3 := fun l => by
      have hx : ((Shape.ofLane (d := S16.size) l) 0).val = l.val := rfl
      constructor
      · rintro ⟨hm, hi⟩
        rw [skyIdx_toNat i key _ hr _ hm, col_eq, hx] at hi
        have h3 := (pay3_eq_one _ (col_lt key) _).1 hm
        rw [col_eq, hx] at h3
        refine ⟨by omega, ?_, by omega⟩
        rw [hrow]; omega
      · rintro ⟨h7, h1, h2⟩
        have hm : k0_pay3 (Scalar.andi key 511#32) (Shape.ofLane (d := S16.size) l) = 1#1 := by
          rw [pay3_eq_one _ (col_lt key), col_eq, hx]; omega
        refine ⟨hm, ?_⟩
        rw [skyIdx_toNat i key _ hr _ hm, col_eq, hx]
        omega
    refine Eq.trans (Finset.sum_congr rfl fun l _ => if_congr (hl l) rfl rfl) ?_
    refine (Fin.sum_univ_add (a := 7) (b := 9) _).trans ?_
    refine (congrArg₂ (· + ·) (Finset.sum_congr rfl fun l _ => ?_) (Finset.sum_eq_zero fun l _ => if_neg fun q => ?_)).trans (add_zero _)
    · have hl7 : l.val < 7 := l.isLt
      refine if_congr (and_iff_right hl7) ?_ rfl
      show w * gg _ = w * gg _
      congr 2
      funext a
      have := Subsingleton.elim a 0
      subst this
      refine Fin.ext ?_
      show (16 * d.val + l.val) % 112 = 16 * d.val + l.val
      omega
    · have h7 : 7 + l.val < 7 := q.1
      omega
  · rw [dif_neg hr]
    rw [rowC_eq_one] at hr
    refine (Eq.trans (congrArg (f j + ·) (Finset.sum_eq_zero fun l _ => if_neg fun q => ?_)) (add_zero _)).symm
    have := (rowW_iff i key hk d.val hd ((j 0).val / 512) (by omega)).2 q.1
    omega

/-- A stripe's element `j` after the seven rows of the patch are stored into it. -/
theorem rowsVal_apply (i : grid0.Coords) (key : BitVec 32) (hk : key.toNat < 2 ^ 18) (w : EReal) (gg : Vec Ideal S112 .f32)
    (f : Vec Ideal S16384 .f32) (j : S16384.Idx) :
    rowsVal (F := Ideal) i key w gg f j
      = f j + starAdd key w gg (((i 1).val + (i 0).val * 16) * 32 + (j 0).val / 512) ((j 0).val % 512) := by
  unfold rowsVal starAdd
  have e := fun d f => rowVal_apply i key hk d w gg f j
  rw [Fin.sum_univ_seven]
  simp only [← add_assoc]
  refine (e 6 _).trans (congrArg (· + _) ((e 5 _).trans (congrArg (· + _) ((e 4 _).trans (congrArg (· + _) ((e 3 _).trans (congrArg (· + _)
    ((e 2 _).trans (congrArg (· + _) ((e 1 _).trans (congrArg (· + _) (e 0 _))))))))))))

/-- The star's rows are near the stripe: what the hit test asks. -/
theorem cond1_of_row (i : grid0.Coords) (key : BitVec 32) (hk : key.toNat < 2 ^ 18)
    (h1 : ((i 1).val + (i 0).val * 16) * 32 ≤ rowN key + 3) (h2 : rowN key < ((i 1).val + (i 0).val * 16) * 32 + 35) : k0_cond1 i key = 1#1 := by
  have h0' : (i 0).val < 1 := (i 0).isLt
  have h1' : (i 1).val < 16 := (i 1).isLt
  have e : k0_cond1 i key = IntOp.andi (IntOp.cmpi .sge (Scalar.shrsi key 9#32 + 3#32) (baseW i))
      (IntOp.cmpi .slt (Scalar.shrsi key 9#32 - 3#32) (baseW i + 32#32)) := ne_extui _
  have hb := baseW_toNat i
  have hs := shr_eq key hk
  have hr : rowN key < 512 := by unfold rowN; omega
  rw [e, WordCmp.cmpi_sge_eq, WordCmp.cmpi_slt_eq, WordCmp.andi_ofBool, WordCmp.ofBool_eq_one_iff, Bool.and_eq_true, decide_eq_true_eq, decide_eq_true_eq]
  generalize Scalar.shrsi key 9#32 = s at *
  generalize baseW i = b at *
  simp only [BitVec.toInt_eq_toNat_cond, BitVec.toNat_add, BitVec.toNat_sub, BitVec.toNat_ofNat]
  rw [hs, hb]
  constructor <;> split <;> split <;> omega

/-- What star `n` adds to the image at row `r` and column `c`: nothing when a later star has its key. -/
def liveAdd (kk : Vec Ideal S128 .i32) (ff : Vec Ideal S128 .f32) (gg : Vec Ideal S112 .f32) (r c n : ℕ) : EReal :=
  open Classical in if ∀ m, n < m → m < 128 → kk (ix128 m) ≠ kk (ix128 n) then starAdd (kk (ix128 n)) (ff (ix128 n)) gg r c else 0

/-- A star whose rows are not near the stripe adds nothing to it. -/
theorem starAdd_far (i : grid0.Coords) (key : BitVec 32) (hk : key.toNat < 2 ^ 18) (w : EReal) (gg : Vec Ideal S112 .f32) (q c : ℕ) (hq : q < 32)
    (h : ¬ k0_cond1 i key = 1#1) : starAdd key w gg (((i 1).val + (i 0).val * 16) * 32 + q) c = 0 := by
  unfold starAdd
  refine Finset.sum_eq_zero fun d _ => Finset.sum_eq_zero fun l _ => if_neg fun p => h (cond1_of_row i key hk ?_ ?_)
  · have := d.isLt; omega
  · have := d.isLt; omega

/-- A stripe's element `j` after the trip of star `n`. -/
theorem starVal_apply (i : grid0.Coords) (kk : Vec Ideal S128 .i32) (ff : Vec Ideal S128 .f32) (gg : Vec Ideal S112 .f32)
    (hk : ∀ n, (kk (ix128 n)).toNat < 2 ^ 18) (n : ℕ) (hn : n < 128) (f : Vec Ideal S16384 .f32) (j : S16384.Idx) :
    starVal (F := Ideal) i kk ff gg n f j
      = f j + liveAdd kk ff gg (((i 1).val + (i 0).val * 16) * 32 + (j 0).val / 512) ((j 0).val % 512) n := by
  have hj : (j 0).val < 16384 := (j 0).isLt
  unfold starVal liveAdd
  by_cases h1 : k0_cond1 i (kk (ix128 n)) = 1#1
  · rw [if_pos h1]
    by_cases h2 : k0_cond2 (deadOf (F := Ideal) n kk) = 1#1
    · rw [if_pos h2, if_pos ((cond2_deadOf n hn kk).1 h2), rowsVal_apply i _ (hk n)]
    · rw [if_neg h2, if_neg fun q => h2 ((cond2_deadOf n hn kk).2 q), add_zero]
  · rw [if_neg h1, starAdd_far i _ (hk n) _ _ _ _ (by omega) h1, ite_self, add_zero]

/-- A stripe's element `j` after the trips of the `k` stars from star `b` on. -/
theorem starsVal_apply (i : grid0.Coords) (kk : Vec Ideal S128 .i32) (ff : Vec Ideal S128 .f32) (gg : Vec Ideal S112 .f32)
    (hk : ∀ n, (kk (ix128 n)).toNat < 2 ^ 18) (b k : ℕ) (hb : b + k ≤ 128) (f : Vec Ideal S16384 .f32) (j : S16384.Idx) :
    starsVal (F := Ideal) i kk ff gg b f k j
      = f j + ∑ n ∈ Finset.range k, liveAdd kk ff gg (((i 1).val + (i 0).val * 16) * 32 + (j 0).val / 512) ((j 0).val % 512) (b + n) := by
  induction k with
  | zero => simp [starsVal]
  | succ k ih =>
    rw [starsVal, starVal_apply i kk ff gg hk _ (by omega), ih (by omega), Finset.sum_range_succ, add_assoc]

end Cert.Sky

end
-- ==== Proof.RefOps.lean ====
/-
  The reference's scatter and its two gathers, read at an element.
-/
module

public import proofs.«01_k».proof.Proof.Gen.ReferenceIdeal.Run
public import Idealize.ShloMosaic.Lib.Routing.OpsPair
public import Idealize.ShloMosaic.Lib.Pointwise

@[expose] public section

noncomputable section

namespace Cert.Sky

open Cert.ReferenceIdeal Cert.ReferenceIdeal.Gen

open Idealize.ShloMosaic Idealize.ShloMosaic.Routing

/-- The update at `(k, j)` of the reference's scatter lands in image `k`, at the pixel that index row `j` names. -/
theorem scatter_lands (k k' j : Fin 256) (r c : Fin 512) (idx : IVec S256x2 32) :
    scatter_S256x512x512_S256x2_S256x256_0_12_12_1.resultIdx? (ix2 k j) idx = some (ix3 k' r c)
      ↔ k = k' ∧ (idx (ix2 j (0 : Fin 2))).toInt = r.val ∧ (idx (ix2 j (1 : Fin 2))).toInt = c.val := by
  rw [resultIdx?_eq_some]
  have h0 : scatter_S256x512x512_S256x2_S256x256_0_12_12_1.start (ix2 k j) idx (0 : Fin 3) = 0 := rfl
  have hi : ∀ (q : Fin 2), (fun b : Fin 2 => (ix2 j q : S256x2.Idx) b) = ix2 j q := fun _ => rfl
  have h1 : scatter_S256x512x512_S256x2_S256x256_0_12_12_1.start (ix2 k j) idx (1 : Fin 3) = (idx (ix2 j (0 : Fin 2))).toInt :=
    congrArg (fun z => (idx z).toInt) (funext fun b => by match b with | ⟨0, _⟩ => rfl | ⟨1, _⟩ => rfl)
  have h2 : scatter_S256x512x512_S256x2_S256x256_0_12_12_1.start (ix2 k j) idx (2 : Fin 3) = (idx (ix2 j (1 : Fin 2))).toInt :=
    congrArg (fun z => (idx z).toInt) (funext fun b => by match b with | ⟨0, _⟩ => rfl | ⟨1, _⟩ => rfl)
  have w0 : scatter_S256x512x512_S256x2_S256x256_0_12_12_1.window (ix2 k j) (0 : Fin 3) = k.val := rfl
  have w1 : scatter_S256x512x512_S256x2_S256x256_0_12_12_1.window (ix2 k j) (1 : Fin 3) = 0 := rfl
  have w2 : scatter_S256x512x512_S256x2_S256x256_0_12_12_1.window (ix2 k j) (2 : Fin 3) = 0 := rfl
  constructor
  · intro h
    have a0 := h (0 : Fin 3)
    have a1 := h (1 : Fin 3)
    have a2 := h (2 : Fin 3)
    rw [h0, w0] at a0
    rw [h1, w1] at a1
    rw [h2, w2] at a2
    change (0 : Int) + (k.val : Int) = (k'.val : Int) at a0
    change _ = (r.val : Int) at a1
    change _ = (c.val : Int) at a2
    exact ⟨Fin.ext (by omega), by omega, by omega⟩
  · rintro ⟨e, e1, e2⟩ a
    subst e
    match a with
    | ⟨0, _⟩ => exact (congrArg₂ (fun (x : Int) (y : ℕ) => x + (y : Int)) h0 w0).trans (Int.zero_add _)
    | ⟨1, _⟩ => exact (congrArg₂ (fun (x : Int) (y : ℕ) => x + (y : Int)) h1 w1).trans ((Int.add_zero _).trans e1)
    | ⟨2, _⟩ => exact (congrArg₂ (fun (x : Int) (y : ℕ) => x + (y : Int)) h2 w2).trans ((Int.add_zero _).trans e2)

/-- The first gather takes rows: at `(b, R, y, C)` the operand's row that the index at `(R, y)` names. -/
theorem gather_rows {α : Type} (x : S2x518x518.Idx → α) (idx : IVec S512x7x1 32) (b : Fin 2) (R : Fin 512) (y : Fin 7) (C p : Fin 518)
    (hp : idx (ix3 R y (0 : Fin 1)) = BitVec.ofNat 32 p.val) :
    Host.gather gather_S2x518x518_S512x7x1_S2x512x7x518_03_1_n_n_1_2_21518 x idx (ix4 b R y C) = x (ix3 b p C) := by
  unfold Host.gather
  refine congrArg x (funext fun a => Fin.ext ?_)
  match a with
  | ⟨0, _⟩ => exact (show 0 + 0 + b.val = b.val by omega)
  | ⟨1, _⟩ =>
    have e : (gather_S2x518x518_S512x7x1_S2x512x7x518_03_1_n_n_1_2_21518.operandIdx (ix4 b R y C) idx (1 : Fin 3)).val
        = min (idx (ix3 R y (0 : Fin 1))).toInt.toNat 517 :=
      congrArg (fun z => min (idx z).toInt.toNat 517) (funext fun b => by match b with | ⟨0, _⟩ => rfl | ⟨1, _⟩ => rfl | ⟨2, _⟩ => rfl)
    have hl := p.isLt
    refine e.trans ?_
    rw [hp, WordCmp.toInt_ofNat_of_lt (by omega)]
    show min p.val 517 = p.val
    omega
  | ⟨2, _⟩ => exact (show 0 + 0 + C.val = C.val by omega)

/-- The second gather takes columns: at `(b, R, y, C, z)` the operand's column that the index at `(C, z)` names. -/
theorem gather_cols {α : Type} (x : S2x512x7x518.Idx → α) (idx : IVec S512x7x1 32) (b : Fin 2) (R : Fin 512) (y : Fin 7) (C : Fin 512) (z : Fin 7)
    (p : Fin 518) (hp : idx (ix3 C z (0 : Fin 1)) = BitVec.ofNat 32 p.val) :
    Host.gather gather_S2x512x7x518_S512x7x1_S2x512x7x512x7_012_3_n_n_3_2_251271 x idx (ix5 b R y C z) = x (ix4 b R y p) := by
  unfold Host.gather
  refine congrArg x (funext fun a => Fin.ext ?_)
  match a with
  | ⟨0, _⟩ => exact (show 0 + 0 + b.val = b.val by omega)
  | ⟨1, _⟩ => exact (show 0 + 0 + R.val = R.val by omega)
  | ⟨2, _⟩ => exact (show 0 + 0 + y.val = y.val by omega)
  | ⟨3, _⟩ =>
    have e : (gather_S2x512x7x518_S512x7x1_S2x512x7x512x7_012_3_n_n_3_2_251271.operandIdx (ix5 b R y C z) idx (3 : Fin 4)).val
        = min (idx (ix3 C z (0 : Fin 1))).toInt.toNat 517 :=
      congrArg (fun z => min (idx z).toInt.toNat 517) (funext fun b => by match b with | ⟨0, _⟩ => rfl | ⟨1, _⟩ => rfl | ⟨2, _⟩ => rfl)
    have hl := p.isLt
    refine e.trans ?_
    rw [hp, WordCmp.toInt_ofNat_of_lt (by omega)]
    show min p.val 517 = p.val
    omega

end Cert.Sky

end
-- ==== Proof.RefValue.lean ====
/-
  The reference's result at a pixel, as sums over the extended reals.
-/
module

public import proofs.«01_k».proof.Proof.RefOps
public import Idealize.ShloMosaic.Lib.IdealHost
public import Idealize.ShloMosaic.Lib.Pointwise
public import Idealize.ShloMosaic.Lib.Tactic.CleanTypes

@[expose] public section

noncomputable section

namespace Cert.Sky

open Cert.ReferenceIdeal Cert.ReferenceIdeal.Gen Cert.ReferenceIdeal.Value

open Idealize.ShloMosaic Idealize.ShloMosaic.Routing
open scoped BigOperators

/-- An index, wrapped once from the end if it is negative. -/
def wrapOf (X : IVec S256 32) : IVec S256 32 :=
  select (cmpi .slt X (broadcastInDim S256 ![] bcast_S_S256 (constantI S_ 32 0#32))) (addi X (broadcastInDim S256 ![] bcast_S_S256 (constantI S_ 32 512#32))) X

/-- The pairs of index words of the stars' pixels. -/
def idxOf (X Y : IVec S256 32) : IVec S256x2 32 :=
  concatenate S256x2 1 [⟨S256x1, broadcastInDim S256x1 ![0] bcast_S256_S256x1_0 (wrapOf X)⟩, ⟨S256x1, broadcastInDim S256x1 ![0] bcast_S256_S256x1_0 (wrapOf Y)⟩]
    concatenates_S256x1_S256x1_S256x2_d1

/-- The magnitudes on the diagonal of a square of zeros. -/
def diagOf (M : FVec Ideal S256 .f32) : FVec Ideal S256x256 .f32 :=
  select (cmpi .eq (addi (iotaInDim S256x256 32 0) (broadcastInDim S256x256 ![] bcast_S_S256x256 (constantI S_ 32 0#32))) (iotaInDim S256x256 32 1))
    (broadcastInDim S256x256 ![0, 1] bcast_S256x1_S256x256_0_1 (broadcastInDim S256x1 ![0] bcast_S256_S256x1_0
      (pad S256 ![0] ![0] ![0] M (constant S_ .f32 0x00000000#32) pads_S256_S256_000 h_S_)))
    (broadcastInDim S256x256 ![] bcast_S_S256x256 (constant S_ .f32 0x00000000#32))

/-- The stars' images: star `k`'s holds its magnitude at its pixel, where no later star has that pixel. -/
def bgOf (X Y : IVec S256 32) (M : FVec Ideal S256 .f32) : FVec Ideal S256x512x512 .f32 :=
  Host.scatter scatter_S256x512x512_S256x2_S256x256_0_12_12_1 (fun _ b => b) (broadcastInDim S256x512x512 ![] bcast_S_S256x512x512 (constant S_ .f32 0x00000000#32))
    (idxOf X Y) (diagOf M)

/-- The images weighted and added up. -/
def fieldOf (W : FVec Ideal S2x128x1x1 .f32) (bg : FVec Ideal S256x512x512 .f32) : FVec Ideal S2x512x512 .f32 :=
  shapeCast _ (broadcastInDim S2x1x512x512 ![0, 2, 3] bcast_S2x512x512_S2x1x512x512_0_2_3 (Host.reduceAdd (mulf
    (broadcastInDim S2x128x512x512 ![0, 1, 2, 3] bcast_S2x128x1x1_S2x128x512x512_0_1_2_3 W) (shapeCast _ bg shapeCasts_S256x512x512_S2x128x512x512))
    (constant S_ .f32 0x00000000#32) reducesTo_S2x128x512x512_S2x512x512_d1 h_S_)) shapeCasts_S2x1x512x512_S2x512x512

/-- The index words of the windows' rows. -/
def winOf : IVec S512x7x1 32 :=
  broadcastInDim S512x7x1 ![0, 1] bcast_S512x7_S512x7x1_0_1 (select (cmpi .slt (addi (broadcastInDim S512x7 ![0, 1] bcast_S512x1_S512x7_0_1 (broadcastInDim S512x1 ![0] bcast_S512_S512x1_0 (iotaInDim S512 32 0))) (broadcastInDim S512x7 ![0, 1] bcast_S1x7_S512x7_0_1 (broadcastInDim S1x7 ![1] bcast_S7_S1x7_1 (iotaInDim S7 32 0)))) (broadcastInDim S512x7 ![] bcast_S_S512x7 (constantI S_ 32 0#32)))
    (addi (addi (broadcastInDim S512x7 ![0, 1] bcast_S512x1_S512x7_0_1 (broadcastInDim S512x1 ![0] bcast_S512_S512x1_0 (iotaInDim S512 32 0))) (broadcastInDim S512x7 ![0, 1] bcast_S1x7_S512x7_0_1 (broadcastInDim S1x7 ![1] bcast_S7_S1x7_1 (iotaInDim S7 32 0)))) (broadcastInDim S512x7 ![] bcast_S_S512x7 (constantI S_ 32 518#32)))
    (addi (broadcastInDim S512x7 ![0, 1] bcast_S512x1_S512x7_0_1 (broadcastInDim S512x1 ![0] bcast_S512_S512x1_0 (iotaInDim S512 32 0))) (broadcastInDim S512x7 ![0, 1] bcast_S1x7_S512x7_0_1 (broadcastInDim S1x7 ![1] bcast_S7_S1x7_1 (iotaInDim S7 32 0)))))

/-- The image with three zeros put around it. -/
def padOf (fd : FVec Ideal S2x512x512 .f32) : FVec Ideal S2x518x518 .f32 :=
  pad S2x518x518 ![0, 3, 3] ![0, 3, 3] ![0, 0, 0] fd (sitofp .f32 (constantI S_ 32 0#32)) pads_S2x512x512_S2x518x518_000_330_330 h_S_

/-- Every pixel's seven-by-seven window. -/
def winsOf (pf : FVec Ideal S2x518x518 .f32) : FVec Ideal S2x512x7x512x7 .f32 :=
  Host.gather gather_S2x512x7x518_S512x7x1_S2x512x7x512x7_012_3_n_n_3_2_251271 (Host.gather gather_S2x518x518_S512x7x1_S2x512x7x518_03_1_n_n_1_2_21518 pf winOf) winOf

/-- The square of the blur's weights. -/
def squareOf (k1 : FVec Ideal S7 .f32) : FVec Ideal S7x7 .f32 :=
  mulf (broadcastInDim S7x7 ![0, 1] bcast_S7x1_S7x7_0_1 (broadcastInDim S7x1 ![0] bcast_S7_S7x1_0 k1)) (broadcastInDim S7x7 ![0, 1] bcast_S1x7_S7x7_0_1 (broadcastInDim S1x7 ![1] bcast_S7_S1x7_1 k1))

/-- The windows weighted and added up. -/
def blurOf (ws : FVec Ideal S2x512x7x512x7 .f32) (k1 : FVec Ideal S7 .f32) : FVec Ideal S2x1x512x512 .f32 :=
  shapeCast _ (Host.reduceAdd (mulf ws (broadcastInDim S2x512x7x512x7 ![0, 1, 2, 3, 4] bcast_S1x1x7x1x7_S2x512x7x512x7_0_1_2_3_4 (shapeCast _ (squareOf k1) shapeCasts_S7x7_S1x1x7x1x7)))
    (constant S_ .f32 0x00000000#32) reducesTo_S2x512x7x512x7_S2x512x512_d2_4 h_S_) shapeCasts_S2x512x512_S2x1x512x512

/-- The contents of the reference's buffers, over the reals. -/
abbrev VRI : Type := Valuation τ sig (Elt Ideal)

/-- The stars' rows. -/
def rowX (V : VRI) : IVec S256 32 := res_main_v203 V
/-- The stars' columns. -/
def colY (V : VRI) : IVec S256 32 := res_main_v218 V
/-- The stars' weights. -/
def filtW (V : VRI) : FVec Ideal S2x128x1x1 .f32 := val4 V (Proc.devRef .tc main_v170)
/-- The stars' magnitudes. -/
def magM (V : VRI) : FVec Ideal S256 .f32 := shapeCast _ (val4 V (Proc.devRef .tc main_v113)) shapeCasts_S2x1x128x1_S256
/-- The blur's weights along one axis. -/
def blurK (V : VRI) : FVec Ideal S7 .f32 := res_main_v251 V
/-- The reference's result. -/
def skyR (V : VRI) : FVec Ideal S2x1x512x512 .f32 := val6 V (Proc.devRef .tc main_v284)

set_option maxRecDepth 8192 in
/-- The reference's result, step by step. -/
theorem ref_eq (V : VRI) : skyR V = blurOf (winsOf (padOf (fieldOf (filtW V) (bgOf (rowX V) (colY V) (magM V))))) (blurK V) := by
  unfold skyR filtW magM
  rw [val6_main_v284, val4_main_v170, val4_main_v113]
  rfl

/-- The diagonal's entry. -/
theorem diagOf_apply (M : FVec Ideal S256 .f32) (k j : Fin 256) : diagOf M (ix2 k j) = if k = j then M (ix1 k) else 0 := by
  pointwise [diagOf]
  rw [WordCmp.cmpi_eq_eq, WordCmp.select_decide]
  refine if_congr ?_ rfl rfl
  have e : IntOp.addi (BitVec.ofNat 32 k.val) 0#32 = BitVec.ofNat 32 k.val := BitVec.add_zero _
  rw [e, WordCmp.ofNat_eq_ofNat_iff (by omega) (by omega)]
  exact Fin.ext_iff.symm

/-- The first index of a star is its row. -/
theorem idxOf_zero (X Y : IVec S256 32) (j : Fin 256) : idxOf X Y (ix2 j (0 : Fin 2)) = wrapOf X (ix1 j) := by
  pointwise [idxOf]
/-- The second index of a star is its column. -/
theorem idxOf_one (X Y : IVec S256 32) (j : Fin 256) : idxOf X Y (ix2 j (1 : Fin 2)) = wrapOf Y (ix1 j) := by
  pointwise [idxOf]

/-- An index inside the image is left as it is. -/
theorem wrapOf_apply (X : IVec S256 32) (j : Fin 256) (h : (X (ix1 j)).toNat < 512) : wrapOf X (ix1 j) = X (ix1 j) :=
  wrap_of_lt _ _ (by omega)

/-- A fold that sets at the members of a list where `P` holds ends at the value of the last of them. -/
theorem foldl_last {α β : Type} (P : β → Prop) [DecidablePred P] (u : β → α) (l : List β) (a : α) :
    l.foldl (fun r n => if P n then u n else r) a = ((l.filter P).getLast?.map u).getD a := by
  induction l using List.reverseRecOn with
  | nil => rfl
  | append_singleton l n ih =>
    rw [List.foldl_append, List.filter_append]
    by_cases h : P n
    · simp [h]
    · simp [h, ih]

/-- Of an ascending list, the last member where `P` holds is the greatest. -/
theorem getLast_filter {N : ℕ} (P : Fin N → Prop) [DecidablePred P] (n : Fin N) (hn : P n) (h : ∀ m, n < m → ¬ P m) :
    ((List.finRange N).filter P).getLast? = some n := by
  have hs : ((List.finRange N).filter P).Pairwise (· < ·) := (List.pairwise_lt_finRange N).filter _
  have hm : n ∈ (List.finRange N).filter P := List.mem_filter.2 ⟨List.mem_finRange _, decide_eq_true hn⟩
  have hne : (List.finRange N).filter P ≠ [] := List.ne_nil_of_mem hm
  rw [List.getLast?_eq_some_getLast hne]
  refine congrArg some ?_
  have hl := List.getLast_mem hne
  have hP : P (((List.finRange N).filter P).getLast hne) := of_decide_eq_true (List.mem_filter.1 hl).2
  rcases lt_trichotomy n (((List.finRange N).filter P).getLast hne) with q | q | q
  · exact absurd hP (h _ q)
  · exact q.symm
  · exfalso
    obtain ⟨i, hi, e⟩ := List.getElem_of_mem hm
    rw [List.getLast_eq_getElem] at q
    rcases Nat.lt_or_ge i (((List.finRange N).filter P).length - 1) with q' | q'
    · have := List.pairwise_iff_getElem.1 hs i _ hi (by omega) q'
      rw [e] at this
      exact lt_asymm this q
    · have : i = ((List.finRange N).filter P).length - 1 := by omega
      subst this
      rw [e] at q
      exact lt_irrefl _ q

/-- Star `j` is at pixel `(r, c)`. -/
def At (X Y : IVec S256 32) (r c : Fin 512) (j : Fin 256) : Prop := (X (ix1 j)).toNat = r.val ∧ (Y (ix1 j)).toNat = c.val

/-- An element of star `k`'s image: its magnitude at its pixel, where no later star has that pixel. -/
theorem bgOf_apply (X Y : IVec S256 32) (M : FVec Ideal S256 .f32) (hX : ∀ j, (X (ix1 j)).toNat < 512) (hY : ∀ j, (Y (ix1 j)).toNat < 512)
    (k : Fin 256) (r c : Fin 512) :
    bgOf X Y M (ix3 k r c) = open Classical in if At X Y r c k ∧ ∀ j, k < j → ¬ At X Y r c j then M (ix1 k) else 0 := by
  classical
  have hl : ∀ k' j : Fin 256, scatter_S256x512x512_S256x2_S256x256_0_12_12_1.resultIdx? (ix2 k' j) (idxOf X Y) = some (ix3 k r c) ↔ k' = k ∧ At X Y r c j := by
    intro k' j
    have h1 := hX j
    have h2 := hY j
    rw [scatter_lands, idxOf_zero, idxOf_one, wrapOf_apply X j h1, wrapOf_apply Y j h2, WordCmp.toInt_eq_toNat_of_lt_half (by omega),
      WordCmp.toInt_eq_toNat_of_lt_half (by omega)]
    unfold At
    omega
  have hsym : ∀ n : Fin S256x256.numel, S256x256.rowMajor.symm n = ix2 (⟨n.val / 256, by have : n.val < 65536 := n.isLt; omega⟩ : Fin 256) (⟨n.val % 256, Nat.mod_lt _ (by norm_num)⟩ : Fin 256) :=
    fun n => symm22 n _ _
  unfold bgOf
  rw [scatter_at, foldl_last]
  by_cases hex : ∃ j, At X Y r c j
  · obtain ⟨J, hJ, hJ'⟩ : ∃ J, At X Y r c J ∧ ∀ j, J < j → ¬ At X Y r c j := by
      obtain ⟨J, hJ, hm⟩ := Finset.exists_max_image (Finset.univ.filter (At X Y r c)) id (by obtain ⟨j, hj⟩ := hex; exact ⟨j, by simpa using hj⟩)
      exact ⟨J, (Finset.mem_filter.1 hJ).2, fun j hj hP => absurd (hm j (by simpa using hP)) (not_le.2 hj)⟩
    have hN : 256 * k.val + J.val < S256x256.numel := by show _ < 65536; omega
    rw [getLast_filter _ (⟨256 * k.val + J.val, hN⟩ : Fin S256x256.numel)]
    · show diagOf M (S256x256.rowMajor.symm _) = _
      rw [hsym]
      refine (diagOf_apply M _ _).trans ?_
      have ek : (⟨(256 * k.val + J.val) / 256, by omega⟩ : Fin 256) = k := Fin.ext (by show (256 * k.val + J.val) / 256 = k.val; omega)
      have eJ : (⟨(256 * k.val + J.val) % 256, by omega⟩ : Fin 256) = J := Fin.ext (by show (256 * k.val + J.val) % 256 = J.val; omega)
      rw [ek, eJ]
      refine if_congr ⟨fun e => e ▸ ⟨hJ, hJ'⟩, fun e => ?_⟩ rfl rfl
      rcases lt_trichotomy k J with q | q | q
      · exact absurd hJ (e.2 J q)
      · exact q
      · exact absurd e.1 (hJ' k q)
    · rw [hsym, hl]
      refine ⟨Fin.ext (by show (256 * k.val + J.val) / 256 = k.val; omega), ?_⟩
      have eJ : (⟨(256 * k.val + J.val) % 256, by omega⟩ : Fin 256) = J := Fin.ext (by show (256 * k.val + J.val) % 256 = J.val; omega)
      exact (congrArg (At X Y r c) eJ).mpr hJ
    · intro m hm
      rw [hsym, hl]
      rintro ⟨e, hA⟩
      have e' : m.val / 256 = k.val := congrArg Fin.val e
      have hm' : 256 * k.val + J.val < m.val := hm
      exact hJ' _ (by show J.val < m.val % 256; omega) hA
  · have : (List.finRange S256x256.numel).filter (fun n => decide (scatter_S256x512x512_S256x2_S256x256_0_12_12_1.resultIdx? (S256x256.rowMajor.symm n) (idxOf X Y) = some (ix3 k r c))) = [] := by
      refine List.filter_eq_nil_iff.2 fun n _ => ?_
      rw [decide_eq_true_eq, hsym, hl]
      exact fun q => hex ⟨_, q.2⟩
    rw [this, if_neg fun q => hex ⟨k, q.1⟩]
    show broadcastInDim S256x512x512 ![] bcast_S_S256x512x512 (constant (F := Ideal) S_ .f32 0x00000000#32) (ix3 k r c) = 0
    pointwise []

/-- The field is the weighted sum of the images of its stars. -/
theorem fieldOf_apply (W : FVec Ideal S2x128x1x1 .f32) (bg : FVec Ideal S256x512x512 .f32) (b : Fin 2) (r c : Fin 512) :
    fieldOf W bg (ix3 b r c) = ∑ n : Fin 128, W (ix4 b n (0 : Fin 1) (0 : Fin 1)) * bg (ix3 ⟨128 * b.val + n.val, by omega⟩ r c) := by
  pointwise [fieldOf]
  refine Finset.sum_congr rfl fun n _ => ?_
  congr 4
  omega

/-- A tap of the square is the product of two taps. -/
theorem squareOf_apply (k1 : FVec Ideal S7 .f32) (d l : Fin 7) : squareOf k1 (ix2 d l) = k1 (ix1 d) * k1 (ix1 l) := by
  pointwise [squareOf]

/-- A sum over the windows' two axes, as a sum over each. -/
theorem reduce_windows (h : S2x512x7x512x7.ReducesTo [2, 4] S2x512x512) (x : S2x512x7x512x7.Idx → EReal) (init : EReal) (b : Fin 2) (r c : Fin 512) :
    Ideal.hostReduceAdd h x init (ix3 b r c) = init + ∑ d : Fin 7, ∑ l : Fin 7, x (ix5 b r d c l) := by
  unfold Ideal.hostReduceAdd
  congr 1
  rw [← Finset.sum_product']
  refine Finset.sum_nbij' (fun i => ((i 2 : Fin 7), (i 4 : Fin 7))) (fun p => ix5 b r p.1 c p.2) (fun _ _ => Finset.mem_product.2 ⟨Finset.mem_univ _, Finset.mem_univ _⟩)
    (fun p _ => Finset.mem_filter.2 ⟨Finset.mem_univ _, funext fun a => ?_⟩) (fun i hi => ?_) (fun p _ => rfl) (fun i hi => ?_)
  · match a with
    | ⟨0, _⟩ => rfl
    | ⟨1, _⟩ => rfl
    | ⟨2, _⟩ => rfl
  all_goals
    have hd := (Finset.mem_filter.1 hi).2
    have e : (ix5 b r (i 2 : Fin 7) c (i 4 : Fin 7) : S2x512x7x512x7.Idx) = i := by
      have e0 : b = (i 0 : Fin 2) := (congrFun hd (0 : Fin 3)).symm
      have e1 : r = (i 1 : Fin 512) := (congrFun hd (1 : Fin 3)).symm
      have e3 : c = (i 3 : Fin 512) := (congrFun hd (2 : Fin 3)).symm
      funext a
      match a with
      | ⟨0, _⟩ => exact e0
      | ⟨1, _⟩ => exact e1
      | ⟨2, _⟩ => rfl
      | ⟨3, _⟩ => exact e3
      | ⟨4, _⟩ => rfl
  · exact e
  · exact (congrArg x e).symm

/-- The blur sums the window's elements times the taps. -/
theorem blurOf_apply (ws : FVec Ideal S2x512x7x512x7 .f32) (k1 : FVec Ideal S7 .f32) (b : Fin 2) (r c : Fin 512) :
    blurOf ws k1 (ix4 b (0 : Fin 1) r c) = ∑ d : Fin 7, ∑ l : Fin 7, ws (ix5 b r d c l) * squareOf k1 (ix2 d l) := by
  pointwise [blurOf]
  rw [reduce_windows, zero_add]
  refine Finset.sum_congr rfl fun d _ => Finset.sum_congr rfl fun l _ => ?_
  pointwise []

/-- The window's `d`-th row from row `r` is row `r + d`. -/
theorem winOf_apply (r : Fin 512) (d : Fin 7) : winOf (ix3 r d (0 : Fin 1)) = BitVec.ofNat 32 (r.val + d.val) := by
  pointwise [winOf]
  have e : IntOp.addi (BitVec.ofNat 32 r.val) (BitVec.ofNat 32 d.val) = BitVec.ofNat 32 (r.val + d.val) := (BitVec.ofNat_add ..).symm
  rw [e]
  exact wrap_of_lt _ _ (by rw [WordCmp.toNat_ofNat_of_lt (by omega)]; omega)

/-- A window's element is the padded image's. -/
theorem winsOf_apply (pf : FVec Ideal S2x518x518 .f32) (b : Fin 2) (r : Fin 512) (d : Fin 7) (c : Fin 512) (l : Fin 7) :
    winsOf pf (ix5 b r d c l) = pf (ix3 b ⟨r.val + d.val, by omega⟩ ⟨c.val + l.val, by omega⟩) := by
  unfold winsOf
  rw [gather_cols _ _ b r d c l ⟨c.val + l.val, by omega⟩ (winOf_apply c l), gather_rows _ _ b r d _ ⟨r.val + d.val, by omega⟩ (winOf_apply r d)]

/-- The padded image is the image inside, and zero in the margin. -/
theorem padOf_apply (fd : FVec Ideal S2x512x512 .f32) (b : Fin 2) (r c : Fin 518) :
    padOf fd (ix3 b r c) = if h : 3 ≤ r.val ∧ r.val < 515 ∧ 3 ≤ c.val ∧ c.val < 515 then fd (ix3 b ⟨r.val - 3, by omega⟩ ⟨c.val - 3, by omega⟩) else 0 := by
  pointwise [padOf]
  by_cases h : 3 ≤ r.val ∧ r.val < 515 ∧ 3 ≤ c.val ∧ c.val < 515
  · rw [dif_pos h, dif_pos (by omega)]
  · rw [dif_neg h, dif_neg (by omega)]
    show ((((0#32 : BitVec 32).toInt : ℝ)) : EReal) = 0
    simp

/-- The reference's result at a pixel: the window's weighted sum of the weighted stars that no later star hides. -/
theorem ref_apply (V : VRI) (hX : ∀ j, (rowX V (ix1 j)).toNat < 512) (hY : ∀ j, (colY V (ix1 j)).toNat < 512) (b : Fin 2) (r c : Fin 512) :
    skyR V (ix4 b (0 : Fin 1) r c)
      = ∑ d : Fin 7, ∑ l : Fin 7, (if h : 3 ≤ r.val + d.val ∧ r.val + d.val < 515 ∧ 3 ≤ c.val + l.val ∧ c.val + l.val < 515 then
          ∑ n : Fin 128, filtW V (ix4 b n (0 : Fin 1) (0 : Fin 1))
            * (open Classical in if At (rowX V) (colY V) ⟨r.val + d.val - 3, by omega⟩ ⟨c.val + l.val - 3, by omega⟩ ⟨128 * b.val + n.val, by omega⟩
                ∧ ∀ j, (⟨128 * b.val + n.val, by omega⟩ : Fin 256) < j → ¬ At (rowX V) (colY V) ⟨r.val + d.val - 3, by omega⟩ ⟨c.val + l.val - 3, by omega⟩ j
              then magM V (ix1 (⟨128 * b.val + n.val, by omega⟩ : Fin 256)) else 0)
        else 0) * (blurK V (ix1 d) * blurK V (ix1 l)) := by
  refine (congrFun (ref_eq V) _).trans ((blurOf_apply _ _ b r c).trans ?_)
  refine Finset.sum_congr rfl fun d _ => Finset.sum_congr rfl fun l _ => ?_
  rw [winsOf_apply, padOf_apply, squareOf_apply]
  refine congrArg (· * _) (dite_congr rfl (fun h => ?_) fun _ => rfl)
  rw [fieldOf_apply]
  refine Finset.sum_congr rfl fun n _ => ?_
  rw [bgOf_apply _ _ _ hX hY]

/-- A word clamped as the reference clamps the stars' rows and columns is below 512. -/
theorem clamp_lt (x : BitVec 32) :
    (((x * (BitVec.setWidth 32 (IntOp.cmpi .slt x 512#32)) + 511#32 * (BitVec.setWidth 32 (IntOp.cmpi .sgt x 511#32)))) * (BitVec.setWidth 32 (IntOp.cmpi .sge x 0#32))).toNat < 512 := by
  rw [WordCmp.cmpi_slt_eq, WordCmp.cmpi_sgt_eq, WordCmp.cmpi_sge_eq]
  by_cases h0 : (0#32).toInt ≤ x.toInt
  · by_cases h1 : x.toInt < (512#32).toInt
    · have h2 : ¬ (511#32).toInt < x.toInt := by
        have e1 : (512#32 : BitVec 32).toInt = 512 := by decide
        have e2 : (511#32 : BitVec 32).toInt = 511 := by decide
        rw [e1] at h1; rw [e2]; omega
      rw [decide_eq_true h0, decide_eq_true h1, decide_eq_false h2]
      have e : x * BitVec.setWidth 32 (BitVec.ofBool true) + 511#32 * BitVec.setWidth 32 (BitVec.ofBool false) = x := by
        rw [show BitVec.setWidth 32 (BitVec.ofBool true) = 1#32 from rfl, show BitVec.setWidth 32 (BitVec.ofBool false) = 0#32 from rfl, BitVec.mul_one, BitVec.mul_zero,
          BitVec.add_zero]
      rw [e, show BitVec.setWidth 32 (BitVec.ofBool true) = 1#32 from rfl, BitVec.mul_one]
      have e1 : (512#32 : BitVec 32).toInt = 512 := by decide
      have e0 : (0#32 : BitVec 32).toInt = 0 := by decide
      rw [e1] at h1; rw [e0] at h0
      rw [BitVec.toInt_eq_toNat_cond] at h0 h1
      split at h0 <;> split at h1 <;> omega
    · have h2 : (511#32).toInt < x.toInt := by
        have e1 : (512#32 : BitVec 32).toInt = 512 := by decide
        have e2 : (511#32 : BitVec 32).toInt = 511 := by decide
        rw [e1] at h1; rw [e2]; omega
      rw [decide_eq_true h0, decide_eq_false h1, decide_eq_true h2]
      have e : x * BitVec.setWidth 32 (BitVec.ofBool false) + 511#32 * BitVec.setWidth 32 (BitVec.ofBool true) = 511#32 := by
        rw [show BitVec.setWidth 32 (BitVec.ofBool true) = 1#32 from rfl, show BitVec.setWidth 32 (BitVec.ofBool false) = 0#32 from rfl, BitVec.mul_one, BitVec.mul_zero,
          BitVec.zero_add]
      rw [e]
      decide
  · rw [decide_eq_false h0, show BitVec.setWidth 32 (BitVec.ofBool false) = 0#32 from rfl, BitVec.mul_zero]
    decide

/-- Every star's row is inside the image. -/
theorem rowX_lt (V : VRI) (j : Fin 256) : (rowX V (ix1 j)).toNat < 512 := clamp_lt (res_main_v179 V (ix1 j))

/-- Every star's column is inside the image. -/
theorem colY_lt (V : VRI) (j : Fin 256) : (colY V (ix1 j)).toNat < 512 := clamp_lt (res_main_v188 V (ix1 j))

end Cert.Sky

end
-- ==== Proof.Operands.lean ====
/-
  The call's operands, read at their indices in the reference's terms: a pixel's key, a star's weight, the patch's entries
  and the zeros.
-/
module

public import proofs.«01_k».proof.Proof.HostValue
public import proofs.«01_k».proof.Proof.Main
public import proofs.«01_k».proof.Proof.StarValue
public import proofs.«01_k».proof.Proof.RefValue

@[expose] public section

noncomputable section

namespace Cert.Sky

open Cert.KernelIdeal Cert.KernelIdeal.Gen

open Idealize.ShloMosaic Idealize.ShloMosaic.Routing
open scoped BigOperators

/-- The keys of the odd stars. -/
def keysOf (X Y : IVec S256 32) : IVec S128 32 :=
  Host.slice S128 ![1] ![2] (addi (muli X (broadcastInDim S256 ![] bcast_S_S256 (constantI S_ 32 512#32))) Y) slicesBy_S256_S128_1s2

/-- The key of the `m`-th odd star is its pixel's number. -/
theorem keysOf_apply (X Y : IVec S256 32) (m : Fin 128) :
    keysOf X Y (ix1 m) = X (ix1 (⟨2 * m.val + 1, by omega⟩ : Fin 256)) * 512#32 + Y (ix1 (⟨2 * m.val + 1, by omega⟩ : Fin 256)) := by
  have e : (⟨2 * m.val + 1, by omega⟩ : Fin 256) = ⟨1 + 2 * m.val, by omega⟩ := Fin.ext (Nat.add_comm _ _)
  rw [e]
  pointwise [keysOf]
  rfl

/-- The weights of the odd stars. -/
def weightsOf (W : FVec Ideal S2x128x1x1 .f32) (M : FVec Ideal S256 .f32) : FVec Ideal S128 .f32 :=
  Host.slice S128 ![1] ![2] (mulf (shapeCast S256 W shapeCasts_S2x128x1x1_S256) M) slicesBy_S256_S128_1s2

/-- The weight of the `m`-th odd star of image `b`. -/
theorem weightsOf_apply (W : FVec Ideal S2x128x1x1 .f32) (M : FVec Ideal S256 .f32) (b : Fin 2) (m : Fin 64) :
    weightsOf W M (ix1 (⟨64 * b.val + m.val, by omega⟩ : Fin 128)) = W (ix4 b (⟨2 * m.val + 1, by omega⟩ : Fin 128) (0 : Fin 1) (0 : Fin 1))
      * M (ix1 (⟨2 * (64 * b.val + m.val) + 1, by omega⟩ : Fin 256)) := by
  have e : (⟨2 * (64 * b.val + m.val) + 1, by omega⟩ : Fin 256) = ⟨1 + 2 * (64 * b.val + m.val), by omega⟩ := Fin.ext (Nat.add_comm _ _)
  have e1 : b = ⟨(1 + 2 * (64 * b.val + m.val)) / 128, by omega⟩ := Fin.ext (by show b.val = (1 + 2 * (64 * b.val + m.val)) / 128; omega)
  have e2 : (⟨2 * m.val + 1, by omega⟩ : Fin 128) = ⟨(1 + 2 * (64 * b.val + m.val)) % 128, by omega⟩ :=
    Fin.ext (by show 2 * m.val + 1 = (1 + 2 * (64 * b.val + m.val)) % 128; omega)
  have h : weightsOf W M (ix1 (⟨64 * b.val + m.val, by omega⟩ : Fin 128))
      = W (ix4 (⟨(1 + 2 * (64 * b.val + m.val)) / 128, by omega⟩ : Fin 2) (⟨(1 + 2 * (64 * b.val + m.val)) % 128, by omega⟩ : Fin 128) (0 : Fin 1) (0 : Fin 1))
        * M (ix1 (⟨1 + 2 * (64 * b.val + m.val), by omega⟩ : Fin 256)) := by
    pointwise [weightsOf]
    rw [← e1]
  exact h.trans (congrArg₂ (· * ·) (congrArg₂ (fun (x : Fin 2) (y : Fin 128) => W (ix4 x y (0 : Fin 1) (0 : Fin 1))) e1.symm e2.symm)
    (congrArg (fun p : Fin 256 => M (ix1 p)) e.symm))

/-- The patch, its rows padded to 16. -/
def patchOf (K : FVec Ideal S7 .f32) : FVec Ideal S112 .f32 :=
  shapeCast S112 (pad S7x16 ![0, 0] ![0, 9] ![0, 0] (mulf (broadcastInDim S7x7 ![0, 1] bcast_S7x1_S7x7_0_1 (broadcastInDim S7x1 ![0] bcast_S7_S7x1_0 K))
    (broadcastInDim S7x7 ![0, 1] bcast_S1x7_S7x7_0_1 (broadcastInDim S1x7 ![1] bcast_S7_S1x7_1 K))) (sitofp .f32 (constantI S_ 32 0#32)) pads_S7x7_S7x16_000_090 h_S_) shapeCasts_S7x16_S112

/-- An entry of the patch is the product of its row's tap and its column's. -/
theorem patchOf_apply (K : FVec Ideal S7 .f32) (d l : Fin 7) : patchOf K (ix1 (⟨16 * d.val + l.val, by omega⟩ : Fin 112)) = K (ix1 d) * K (ix1 l) := by
  have hl : (16 * d.val + l.val) % 16 = l.val := by omega
  have e : (⟨(16 * d.val + l.val) % 16, by omega⟩ : Fin 7) = l := Fin.ext hl
  pointwise [patchOf]
  rw [dif_pos (by omega), e]

variable {V : VK Ideal} {R : VR Ideal}

/-- The call's keys are the odd stars'. -/
theorem ops_kk (h : Agree V R) : (opsAt V).kk = keysOf (rowX R) (colY R) := by
  show Vpre V (Proc.devRef .tc main_v244) = _
  unfold Vpre
  rw [after_hPre, U6_v244, U5_v221 h]
  rfl

/-- The call's weights are the odd stars'. -/
theorem ops_ff (h : Agree V R) : (opsAt V).ff = weightsOf (filtW R) (magM R) := by
  show Vpre V (Proc.devRef .tc main_v245) = _
  unfold Vpre
  rw [after_hPre, U6_v245, U5_v224 h]
  rfl

/-- The call's patch is the blur's. -/
theorem ops_gg : (opsAt V).gg = patchOf (blurK R) := by
  show Vpre V (Proc.devRef .tc main_v242) = _
  unfold Vpre
  rw [after_hPre, U6_v242 V R]
  rfl

/-- The call's stripe of zeros is zero everywhere. -/
theorem ops_zz (x : S16384.Idx) : (opsAt V).zz x = (0 : EReal) := by
  have e : (opsAt V).zz = broadcastInDim S16384 ![] bcast_S_S16384 (constant (F := Ideal) S_ .f32 0x00000000#32) := by
    show Vpre V (Proc.devRef .tc main_v243) = _
    unfold Vpre
    rw [after_hPre, U6_v243]
  rw [e]
  exact Ideal.ofBits_zero_f32

end Cert.Sky

end
-- ==== Proof.Pairs.lean ====
/-
  The points of stars `2m` and `2m + 1` are the same, so their pixels are.
-/
module

public import proofs.«01_k».proof.Proof.RefValue

@[expose] public section

noncomputable section

namespace Cert.Sky

open Cert.ReferenceIdeal Cert.ReferenceIdeal.Gen Cert.ReferenceIdeal.Value

open Idealize.ShloMosaic Idealize.ShloMosaic.Routing
open scoped BigOperators

/-- The points: each star's direction turned by its image's rotation. -/
def pointsOf (Q : FVec Ideal S2x3x3 .f32) (D : FVec Ideal S128x3x1 .f32) : FVec Ideal S256x3x1 .f32 :=
  Host.dotGeneral dot_S256x3x3_S256x3x1_S256x3x1_2_1_1_2_0_0 none
    (shapeCast _ (broadcastInDim S2x128x3x3 ![0, 1, 2, 3] bcast_S2x1x3x3_S2x128x3x3_0_1_2_3 (shapeCast _ Q shapeCasts_S2x3x3_S2x1x3x3)) shapeCasts_S2x128x3x3_S256x3x3)
    (shapeCast _ (broadcastInDim S128x2x3x1 ![0, 1, 2, 3] bcast_S128x1x3x1_S128x2x3x1_0_1_2_3
      (shapeCast _ (shapeCast _ D shapeCasts_S128x3x1_S1x128x3x1) shapeCasts_S1x128x3x1_S128x1x3x1)) shapeCasts_S128x2x3x1_S256x3x1)

/-- The reference's points are these of some rotations and directions. -/
theorem points_eq (V : VRI) : ∃ Q D, res_main_v110 V = pointsOf Q D := ⟨_, _, rfl⟩

/-- Point `p` is direction `p / 2` turned by rotation `p / 128`. -/
theorem pointsOf_apply (Q : FVec Ideal S2x3x3 .f32) (D : FVec Ideal S128x3x1 .f32) (p : Fin 256) (i : Fin 3) :
    pointsOf Q D (ix3 p i (0 : Fin 1))
      = ∑ k : Fin 3, Q (ix3 ⟨p.val / 128, by omega⟩ i k) * D (ix3 ⟨p.val / 2, by omega⟩ k (0 : Fin 1)) := by
  pointwise [pointsOf]

/-- The first coordinate along the sky, of the points. -/
def v131Of (P : FVec Ideal S256x3x1 .f32) : FVec Ideal S2x128x1 .f32 :=
  let a := shapeCast _ P shapeCasts_S256x3x1_S2x128x3x1
  let x := shapeCast S2x128x1 (extractStridedSlice S2x128x1x1 ![0, 0, 0, 0] a slices_S2x128x3x1_S2x128x1x1_0_0_0_0) shapeCasts_S2x128x1x1_S2x128x1
  let y := shapeCast S2x128x1 (extractStridedSlice S2x128x1x1 ![0, 0, 1, 0] a slices_S2x128x3x1_S2x128x1x1_0_0_1_0) shapeCasts_S2x128x1x1_S2x128x1
  let z := shapeCast S2x128x1 (extractStridedSlice S2x128x1x1 ![0, 0, 2, 0] a slices_S2x128x3x1_S2x128x1x1_0_0_2_0) shapeCasts_S2x128x1x1_S2x128x1
  mulf (Host.cos (Host.atan2 z (Host.sqrt (addf (mulf x x) (mulf y y))))) (Host.sin (Host.atan2 y x))

/-- The reference's term, read in these names. -/
theorem v131_eq (V : VRI) : res_main_v131 V = v131Of (res_main_v110 V) := rfl

/-- The first coordinate depends on the star's point alone. -/
theorem v131_congr (P : FVec Ideal S256x3x1 .f32) (b b' : Fin 2) (n n' : Fin 128)
    (h : ∀ i : Fin 3, P (ix3 (⟨b.val * 128 + n.val, by omega⟩ : Fin 256) i (0 : Fin 1)) = P (ix3 (⟨b'.val * 128 + n'.val, by omega⟩ : Fin 256) i (0 : Fin 1))) :
    v131Of P (ix3 b n (0 : Fin 1)) = v131Of P (ix3 b' n' (0 : Fin 1)) := by
  pointwise [v131Of]
  rw [h 0, h 1, h 2]

/-- The second coordinate along the sky, of the points. -/
def v132Of (P : FVec Ideal S256x3x1 .f32) : FVec Ideal S2x128x1 .f32 :=
  let a := shapeCast _ P shapeCasts_S256x3x1_S2x128x3x1
  let x := shapeCast S2x128x1 (extractStridedSlice S2x128x1x1 ![0, 0, 0, 0] a slices_S2x128x3x1_S2x128x1x1_0_0_0_0) shapeCasts_S2x128x1x1_S2x128x1
  let y := shapeCast S2x128x1 (extractStridedSlice S2x128x1x1 ![0, 0, 1, 0] a slices_S2x128x3x1_S2x128x1x1_0_0_1_0) shapeCasts_S2x128x1x1_S2x128x1
  let z := shapeCast S2x128x1 (extractStridedSlice S2x128x1x1 ![0, 0, 2, 0] a slices_S2x128x3x1_S2x128x1x1_0_0_2_0) shapeCasts_S2x128x1x1_S2x128x1
  Host.sin (Host.atan2 z (Host.sqrt (addf (mulf x x) (mulf y y))))

/-- The reference's term, read in these names. -/
theorem v132_eq (V : VRI) : res_main_v132 V = v132Of (res_main_v110 V) := rfl

/-- The second coordinate depends on the star's point alone. -/
theorem v132_congr (P : FVec Ideal S256x3x1 .f32) (b b' : Fin 2) (n n' : Fin 128)
    (h : ∀ i : Fin 3, P (ix3 (⟨b.val * 128 + n.val, by omega⟩ : Fin 256) i (0 : Fin 1)) = P (ix3 (⟨b'.val * 128 + n'.val, by omega⟩ : Fin 256) i (0 : Fin 1))) :
    v132Of P (ix3 b n (0 : Fin 1)) = v132Of P (ix3 b' n' (0 : Fin 1)) := by
  pointwise [v132Of]
  rw [h 0, h 1, h 2]

/-- The pixel number of a coordinate along the sky, before it is clamped. -/
def pixOf (W : FVec Ideal S2x128x1 .f32) : IVec S256 32 :=
  fptosi 32 (shapeCast _ (addf (broadcastInDim S2x128x1 ![] bcast_S_S2x128x1 (constant S_ .f32 0x43800000#32))
    (mulf (broadcastInDim S2x128x1 ![] bcast_S_S2x128x1 (constant S_ .f32 0x43800000#32))
      (Host.divf (Host.remf W (broadcastInDim S2x128x1 ![] bcast_S_S2x128x1 (id (constant S_ .f32 0x3F000000#32))))
        (broadcastInDim S2x128x1 ![] bcast_S_S2x128x1 (constant S_ .f32 0x3F000000#32))))) shapeCasts_S2x128x1_S256)

/-- The reference's term, read in these names. -/
theorem v179_eq (V : VRI) : res_main_v179 V = pixOf (res_main_v131 V) := rfl

/-- The reference's term, read in these names. -/
theorem v188_eq (V : VRI) : res_main_v188 V = pixOf (res_main_v132 V) := rfl

/-- The pixel number depends on the star's own coordinate alone. -/
theorem pixOf_congr (W : FVec Ideal S2x128x1 .f32) (p q : Fin 256)
    (h : W (ix3 (⟨p.val / 128, by omega⟩ : Fin 2) (⟨p.val % 128, by omega⟩ : Fin 128) (0 : Fin 1))
      = W (ix3 (⟨q.val / 128, by omega⟩ : Fin 2) (⟨q.val % 128, by omega⟩ : Fin 128) (0 : Fin 1))) :
    pixOf W (ix1 p) = pixOf W (ix1 q) := by
  pointwise [pixOf]
  rw [h]

/-- The clamp to the image, of a pixel number. -/
def clampW (x : BitVec 32) : BitVec 32 :=
  (x * BitVec.setWidth 32 (BitVec.ofBool (decide (x.toInt < (512#32 : BitVec 32).toInt)))
    + 511#32 * BitVec.setWidth 32 (BitVec.ofBool (decide ((511#32 : BitVec 32).toInt < x.toInt))))
  * BitVec.setWidth 32 (BitVec.ofBool (decide ((0#32 : BitVec 32).toInt ≤ x.toInt)))

/-- The reference's term, read in these names. -/
theorem rowX_eq (V : VRI) (p : Fin 256) : rowX V (ix1 p) = clampW (res_main_v179 V (ix1 p)) := rfl

/-- The reference's term, read in these names. -/
theorem colY_eq (V : VRI) (p : Fin 256) : colY V (ix1 p) = clampW (res_main_v188 V (ix1 p)) := rfl

/-- The points of stars `2m` and `2m + 1`, by image and number. -/
theorem points_pair' (V : VRI) (p q : Fin 256) (h : p.val / 2 = q.val / 2) (i : Fin 3) :
    res_main_v110 V (ix3 (⟨p.val / 128 * 128 + p.val % 128, by omega⟩ : Fin 256) i (0 : Fin 1))
      = res_main_v110 V (ix3 (⟨q.val / 128 * 128 + q.val % 128, by omega⟩ : Fin 256) i (0 : Fin 1)) := by
  obtain ⟨Q, D, e⟩ := points_eq V
  rw [e]
  refine (pointsOf_apply Q D _ i).trans (Eq.trans ?_ (pointsOf_apply Q D _ i).symm)
  refine Finset.sum_congr rfl fun k _ => ?_
  exact congrArg₂ (fun (a : Fin 2) (b : Fin 128) => Q (ix3 a i k) * D (ix3 b k (0 : Fin 1)))
    (Fin.ext (by show (p.val / 128 * 128 + p.val % 128) / 128 = (q.val / 128 * 128 + q.val % 128) / 128; omega))
    (Fin.ext (by show (p.val / 128 * 128 + p.val % 128) / 2 = (q.val / 128 * 128 + q.val % 128) / 2; omega))

/-- Stars `2m` and `2m + 1` are in the same row. -/
theorem rowX_pair (V : VRI) (p q : Fin 256) (h : p.val / 2 = q.val / 2) : rowX V (ix1 p) = rowX V (ix1 q) := by
  rw [rowX_eq, rowX_eq]
  refine congrArg clampW ?_
  rw [v179_eq]
  refine pixOf_congr _ p q ?_
  rw [v131_eq]
  exact v131_congr _ _ _ _ _ (points_pair' V p q h)

/-- Stars `2m` and `2m + 1` are in the same column. -/
theorem colY_pair (V : VRI) (p q : Fin 256) (h : p.val / 2 = q.val / 2) : colY V (ix1 p) = colY V (ix1 q) := by
  rw [colY_eq, colY_eq]
  refine congrArg clampW ?_
  rw [v188_eq]
  refine pixOf_congr _ p q ?_
  rw [v132_eq]
  exact v132_congr _ _ _ _ _ (points_pair' V p q h)

end Cert.Sky

end
-- ==== Proof.Blur.lean ====
/-
  The blur's seven weights are real, non-negative, and the same read backwards.
-/
module

public import proofs.«01_k».proof.Proof.RefValue

@[expose] public section

noncomputable section

namespace Cert.Sky

open Cert.ReferenceIdeal Cert.ReferenceIdeal.Gen Cert.ReferenceIdeal.Value

open Idealize.ShloMosaic Idealize.ShloMosaic.Routing
open scoped BigOperators

/-- The pattern `0xC0400000` is minus three. -/
theorem ofBits_neg_three : Ideal.ofBits .f32 0xC0400000#32 = ((-3 : ℝ) : EReal) := by
  simp [Ideal.ofBits, Ideal.ieee, -EReal.coe_mul, -EReal.coe_neg]; norm_num

/-- The pattern `0x41900000` is eighteen. -/
theorem ofBits_eighteen : Ideal.ofBits .f32 0x41900000#32 = ((18 : ℝ) : EReal) := by
  simp [Ideal.ofBits, Ideal.ieee, -EReal.coe_mul, -EReal.coe_neg]; norm_num

/-- The bell curve at a tap, before it is normalised. -/
def bell (d : Fin 7) : ℝ := Real.exp (-((-3 + (d.val : ℝ)) * (-3 + (d.val : ℝ))) / 18)

/-- It is positive. -/
theorem bell_pos (d : Fin 7) : 0 < bell d := Real.exp_pos _

/-- The bell curve reads the same backwards. -/
theorem bell_rev (d : Fin 7) : bell (Fin.rev d) = bell d := by
  unfold bell
  have e : ((Fin.rev d).val : ℝ) = 6 - (d.val : ℝ) := by
    have : (Fin.rev d).val + d.val = 6 := by rw [Fin.val_rev]; omega
    have h : (((Fin.rev d).val + d.val : ℕ) : ℝ) = 6 := by rw [this]; norm_num
    push_cast at h; linarith
  rw [e]
  congr 2
  ring

/-- One tap of the bell curve, as the operations compute it. -/
theorem bell_apply (d : Fin 7) :
    Ideal.exp (Ideal.div (-((Ideal.ofBits .f32 0xC0400000#32 + FloatOps.sitofp (F := Ideal) .f32 (BitVec.ofNat 32 d.val))
        * (Ideal.ofBits .f32 0xC0400000#32 + FloatOps.sitofp (F := Ideal) .f32 (BitVec.ofNat 32 d.val)))) (Ideal.ofBits .f32 0x41900000#32))
      = ((bell d : ℝ) : EReal) := by
  have e : FloatOps.sitofp (F := Ideal) .f32 (BitVec.ofNat 32 d.val) = ((d.val : ℝ) : EReal) := by
    show (((BitVec.ofNat 32 d.val).toInt : ℝ) : EReal) = _
    have : (BitVec.ofNat 32 d.val).toInt = (d.val : ℤ) := WordCmp.toInt_ofNat_of_lt (by have := d.isLt; omega)
    rw [this]; norm_cast
  rw [e, ofBits_neg_three, ofBits_eighteen, ← EReal.coe_add, ← EReal.coe_mul, ← EReal.coe_neg]
  unfold Ideal.div
  rw [if_neg (by norm_num)]
  rw [← EReal.coe_inv, ← EReal.coe_mul, Ideal.exp_coe]
  rfl

/-- The blur's weight at tap `d`: the bell curve there over its sum. -/
theorem blurK_apply (V : VRI) (d : Fin 7) : blurK V (ix1 d) = ((bell d / ∑ e : Fin 7, bell e : ℝ) : EReal) := by
  unfold blurK
  pointwise [res_main_v251, res_main_v248, res_main_v243]
  simp only [bell_apply]
  have e : ∑ x : Fin 7, ((bell x : ℝ) : EReal) = ((∑ x : Fin 7, bell x : ℝ) : EReal) := by
    simp only [Fin.sum_univ_seven, EReal.coe_add]
  have h : (∑ x : Fin 7, bell x) ≠ 0 := (Finset.sum_pos (fun x _ => bell_pos x) ⟨0, Finset.mem_univ _⟩).ne'
  rw [e]
  unfold Ideal.div
  rw [if_neg (by exact_mod_cast h), ← EReal.coe_inv, ← EReal.coe_mul]
  rfl

/-- The weights are not negative. -/
theorem blurK_nonneg (V : VRI) (d : Fin 7) : 0 ≤ blurK V (ix1 d) := by
  rw [blurK_apply]
  exact EReal.coe_nonneg.mpr (div_nonneg (bell_pos d).le (Finset.sum_nonneg fun x _ => (bell_pos x).le))

/-- The weights are finite. -/
theorem blurK_ne_top (V : VRI) (d : Fin 7) : blurK V (ix1 d) ≠ ⊤ := by
  rw [blurK_apply]; exact EReal.coe_ne_top _

/-- The weights read the same backwards. -/
theorem blurK_rev (V : VRI) (d : Fin 7) : blurK V (ix1 (Fin.rev d)) = blurK V (ix1 d) := by
  rw [blurK_apply, blurK_apply, bell_rev]

/-- A sum times a weight that is finite and not negative is the sum of the products. -/
theorem sum_mul_weight {ι : Type} (s : Finset ι) (f : ι → EReal) (w : EReal) (h0 : 0 ≤ w) (ht : w ≠ ⊤) : (∑ i ∈ s, f i) * w = ∑ i ∈ s, f i * w := by
  classical
  induction s using Finset.induction_on with
  | empty => simp
  | insert a s ha ih => rw [Finset.sum_insert ha, Finset.sum_insert ha, EReal.right_distrib_of_nonneg_of_ne_top h0 ht, ih]

/-- A sum over the 128 stars of an image whose even terms vanish is the sum of the odd ones. -/
theorem sum_odd (f : Fin 128 → EReal) (h : ∀ m : Fin 64, f ⟨2 * m.val, by omega⟩ = 0) : ∑ n, f n = ∑ m : Fin 64, f ⟨2 * m.val + 1, by omega⟩ := by
  let E : Fin 64 × Fin 2 ≃ Fin 128 := finProdFinEquiv (m := 64) (n := 2)
  rw [← Equiv.sum_comp E f, Fintype.sum_prod_type]
  refine Finset.sum_congr rfl fun m _ => ?_
  rw [Fin.sum_univ_two]
  have e0 : E (m, 0) = (⟨2 * m.val, by omega⟩ : Fin 128) := Fin.ext (by show 0 + 2 * m.val = 2 * m.val; omega)
  have e1 : E (m, 1) = (⟨2 * m.val + 1, by omega⟩ : Fin 128) := Fin.ext (by show 1 + 2 * m.val = 2 * m.val + 1; omega)
  exact (congrArg₂ (· + ·) ((congrArg f e0).trans (h m)) (congrArg f e1)).trans (zero_add _)

open Classical in
/-- The blurred image as the reference sums it, taps first, is the sum of the live odd stars' own contributions. -/
theorem blur_sum (X Y : Fin 256 → ℕ) (hX : ∀ p, X p < 512) (hY : ∀ p, Y p < 512)
    (hXp : ∀ p q : Fin 256, p.val / 2 = q.val / 2 → X p = X q) (hYp : ∀ p q : Fin 256, p.val / 2 = q.val / 2 → Y p = Y q)
    (f : Fin 128 → EReal) (M : Fin 256 → EReal) (K : Fin 7 → EReal) (h0 : ∀ d, 0 ≤ K d) (ht : ∀ d, K d ≠ ⊤) (hr : ∀ d, K (Fin.rev d) = K d)
    (b : Fin 2) (r c : Fin 512) :
    (∑ d : Fin 7, ∑ l : Fin 7,
      (if 3 ≤ r.val + d.val ∧ r.val + d.val < 515 ∧ 3 ≤ c.val + l.val ∧ c.val + l.val < 515 then
        ∑ n : Fin 128, f n * (if (X ⟨128 * b.val + n.val, by omega⟩ = r.val + d.val - 3 ∧ Y ⟨128 * b.val + n.val, by omega⟩ = c.val + l.val - 3)
            ∧ ∀ j, (⟨128 * b.val + n.val, by omega⟩ : Fin 256) < j → ¬ (X j = r.val + d.val - 3 ∧ Y j = c.val + l.val - 3)
          then M ⟨128 * b.val + n.val, by omega⟩ else 0) else 0) * (K d * K l))
    = ∑ m : Fin 64, if ∀ (m' : ℕ) (h : m' < 128), 64 * b.val + m.val < m' →
          ¬ (X ⟨2 * m' + 1, by omega⟩ = X ⟨2 * (64 * b.val + m.val) + 1, by omega⟩ ∧ Y ⟨2 * m' + 1, by omega⟩ = Y ⟨2 * (64 * b.val + m.val) + 1, by omega⟩)
        then ∑ d : Fin 7, ∑ l : Fin 7, if X ⟨2 * (64 * b.val + m.val) + 1, by omega⟩ + d.val = r.val + 3 ∧ Y ⟨2 * (64 * b.val + m.val) + 1, by omega⟩ + l.val = c.val + 3
          then f ⟨2 * m.val + 1, by omega⟩ * M ⟨2 * (64 * b.val + m.val) + 1, by omega⟩ * (K d * K l) else 0
        else 0 := by
  -- one star's own contribution through tap `(d, l)`
  let k : Fin 64 → Fin 256 := fun m => ⟨2 * (64 * b.val + m.val) + 1, by omega⟩
  let A : Fin 64 → Prop := fun m => ∀ (m' : ℕ) (h : m' < 128), 64 * b.val + m.val < m' →
    ¬ (X ⟨2 * m' + 1, by omega⟩ = X (k m) ∧ Y ⟨2 * m' + 1, by omega⟩ = Y (k m))
  let T : Fin 64 → Fin 7 → Fin 7 → EReal := fun m d l =>
    if A m ∧ X (k m) + 3 = r.val + d.val ∧ Y (k m) + 3 = c.val + l.val then f ⟨2 * m.val + 1, by omega⟩ * M (k m) * (K d * K l) else 0
  have hkk : ∀ m : Fin 64, (⟨128 * b.val + (2 * m.val + 1), by omega⟩ : Fin 256) = k m := fun m => Fin.ext (by show 128 * b.val + (2 * m.val + 1) = 2 * (64 * b.val + m.val) + 1; omega)
  -- the last star on its pixel, counted in pairs
  have hA : ∀ m : Fin 64, A m ↔ ∀ j, k m < j → ¬ (X j = X (k m) ∧ Y j = Y (k m)) := by
    intro m
    constructor
    · intro h j hj hxy
      have hj' : 2 * (64 * b.val + m.val) + 1 < j.val := hj
      have hp : j.val / 2 = (⟨2 * (j.val / 2) + 1, by omega⟩ : Fin 256).val / 2 := by show j.val / 2 = (2 * (j.val / 2) + 1) / 2; omega
      exact h (j.val / 2) (by omega) (by omega) ⟨(hXp _ _ hp).symm.trans hxy.1, (hYp _ _ hp).symm.trans hxy.2⟩
    · intro h m' h1 h2
      exact h ⟨2 * m' + 1, by omega⟩ (by show 2 * (64 * b.val + m.val) + 1 < 2 * m' + 1; omega)
  have hL : ∀ d l : Fin 7,
      (if 3 ≤ r.val + d.val ∧ r.val + d.val < 515 ∧ 3 ≤ c.val + l.val ∧ c.val + l.val < 515 then
        ∑ n : Fin 128, f n * (if (X ⟨128 * b.val + n.val, by omega⟩ = r.val + d.val - 3 ∧ Y ⟨128 * b.val + n.val, by omega⟩ = c.val + l.val - 3)
            ∧ ∀ j, (⟨128 * b.val + n.val, by omega⟩ : Fin 256) < j → ¬ (X j = r.val + d.val - 3 ∧ Y j = c.val + l.val - 3)
          then M ⟨128 * b.val + n.val, by omega⟩ else 0) else 0) * (K d * K l) = ∑ m : Fin 64, T m d l := by
    intro d l
    have hw0 : 0 ≤ K d * K l := mul_nonneg (h0 d) (h0 l)
    have hwt : K d * K l ≠ ⊤ := by
      have b1 : K d ≠ ⊥ := fun e => absurd (e ▸ h0 d) (by decide)
      have b2 : K l ≠ ⊥ := fun e => absurd (e ▸ h0 l) (by decide)
      rw [← EReal.coe_toReal (ht d) b1, ← EReal.coe_toReal (ht l) b2, ← EReal.coe_mul]
      exact EReal.coe_ne_top _
    by_cases hc : 3 ≤ r.val + d.val ∧ r.val + d.val < 515 ∧ 3 ≤ c.val + l.val ∧ c.val + l.val < 515
    · rw [if_pos hc, sum_odd, sum_mul_weight _ _ _ hw0 hwt]
      · refine Finset.sum_congr rfl fun m _ => ?_
        show f ⟨2 * m.val + 1, _⟩ * (if (X ⟨128 * b.val + (2 * m.val + 1), _⟩ = _ ∧ Y ⟨128 * b.val + (2 * m.val + 1), _⟩ = _)
            ∧ ∀ j, (⟨128 * b.val + (2 * m.val + 1), _⟩ : Fin 256) < j → _ then M ⟨128 * b.val + (2 * m.val + 1), _⟩ else 0) * (K d * K l) = T m d l
        simp only [hkk]
        have hiff : ((X (k m) = r.val + d.val - 3 ∧ Y (k m) = c.val + l.val - 3) ∧ ∀ j, k m < j → ¬ (X j = r.val + d.val - 3 ∧ Y j = c.val + l.val - 3))
            ↔ (A m ∧ X (k m) + 3 = r.val + d.val ∧ Y (k m) + 3 = c.val + l.val) := by
          rw [hA]
          constructor
          · rintro ⟨⟨hx, hy⟩, hn⟩
            rw [← hx, ← hy] at hn
            exact ⟨hn, by omega, by omega⟩
          · rintro ⟨hn, hx, hy⟩
            have ex : X (k m) = r.val + d.val - 3 := by omega
            have ey : Y (k m) = c.val + l.val - 3 := by omega
            rw [← ex, ← ey]
            exact ⟨⟨rfl, rfl⟩, hn⟩
        show _ = if A m ∧ X (k m) + 3 = r.val + d.val ∧ Y (k m) + 3 = c.val + l.val then _ else _
        by_cases hq : A m ∧ X (k m) + 3 = r.val + d.val ∧ Y (k m) + 3 = c.val + l.val
        · rw [if_pos hq, if_pos (hiff.mpr hq)]
        · rw [if_neg hq, if_neg (fun h => hq (hiff.mp h)), mul_zero, zero_mul]
      · intro m
        rw [if_neg, mul_zero]
        rintro ⟨⟨hx, hy⟩, hn⟩
        have hp : (⟨128 * b.val + (2 * m.val), by omega⟩ : Fin 256).val / 2 = (⟨128 * b.val + 2 * m.val + 1, by omega⟩ : Fin 256).val / 2 := by
          show (128 * b.val + 2 * m.val) / 2 = (128 * b.val + 2 * m.val + 1) / 2
          omega
        exact hn ⟨128 * b.val + 2 * m.val + 1, by omega⟩ (by show 128 * b.val + 2 * m.val < 128 * b.val + 2 * m.val + 1; omega)
          ⟨(hXp _ _ hp).symm.trans hx, (hYp _ _ hp).symm.trans hy⟩
    · rw [if_neg hc, zero_mul]
      refine (Finset.sum_eq_zero fun m _ => if_neg ?_).symm
      rintro ⟨_, hx, hy⟩
      have := hX (k m)
      have := hY (k m)
      exact hc ⟨by omega, by omega, by omega, by omega⟩
  have hR : ∀ m : Fin 64, (∑ d : Fin 7, ∑ l : Fin 7, T m d l)
      = if A m then ∑ d : Fin 7, ∑ l : Fin 7, if X (k m) + d.val = r.val + 3 ∧ Y (k m) + l.val = c.val + 3 then f ⟨2 * m.val + 1, by omega⟩ * M (k m) * (K d * K l) else 0 else 0 := by
    intro m
    by_cases ha : A m
    · rw [if_pos ha, ← Equiv.sum_comp Fin.revPerm]
      refine Finset.sum_congr rfl fun d _ => ?_
      rw [← Equiv.sum_comp Fin.revPerm]
      refine Finset.sum_congr rfl fun l _ => ?_
      show (if A m ∧ X (k m) + 3 = r.val + (Fin.rev d).val ∧ Y (k m) + 3 = c.val + (Fin.rev l).val then _ * (K (Fin.rev d) * K (Fin.rev l)) else 0) = _
      rw [hr, hr]
      have e1 : (Fin.rev d).val + d.val = 6 := by rw [Fin.val_rev]; omega
      have e2 : (Fin.rev l).val + l.val = 6 := by rw [Fin.val_rev]; omega
      have hi : (A m ∧ X (k m) + 3 = r.val + (Fin.rev d).val ∧ Y (k m) + 3 = c.val + (Fin.rev l).val) ↔ (X (k m) + d.val = r.val + 3 ∧ Y (k m) + l.val = c.val + 3) :=
        ⟨fun h => ⟨by omega, by omega⟩, fun h => ⟨ha, by omega, by omega⟩⟩
      by_cases hq : X (k m) + d.val = r.val + 3 ∧ Y (k m) + l.val = c.val + 3
      · rw [if_pos hq, if_pos (hi.mpr hq)]
      · rw [if_neg hq, if_neg (fun h => hq (hi.mp h))]
    · rw [if_neg ha]
      exact Finset.sum_eq_zero fun d _ => Finset.sum_eq_zero fun l _ => if_neg fun h => ha h.1
  calc _ = ∑ d : Fin 7, ∑ l : Fin 7, ∑ m : Fin 64, T m d l := Finset.sum_congr rfl fun d _ => Finset.sum_congr rfl fun l _ => hL d l
    _ = ∑ m : Fin 64, ∑ d : Fin 7, ∑ l : Fin 7, T m d l := by
      rw [Finset.sum_congr rfl fun d _ => Finset.sum_comm, Finset.sum_comm]
    _ = _ := Finset.sum_congr rfl fun m _ => hR m

end Cert.Sky

end
-- ==== Proof.Algebraic.lean ====
/-
  The kernel and the reference end with the same image, over the reals.
-/
module

public import proofs.«01_k».proof.Defs
public import proofs.«01_k».proof.Proof.Operands
public import proofs.«01_k».proof.Proof.Pairs
public import proofs.«01_k».proof.Proof.Blur

@[expose] public section

noncomputable section

namespace Cert.Sky

open Cert.KernelIdeal Cert.KernelIdeal.Gen

open Idealize.ShloMosaic Idealize.ShloMosaic.Routing Idealize.ShloMosaic.StableHlo
open scoped BigOperators

/-- The one-axis index, in either spelling. -/
theorem ix128_eq (m : ℕ) (h : m < 128) : ix128 m = ix1 (⟨m, h⟩ : Fin 128) := by
  funext a
  have := Subsingleton.elim a 0
  subst this
  exact Fin.ext (Nat.mod_eq_of_lt h)

/-- The kernel's result with its two leading axes apart. -/
theorem image_apply (f : Vec Ideal S2x262144 .f32) (b : Fin 2) (r c : Fin 512) :
    shapeCast S2x1x512x512 f shapeCasts_S2x262144_S2x1x512x512 (ix4 b (0 : Fin 1) r c) = f (ix2 b (⟨r.val * 512 + c.val, by omega⟩ : Fin 262144)) := by
  pointwise

variable {V : VK Ideal} {R : VR Ideal}

/-- The key of the `m`-th odd star, as a number. -/
theorem key_toNat (X Y : IVec S256 32) (hX : ∀ p, (X (ix1 p)).toNat < 512) (hY : ∀ p, (Y (ix1 p)).toNat < 512) (m : ℕ) (hm : m < 128) :
    (keysOf X Y (ix128 m)).toNat = (X (ix1 (⟨2 * m + 1, by omega⟩ : Fin 256))).toNat * 512 + (Y (ix1 (⟨2 * m + 1, by omega⟩ : Fin 256))).toNat := by
  rw [ix128_eq m hm]
  refine (congrArg BitVec.toNat (keysOf_apply X Y ⟨m, hm⟩)).trans ?_
  have h1 := hX ⟨2 * m + 1, by omega⟩
  have h2 := hY ⟨2 * m + 1, by omega⟩
  rw [BitVec.toNat_add, BitVec.toNat_mul]
  show ((X (ix1 (⟨2 * m + 1, _⟩ : Fin 256))).toNat * 512 % 2 ^ 32 + (Y (ix1 (⟨2 * m + 1, _⟩ : Fin 256))).toNat) % 2 ^ 32 = _
  omega

/-- Two odd stars have the same key exactly when they are in the same row and the same column. -/
theorem key_eq_iff (X Y : IVec S256 32) (hX : ∀ p, (X (ix1 p)).toNat < 512) (hY : ∀ p, (Y (ix1 p)).toNat < 512) (m n : ℕ) (hm : m < 128) (hn : n < 128) :
    keysOf X Y (ix128 m) = keysOf X Y (ix128 n)
      ↔ (X (ix1 (⟨2 * m + 1, by omega⟩ : Fin 256))).toNat = (X (ix1 (⟨2 * n + 1, by omega⟩ : Fin 256))).toNat
        ∧ (Y (ix1 (⟨2 * m + 1, by omega⟩ : Fin 256))).toNat = (Y (ix1 (⟨2 * n + 1, by omega⟩ : Fin 256))).toNat := by
  have h1 := key_toNat X Y hX hY m hm
  have h2 := key_toNat X Y hX hY n hn
  have a1 := hX ⟨2 * m + 1, by omega⟩
  have a2 := hY ⟨2 * m + 1, by omega⟩
  have a3 := hX ⟨2 * n + 1, by omega⟩
  have a4 := hY ⟨2 * n + 1, by omega⟩
  constructor
  · intro h
    rw [h] at h1
    constructor <;> omega
  · rintro ⟨h, h'⟩
    exact BitVec.eq_of_toNat_eq (by omega)

/-- What one odd star adds at an element of its image, in the reference's terms. -/
theorem liveAdd_apply (X Y : IVec S256 32) (hX : ∀ p, (X (ix1 p)).toNat < 512) (hY : ∀ p, (Y (ix1 p)).toNat < 512)
    (W : FVec Ideal S2x128x1x1 .f32) (M : FVec Ideal S256 .f32) (K : FVec Ideal S7 .f32) (b : Fin 2) (m : Fin 64) (r c : ℕ) :
    liveAdd (keysOf X Y) (weightsOf W M) (patchOf K) r c (64 * b.val + m.val)
      = open Classical in if ∀ (m' : ℕ) (h : m' < 128), 64 * b.val + m.val < m' →
          ¬ ((X (ix1 (⟨2 * m' + 1, by omega⟩ : Fin 256))).toNat = (X (ix1 (⟨2 * (64 * b.val + m.val) + 1, by omega⟩ : Fin 256))).toNat
            ∧ (Y (ix1 (⟨2 * m' + 1, by omega⟩ : Fin 256))).toNat = (Y (ix1 (⟨2 * (64 * b.val + m.val) + 1, by omega⟩ : Fin 256))).toNat)
        then ∑ d : Fin 7, ∑ l : Fin 7, if (X (ix1 (⟨2 * (64 * b.val + m.val) + 1, by omega⟩ : Fin 256))).toNat + d.val = r + 3
            ∧ (Y (ix1 (⟨2 * (64 * b.val + m.val) + 1, by omega⟩ : Fin 256))).toNat + l.val = c + 3
          then W (ix4 b (⟨2 * m.val + 1, by omega⟩ : Fin 128) (0 : Fin 1) (0 : Fin 1)) * M (ix1 (⟨2 * (64 * b.val + m.val) + 1, by omega⟩ : Fin 256))
            * (K (ix1 d) * K (ix1 l)) else 0
        else 0 := by
  classical
  have hn : 64 * b.val + m.val < 128 := by omega
  have hk := key_toNat X Y hX hY _ hn
  have a1 := hX ⟨2 * (64 * b.val + m.val) + 1, by omega⟩
  have a2 := hY ⟨2 * (64 * b.val + m.val) + 1, by omega⟩
  have hlive : (∀ m', 64 * b.val + m.val < m' → m' < 128 → keysOf X Y (ix128 m') ≠ keysOf X Y (ix128 (64 * b.val + m.val)))
      ↔ ∀ (m' : ℕ) (h : m' < 128), 64 * b.val + m.val < m' →
          ¬ ((X (ix1 (⟨2 * m' + 1, by omega⟩ : Fin 256))).toNat = (X (ix1 (⟨2 * (64 * b.val + m.val) + 1, by omega⟩ : Fin 256))).toNat
            ∧ (Y (ix1 (⟨2 * m' + 1, by omega⟩ : Fin 256))).toNat = (Y (ix1 (⟨2 * (64 * b.val + m.val) + 1, by omega⟩ : Fin 256))).toNat) :=
    ⟨fun h m' h1 h2 e => h m' h2 h1 ((key_eq_iff X Y hX hY _ _ h1 hn).mpr e), fun h m' h2 h1 e => h m' h1 h2 ((key_eq_iff X Y hX hY _ _ h1 hn).mp e)⟩
  unfold liveAdd
  by_cases hl : ∀ m', 64 * b.val + m.val < m' → m' < 128 → keysOf X Y (ix128 m') ≠ keysOf X Y (ix128 (64 * b.val + m.val))
  · rw [if_pos hl, if_pos (hlive.mp hl)]
    unfold starAdd
    refine Finset.sum_congr rfl fun d _ => Finset.sum_congr rfl fun l _ => ?_
    have e1 : rowN (keysOf X Y (ix128 (64 * b.val + m.val))) = (X (ix1 (⟨2 * (64 * b.val + m.val) + 1, by omega⟩ : Fin 256))).toNat := by
      unfold rowN; rw [hk]; omega
    have e2 : colN (keysOf X Y (ix128 (64 * b.val + m.val))) = (Y (ix1 (⟨2 * (64 * b.val + m.val) + 1, by omega⟩ : Fin 256))).toNat := by
      unfold colN; rw [hk]; omega
    have e3 : weightsOf W M (ix128 (64 * b.val + m.val)) = W (ix4 b (⟨2 * m.val + 1, by omega⟩ : Fin 128) (0 : Fin 1) (0 : Fin 1))
        * M (ix1 (⟨2 * (64 * b.val + m.val) + 1, by omega⟩ : Fin 256)) := by
      rw [ix128_eq _ hn]; exact weightsOf_apply W M b m
    have e4 : patchOf K (fun a => ⟨16 * d.val + l.val, by have := Subsingleton.elim a 0; subst this; have := d.isLt; have := l.isLt; show _ < 112; omega⟩)
        = K (ix1 d) * K (ix1 l) := by
      refine Eq.trans (congrArg (patchOf K) ?_) (patchOf_apply K d l)
      funext a
      have := Subsingleton.elim a 0
      subst this
      rfl
    rw [e1, e2, e3, e4]
  · rw [if_neg hl, if_neg (fun h => hl (hlive.mpr h))]

/-- The kernel's result at an element: the sum of what the 64 odd stars of its image add. -/
theorem outV_apply (A : Ops Ideal) (hk : ∀ n, (A.kk (ix128 n)).toNat < 2 ^ 18) (hz : ∀ x, A.zz x = (0 : EReal)) (b : Fin 2) (r c : Fin 512) :
    outV A (ix2 b (⟨r.val * 512 + c.val, by omega⟩ : Fin 262144)) = ∑ m : Fin 64, liveAdd A.kk A.ff A.gg r.val c.val (64 * b.val + m.val) := by
  have hr : ∀ q, q + 64 ≤ 128 → starsVal (tileOf (ix2 b (⟨r.val * 512 + c.val, by omega⟩ : Fin 262144))) A.kk A.ff A.gg q A.zz 64
      (posOf (ix2 b (⟨r.val * 512 + c.val, by omega⟩ : Fin 262144))) = ∑ m : Fin 64, liveAdd A.kk A.ff A.gg r.val c.val (q + m.val) := by
    intro q hq
    rw [starsVal_apply _ _ _ _ hk q 64 hq, hz, zero_add, Finset.sum_range]
    have e1 : (((tileOf (ix2 b (⟨r.val * 512 + c.val, by omega⟩ : Fin 262144))) 1).val + ((tileOf (ix2 b (⟨r.val * 512 + c.val, by omega⟩ : Fin 262144))) 0).val * 16) * 32
        + ((posOf (ix2 b (⟨r.val * 512 + c.val, by omega⟩ : Fin 262144))) 0).val / 512 = r.val := by
      show ((r.val * 512 + c.val) / 16384 + 0 * 16) * 32 + (r.val * 512 + c.val) % 16384 / 512 = r.val
      omega
    have e2 : ((posOf (ix2 b (⟨r.val * 512 + c.val, by omega⟩ : Fin 262144))) 0).val % 512 = c.val := by
      show (r.val * 512 + c.val) % 16384 % 512 = c.val
      omega
    rw [e1, e2]
  unfold outV
  by_cases hb : b.val = 0
  · refine (if_pos hb).trans ?_
    rw [hr 0 (by norm_num), hb]
  · refine (if_neg hb).trans ?_
    have : b.val = 1 := by omega
    rw [hr 64 (by norm_num), this]

/-- The kernel's image is the reference's. -/
theorem image_eq (h : Agree V R) : shapeCast S2x1x512x512 (outV (opsAt V)) shapeCasts_S2x262144_S2x1x512x512 = skyR R := by
  have hX := rowX_lt R
  have hY := colY_lt R
  funext y
  obtain ⟨b, z, r, c, rfl⟩ : ∃ (b : Fin 2) (z : Fin 1) (r c : Fin 512), y = ix4 b z r c := ⟨y 0, y 1, y 2, y 3, by
    funext a; match a with | 0 => rfl | 1 => rfl | 2 => rfl | 3 => rfl⟩
  obtain rfl : z = 0 := Subsingleton.elim _ _
  refine (image_apply _ b r c).trans ?_
  have hk : ∀ n, ((opsAt V).kk (ix128 n)).toNat < 2 ^ 18 := by
    intro n
    have e : ix128 n = ix128 (n % 128) := by
      funext a
      exact Fin.ext (Nat.mod_mod n 128).symm
    rw [e, ops_kk h, key_toNat _ _ hX hY _ (Nat.mod_lt n (by norm_num))]
    have := hX ⟨2 * (n % 128) + 1, by omega⟩
    have := hY ⟨2 * (n % 128) + 1, by omega⟩
    omega
  rw [outV_apply _ hk ops_zz b r c, ops_kk h, ops_ff h, ops_gg (R := R)]
  refine Eq.trans ?_ (ref_apply R hX hY b r c).symm
  refine Eq.trans ?_ (Eq.trans (blur_sum (fun p => (rowX R (ix1 p)).toNat) (fun p => (colY R (ix1 p)).toNat) hX hY
    (fun p q e => congrArg BitVec.toNat (rowX_pair R p q e)) (fun p q e => congrArg BitVec.toNat (colY_pair R p q e))
    (fun n => filtW R (ix4 b n (0 : Fin 1) (0 : Fin 1))) (fun p => magM R (ix1 p)) (fun d => blurK R (ix1 d))
    (blurK_nonneg R) (blurK_ne_top R) (blurK_rev R) b r c).symm ?_)
  · exact Finset.sum_congr rfl fun m _ => liveAdd_apply _ _ hX hY _ _ _ b m r.val c.val
  · refine Finset.sum_congr rfl fun d _ => Finset.sum_congr rfl fun l _ => ?_
    refine congrArg (· * _) ?_
    by_cases hc : 3 ≤ r.val + d.val ∧ r.val + d.val < 515 ∧ 3 ≤ c.val + l.val ∧ c.val + l.val < 515
    · rw [if_pos hc, dif_pos hc]
      exact Finset.sum_congr rfl fun n _ => congrArg (_ * ·) (@if_congr _ _ _ (_) (_) _ _ _ _ Iff.rfl rfl rfl)
    · rw [if_neg hc, dif_neg hc]

/-- The kernel and the reference, started from the same arguments, end with the same image and their arguments unchanged. -/
theorem algebraic : Cert.algebraic_KernelIdeal_ReferenceIdeal := by
  intro m g m' g' _ hargs
  refine ⟨fun c => shapeCast S2x1x512x512 (outV (opsAt (launchContents m c))) shapeCasts_S2x262144_S2x1x512x512, ?_, ?_⟩
  · exact (θ_run Cert.KernelIdeal.defs _ _).mono (fun _ h c => h.1 c) (run_value m g)
  · refine (θ_run Cert.ReferenceIdeal.defs _ _).mono (fun _ h c => ⟨?_, (h c).2⟩) (Cert.ReferenceIdeal.Value.run (F := Ideal) m' g')
    have ha : Agree (launchContents m c) (launchContents m' c) := ⟨(hargs c).1.symm, (hargs c).2.1.symm, (hargs c).2.2.1.symm, (hargs c).2.2.2.symm⟩
    refine ((h c).1.trans (Cert.ReferenceIdeal.Value.val6_main_v284 (launchContents m' c)).symm).trans ?_
    exact (image_eq ha).symm

end Cert.Sky

end
-- ==== Proof.lean ====
/-
  The claim: the kernel's frame over the machine's floats and over the reals, the reference's frame, that idealizing the
  kernel keeps its operations, and that over the reals the kernel and the reference end with the same image.
-/
module

public import proofs.«01_k».proof.Defs
public import proofs.«01_k».proof.Proof.Main
public import proofs.«01_k».proof.Proof.Algebraic
public import proofs.«01_k».proof.Proof.Gen.Kernel
public import proofs.«01_k».proof.Proof.Gen.KernelIdeal
public import proofs.«01_k».proof.Proof.Gen.ReferenceIdeal.Run

@[expose] public section

noncomputable section

namespace Cert.Proof

open Idealize.ShloMosaic Idealize.SL.Sem

/-- The reference over the reals ends with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Sky.frame_kernel, Cert.Sky.frame_kernelIdeal,
    frame_reference, trivial, Cert.Sky.algebraic⟩

end Cert.Proof

end
